-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_activations [hPre_finite_activations : Cert.Pre_finite_activations.Facts] (m : (ℓ : Loc Cert.KernelIdeal.nD Cert.KernelIdeal.τ Cert.KernelIdeal.sig) → Buf (Elt Ideal) ℓ) : Prop :=
  ∀ c : Dev Cert.KernelIdeal.nD,
    (Cert.Pre_finite_activations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_activations [hPre_finite_activations : Cert.Pre_finite_activations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_activations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_activations [hKernelIdeal : Cert.KernelIdeal.Facts] [hPre_finite_activations : Cert.Pre_finite_activations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_activations m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_activations [hReferenceIdeal : Cert.ReferenceIdeal.Facts] [hPre_finite_activations : Cert.Pre_finite_activations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_activations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_activations [hKernelIdeal : Cert.KernelIdeal.Facts] [hReferenceIdeal : Cert.ReferenceIdeal.Facts] [hPre_finite_activations : Cert.Pre_finite_activations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_activations m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_activations : Cert.Pre_finite_activations.Facts),
    quiescent_Kernel (hKernel := hKernel)
    ∧ quiescent_KernelIdeal (hKernelIdeal := hKernelIdeal)
    ∧ quiescent_KernelIdeal_pre_finite_activations (hKernelIdeal := hKernelIdeal) (hPre_finite_activations := hPre_finite_activations)
    ∧ quiescent_ReferenceIdeal (hReferenceIdeal := hReferenceIdeal)
    ∧ quiescent_ReferenceIdeal_pre_finite_activations (hReferenceIdeal := hReferenceIdeal) (hPre_finite_activations := hPre_finite_activations)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_activations (hKernelIdeal := hKernelIdeal) (hReferenceIdeal := hReferenceIdeal) (hPre_finite_activations := hPre_finite_activations)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_activations.lean ====
abbrev S16384x8192 : Shape := ⟨2, ![16384, 8192]⟩
abbrev S1x4 : Shape := ⟨2, ![1, 4]⟩
abbrev S1x2048 : Shape := ⟨2, ![1, 2048]⟩
abbrev S16384x4096 : Shape := ⟨2, ![16384, 4096]⟩
abbrev S_ : Shape := ⟨0, ![]⟩

class Facts : Prop where
  slices_S16384x8192_S16384x4096_0_0 : S16384x8192.Slices ![0, 0] S16384x4096
  bitsLt_bf16_f32 : FTy.bits .bf16 < FTy.bits .f32
  bcast_S_S16384x4096 : S_.BroadcastsInDim S16384x4096 (![] : Fin 0 → Fin S16384x4096.rank)

variable [Facts]

def fn {F : FTy → Type} [FloatOps F] (main_arg0 : FVec F S16384x8192 .bf16) (main_arg1 : FVec F S1x4 .f32) (main_arg2 : FVec F S1x4 .f32) (main_arg3 : FVec F S1x2048 .f32) : IVec S16384x4096 1 :=
  let main_v0 : FVec F S16384x4096 .bf16 := (extractStridedSlice S16384x4096 ![0, 0] · slices_S16384x8192_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  main_v4
-- ==== Kernel.lean ====
abbrev S16384x8192 : Shape := ⟨2, ![16384, 8192]⟩
abbrev S1x4 : Shape := ⟨2, ![1, 4]⟩
abbrev S1x2048 : Shape := ⟨2, ![1, 2048]⟩
abbrev S4 : Shape := ⟨1, ![4]⟩
abbrev S8 : Shape := ⟨1, ![8]⟩
abbrev S2048 : Shape := ⟨1, ![2048]⟩
abbrev S4x4096x8192 : Shape := ⟨3, ![4, 4096, 8192]⟩
abbrev S4x4096x2048 : Shape := ⟨3, ![4, 4096, 2048]⟩
abbrev S1x2048x1024 : Shape := ⟨3, ![1, 2048, 1024]⟩
abbrev S1x2048x512 : Shape := ⟨3, ![1, 2048, 512]⟩
abbrev S1x512 : Shape := ⟨2, ![1, 512]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S1x1 : Shape := ⟨2, ![1, 1]⟩
abbrev S1 : Shape := ⟨1, ![1]⟩
abbrev S1x256x256 : Shape := ⟨3, ![1, 256, 256]⟩
abbrev S1x256x512 : Shape := ⟨3, ![1, 256, 512]⟩
abbrev S256 : Shape := ⟨1, ![256]⟩
abbrev S256x1 : Shape := ⟨2, ![256, 1]⟩

abbrev nBuf : Space → Nat
  | .hbm => 11
  | .vmem => 13
  | .smem => 1
  | _ => 0

abbrev bufTy : (tb : Table) → Fin (tcTables nBuf tb) → BufTy
  | .hbm, ⟨0, _⟩ => ⟨S16384x8192, .bf16⟩
  | .hbm, ⟨1, _⟩ => ⟨S1x4, .f32⟩
  | .hbm, ⟨2, _⟩ => ⟨S1x4, .f32⟩
  | .hbm, ⟨3, _⟩ => ⟨S1x2048, .f32⟩
  | .hbm, ⟨4, _⟩ => ⟨S4, .f32⟩
  | .hbm, ⟨5, _⟩ => ⟨S4, .f32⟩
  | .hbm, ⟨6, _⟩ => ⟨S8, .f32⟩
  | .hbm, ⟨7, _⟩ => ⟨S2048, .f32⟩
  | .hbm, ⟨8, _⟩ => ⟨S1x2048, .f32⟩
  | .hbm, ⟨9, _⟩ => ⟨S4x4096x8192, .bf16⟩
  | .hbm, ⟨10, _⟩ => ⟨S4x4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S256x512, .f32⟩
  | .local _ .vmem, ⟨9, _⟩ => ⟨S4096x512, .f32⟩
  | .local _ .vmem, ⟨10, _⟩ => ⟨S256x256, .f32⟩
  | .local _ .vmem, ⟨11, _⟩ => ⟨S256x128, .f32⟩
  | .local _ .vmem, ⟨12, _⟩ => ⟨S256x128, .f32⟩
  | .local _ .smem, ⟨0, _⟩ => ⟨S8, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c2_i32_1 : BitVec 32 := 2#32
  let v5 : BitVec 1 := Scalar.cmpi .slt arg2 c2_i32_1
  let v6 : BitVec 32 := Scalar.extui v5
  let c0_i32_2 : BitVec 32 := 0#32
  let v7 : BitVec 1 := Scalar.cmpi .ne v6 c0_i32_2
  v7

def k0_off1 (i : grid0.Coords) : Fin 1 → Nat :=
  let c4_i32 : BitVec 32 := 4#32
  let arg1 : BitVec 32 := BitVec.ofNat 32 (i 1).val
  let v12 : BitVec 32 := Scalar.addi c4_i32 arg1
  let v13 : Index := Scalar.indexCast v12
  ![v13.toNat]
def k0_mult1 (i : grid0.Coords) : BitVec 32 :=
  let c1_i32 : BitVec 32 := 1#32
  let arg2 : BitVec 32 := BitVec.ofNat 32 (i 2).val
  let v30 : BitVec 32 := Scalar.subi c1_i32 arg2
  let c2048_i32 : BitVec 32 := 2048#32
  let v31 : BitVec 32 := Scalar.muli v30 c2048_i32
  v31
def k0_off2 (i : grid0.Coords) (c1792_i32 : BitVec 32) : Fin 2 → Nat :=
  let c1_i32 : BitVec 32 := 1#32
  let arg2 : BitVec 32 := BitVec.ofNat 32 (i 2).val
  let v30 : BitVec 32 := Scalar.subi c1_i32 arg2
  let c2048_i32 : BitVec 32 := 2048#32
  let v31 : BitVec 32 := Scalar.muli v30 c2048_i32
  let v32 : BitVec 32 := v31
  let v84 : BitVec 32 := Scalar.addi v32 c1792_i32
  let v85 : Index := Scalar.indexCast v84
  let c0_47 : Index := 0#32
  ![v85.toNat, 0]
def k0_cond4 (i : grid0.Coords) : BitVec 1 :=
  let arg2 : BitVec 32 := BitVec.ofNat 32 (i 2).val
  let c2_i32_3 : BitVec 32 := 2#32
  let v8 : BitVec 1 := Scalar.cmpi .sge arg2 c2_i32_3
  let v9 : BitVec 32 := Scalar.extui v8
  let c0_i32_4 : BitVec 32 := 0#32
  let v10 : BitVec 1 := Scalar.cmpi .ne v9 c0_i32_4
  v10

def k0_off3 (i : grid0.Coords) : Fin 1 → Nat :=
  let arg1 : BitVec 32 := BitVec.ofNat 32 (i 1).val
  let v12 : Index := Scalar.indexCast arg1
  ![v12.toNat]
def k0_mult2 (i : grid0.Coords) : BitVec 32 :=
  let arg2 : BitVec 32 := BitVec.ofNat 32 (i 2).val
  let c2_i32_10 : BitVec 32 := 2#32
  let v29 : BitVec 32 := Scalar.subi arg2 c2_i32_10
  let c2048_i32 : BitVec 32 := 2048#32
  let v30 : BitVec 32 := Scalar.muli v29 c2048_i32
  v30
def k0_off4 (i : grid0.Coords) (c0_i32_50 : BitVec 32) : Fin 2 → Nat :=
  let arg2 : BitVec 32 := BitVec.ofNat 32 (i 2).val
  let c2_i32_10 : BitVec 32 := 2#32
  let v29 : BitVec 32 := Scalar.subi arg2 c2_i32_10
  let c2048_i32 : BitVec 32 := 2048#32
  let v30 : BitVec 32 := Scalar.muli v29 c2048_i32
  let v31 : BitVec 32 := v30
  let v83 : BitVec 32 := Scalar.addi v31 c0_i32_50
  let v84 : Index := Scalar.indexCast v83
  let c0_51 : Index := 0#32
  ![v84.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let v3 : BitVec 32 := Scalar.select v0 v1 v2
  let c0_i32 : BitVec 32 := 0#32
  ![arg0.toNat, v3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c8_i32 : BitVec 32 := 8#32
  let v2 : BitVec 32 := Scalar.addi c8_i32 arg1
  let c0_i32_0 : BitVec 32 := 0#32
  ![arg0.toNat, v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x8192 : Shape := ⟨2, ![16384, 8192]⟩
abbrev S1x4 : Shape := ⟨2, ![1, 4]⟩
abbrev S1x2048 : Shape := ⟨2, ![1, 2048]⟩
abbrev S4x4096x8192 : Shape := ⟨3, ![4, 4096, 8192]⟩
abbrev S4x4096x4096 : Shape := ⟨3, ![4, 4096, 4096]⟩
abbrev S4x4096x4x1024 : Shape := ⟨4, ![4, 4096, 4, 1024]⟩
abbrev S4x4096x4x256 : Shape := ⟨4, ![4, 4096, 4, 256]⟩
abbrev S4x4096x1024 : Shape := ⟨3, ![4, 4096, 1024]⟩
abbrev S4x4096x4x512 : Shape := ⟨4, ![4, 4096, 4, 512]⟩
abbrev S4x4096x2048 : Shape := ⟨3, ![4, 4096, 2048]⟩
abbrev S4x4x4096x256 : Shape := ⟨4, ![4, 4, 4096, 256]⟩
abbrev S_ : Shape := ⟨0, ![]⟩
abbrev S4x4x4096x512 : Shape := ⟨4, ![4, 4, 4096, 512]⟩
abbrev S4 : Shape := ⟨1, ![4]⟩
abbrev S8 : Shape := ⟨1, ![8]⟩
abbrev S4x8x4096x256 : Shape := ⟨4, ![4, 8, 4096, 256]⟩
abbrev S4x8x4096x512 : Shape := ⟨4, ![4, 8, 4096, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S4x8x256x512 : Shape := ⟨4, ![4, 8, 256, 512]⟩
abbrev S4x8x32x128x256 : Shape := ⟨5, ![4, 8, 32, 128, 256]⟩
abbrev S32x4x8x128x256 : Shape := ⟨5, ![32, 4, 8, 128, 256]⟩
abbrev S4x8x32x128x512 : Shape := ⟨5, ![4, 8, 32, 128, 512]⟩
abbrev S32x4x8x128x512 : Shape := ⟨5, ![32, 4, 8, 128, 512]⟩
abbrev S1x4x8x128x256 : Shape := ⟨5, ![1, 4, 8, 128, 256]⟩
abbrev S4x8x128x256 : Shape := ⟨4, ![4, 8, 128, 256]⟩
abbrev S1x4x8x128x512 : Shape := ⟨5, ![1, 4, 8, 128, 512]⟩
abbrev S4x8x128x512 : Shape := ⟨4, ![4, 8, 128, 512]⟩
abbrev S4x8x128x128 : Shape := ⟨4, ![4, 8, 128, 128]⟩
abbrev S1x8x128x128 : Shape := ⟨4, ![1, 8, 128, 128]⟩
abbrev S4x4x4096 : Shape := ⟨3, ![4, 4, 4096]⟩
abbrev S4x4x4096x1 : Shape := ⟨4, ![4, 4, 4096, 1]⟩
abbrev S2048 : Shape := ⟨1, ![2048]⟩
abbrev S1x1x2048 : Shape := ⟨3, ![1, 1, 2048]⟩

abbrev nBuf : Space → Nat
  | .hbm => 215
  | .vmem => 0
  | .smem => 0
  | _ => 0

abbrev hbmTy0_0 (i : Nat) : BufTy := match i % 128 with
  | 0 => ⟨S16384x8192, .bf16⟩
  | 1 => ⟨S1x4, .f32⟩
  | 2 => ⟨S1x4, .f32⟩
  | 3 => ⟨S1x2048, .f32⟩
  | 4 => ⟨S16384x8192, .f32⟩
  | 5 => ⟨S4x4096x8192, .f32⟩
  | 6 => ⟨S4x4096x4096, .f32⟩
  | 7 => ⟨S4x4096x4x1024, .f32⟩
  | 8 => ⟨S4x4096x4x256, .f32⟩
  | 9 => ⟨S4x4096x1024, .f32⟩
  | 10 => ⟨S4x4096x4x256, .f32⟩
  | 11 => ⟨S4x4096x1024, .f32⟩
  | 12 => ⟨S4x4096x4x512, .f32⟩
  | 13 => ⟨S4x4096x2048, .f32⟩
  | 14 => ⟨S4x4096x4x256, .f32⟩
  | 15 => ⟨S4x4x4096x256, .f32⟩
  | 16 => ⟨S4x4096x4x256, .f32⟩
  | 17 => ⟨S4x4x4096x256, .f32⟩
  | 18 => ⟨S_, .f32⟩
  | 19 => ⟨S4x4x4096x256, .f32⟩
  | 20 => ⟨S4x4x4096x256, .f32⟩
  | 21 => ⟨S4x4096x4x512, .f32⟩
  | 22 => ⟨S4x4x4096x512, .f32⟩
  | 23 => ⟨S4, .f32⟩
  | 24 => ⟨S4, .f32⟩
  | 25 => ⟨S8, .f32⟩
  | 26 => ⟨S8, .f32⟩
  | 27 => ⟨S_, .f32⟩
  | 28 => ⟨S8, .f32⟩
  | 29 => ⟨S8, .f32⟩
  | 30 => ⟨S8, .f32⟩
  | 31 => ⟨S8, .f32⟩
  | 32 => ⟨S8, .i1⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S8, .f32⟩
  | 42 => ⟨S_, .f32⟩
  | 43 => ⟨S4, .f32⟩
  | 44 => ⟨S_, .f32⟩
  | 45 => ⟨S4, .f32⟩
  | 46 => ⟨S8, .f32⟩
  | 47 => ⟨S4x4x4096x256, .f32⟩
  | 48 => ⟨S4x8x4096x256, .f32⟩
  | 49 => ⟨S4x4x4096x256, .f32⟩
  | 50 => ⟨S4x8x4096x256, .f32⟩
  | 51 => ⟨S4x4x4096x512, .f32⟩
  | 52 => ⟨S4x8x4096x512, .f32⟩
  | 53 => ⟨S128, .f32⟩
  | 54 => ⟨S128x1, .f32⟩
  | 55 => ⟨S1x128, .f32⟩
  | 56 => ⟨S128x128, .f32⟩
  | 57 => ⟨S128x128, .f32⟩
  | 58 => ⟨S128x128, .f32⟩
  | 59 => ⟨S1x128x128, .f32⟩
  | 60 => ⟨S8x1x1, .f32⟩
  | 61 => ⟨S8x128x128, .f32⟩
  | 62 => ⟨S8x128x128, .f32⟩
  | 63 => ⟨S8x128x128, .i1⟩
  | 64 => ⟨S8x1x1, .f32⟩
  | 65 => ⟨S_, .f32⟩
  | 66 => ⟨S128x128, .f32⟩
  | 67 => ⟨S128x128, .f32⟩
  | 68 => ⟨S1x128x128, .f32⟩
  | 69 => ⟨S8x128x128, .f32⟩
  | 70 => ⟨S8x128x128, .f32⟩
  | 71 => ⟨S8x128x128, .f32⟩
  | 72 => ⟨S8x128x128, .f32⟩
  | 73 => ⟨S_, .f32⟩
  | 74 => ⟨S_, .f32⟩
  | 75 => ⟨S8x128x128, .f32⟩
  | 76 => ⟨S8x128x128, .f32⟩
  | 77 => ⟨S8x1, .f32⟩
  | 78 => ⟨S_, .f32⟩
  | 79 => ⟨S128, .f32⟩
  | 80 => ⟨S128, .f32⟩
  | 81 => ⟨S1x128, .f32⟩
  | 82 => ⟨S8x128, .f32⟩
  | 83 => ⟨S8x128, .f32⟩
  | 84 => ⟨S8x128, .f32⟩
  | 85 => ⟨S8x128, .f32⟩
  | 86 => ⟨S1x8x128x1, .f32⟩
  | 87 => ⟨S8x1, .f32⟩
  | 88 => ⟨S_, .f32⟩
  | 89 => ⟨S128, .f32⟩
  | 90 => ⟨S128, .f32⟩
  | 91 => ⟨S1x128, .f32⟩
  | 92 => ⟨S8x128, .f32⟩
  | 93 => ⟨S8x128, .f32⟩
  | 94 => ⟨S8x128, .f32⟩
  | 95 => ⟨S8x128, .f32⟩
  | 96 => ⟨S1x8x128x1, .f32⟩
  | 97 => ⟨S_, .f32⟩
  | 98 => ⟨S8, .f32⟩
  | 99 => ⟨S8, .f32⟩
  | 100 => ⟨S8, .f32⟩
  | 101 => ⟨S1x8x1x1, .f32⟩
  | 102 => ⟨S_, .f32⟩
  | 103 => ⟨S4x8x256x512, .f32⟩
  | 104 => ⟨S4x8x32x128x256, .f32⟩
  | 105 => ⟨S32x4x8x128x256, .f32⟩
  | 106 => ⟨S4x8x32x128x256, .f32⟩
  | 107 => ⟨S32x4x8x128x256, .f32⟩
  | 108 => ⟨S4x8x32x128x512, .f32⟩
  | 109 => ⟨S32x4x8x128x512, .f32⟩
  | 110 => ⟨S_, .f32⟩
  | 111 => ⟨S32x4x8x128x512, .f32⟩
  | 112 => ⟨S_, .i32⟩
  | 113 => ⟨S32x4x8x128x256, .f32⟩
  | 114 => ⟨S32x4x8x128x256, .f32⟩
  | 115 => ⟨S32x4x8x128x512, .f32⟩
  | 116 => ⟨S8x128x128, .f32⟩
  | 117 => ⟨S1x8x128x1, .f32⟩
  | 118 => ⟨S1x8x1x1, .f32⟩
  | 119 => ⟨S1x8x128x1, .f32⟩
  | 120 => ⟨S_, .i32⟩
  | 121 => ⟨S4x8x256x512, .f32⟩
  | 122 => ⟨S32x4x8x128x512, .f32⟩
  | 123 => ⟨S_, .i32⟩
  | 124 => ⟨S_, .i1⟩
  | 125 => ⟨S_, .i32⟩
  | 126 => ⟨S_, .i32⟩
  | 127 => ⟨S_, .i32⟩
  | _ => ⟨S16384x8192, .bf16⟩

abbrev hbmTy0_1 (i : Nat) : BufTy := match i % 128 with
  | 0 => ⟨S_, .i32⟩
  | 1 => ⟨S1x4x8x128x256, .f32⟩
  | 2 => ⟨S4x8x128x256, .f32⟩
  | 3 => ⟨S_, .i32⟩
  | 4 => ⟨S_, .i32⟩
  | 5 => ⟨S_, .i32⟩
  | 6 => ⟨S_, .i32⟩
  | 7 => ⟨S1x4x8x128x256, .f32⟩
  | 8 => ⟨S4x8x128x256, .f32⟩
  | 9 => ⟨S_, .i32⟩
  | 10 => ⟨S_, .i32⟩
  | 11 => ⟨S_, .i32⟩
  | 12 => ⟨S_, .i32⟩
  | 13 => ⟨S1x4x8x128x512, .f32⟩
  | 14 => ⟨S4x8x128x512, .f32⟩
  | 15 => ⟨S4x8x128x128, .f32⟩
  | 16 => ⟨S1x8x128x128, .f32⟩
  | 17 => ⟨S4x8x128x128, .f32⟩
  | 18 => ⟨S4x8x128x128, .f32⟩
  | 19 => ⟨S4x8x128x512, .f32⟩
  | 20 => ⟨S4x8x128x512, .f32⟩
  | 21 => ⟨S4x8x128x512, .f32⟩
  | 22 => ⟨S4x8x128x512, .f32⟩
  | 23 => ⟨S4x8x128x512, .f32⟩
  | 24 => ⟨S4x8x256x512, .f32⟩
  | 25 => ⟨S4x8x256x512, .f32⟩
  | 26 => ⟨S4x8x128x256, .f32⟩
  | 27 => ⟨S4x8x128x256, .f32⟩
  | 28 => ⟨S4x8x256x512, .f32⟩
  | 29 => ⟨S4x8x256x512, .f32⟩
  | 30 => ⟨S1x4x8x128x512, .f32⟩
  | 31 => ⟨S_, .i32⟩
  | 32 => ⟨S_, .i32⟩
  | 33 => ⟨S_, .i32⟩
  | 34 => ⟨S_, .i32⟩
  | 35 => ⟨S32x4x8x128x512, .f32⟩
  | 36 => ⟨S_, .i32⟩
  | 37 => ⟨S_, .i32⟩
  | 38 => ⟨S4x8x32x128x512, .f32⟩
  | 39 => ⟨S4x8x4096x512, .f32⟩
  | 40 => ⟨S4x4x4096x512, .f32⟩
  | 41 => ⟨S4x4x4096x512, .f32⟩
  | 42 => ⟨S4x4x4096x512, .f32⟩
  | 43 => ⟨S4x4x4096x512, .f32⟩
  | 44 => ⟨S16384x8192, .f32⟩
  | 45 => ⟨S4x4096x8192, .f32⟩
  | 46 => ⟨S4x4096x2048, .f32⟩
  | 47 => ⟨S_, .f32⟩
  | 48 => ⟨S4x4x4096, .f32⟩
  | 49 => ⟨S4x4x4096x1, .f32⟩
  | 50 => ⟨S_, .f32⟩
  | 51 => ⟨S4x4x4096x1, .f32⟩
  | 52 => ⟨S4x4x4096x1, .f32⟩
  | 53 => ⟨S4x4x4096x512, .f32⟩
  | 54 => ⟨S4x4x4096x512, .f32⟩
  | 55 => ⟨S4x4x4096x512, .f32⟩
  | 56 => ⟨S_, .f32⟩
  | 57 => ⟨S4x4x4096, .f32⟩
  | 58 => ⟨S4x4x4096x1, .f32⟩
  | 59 => ⟨S_, .f32⟩
  | 60 => ⟨S4x4x4096x1, .f32⟩
  | 61 => ⟨S4x4x4096x1, .f32⟩
  | 62 => ⟨S4x4x4096x512, .f32⟩
  | 63 => ⟨S4x4x4096x512, .f32⟩
  | 64 => ⟨S_, .f32⟩
  | 65 => ⟨S4x4x4096x1, .f32⟩
  | 66 => ⟨S4x4x4096x1, .f32⟩
  | 67 => ⟨S4x4x4096x1, .f32⟩
  | 68 => ⟨S4x4x4096x512, .f32⟩
  | 69 => ⟨S4x4x4096x512, .f32⟩
  | 70 => ⟨S4x4096x4x512, .f32⟩
  | 71 => ⟨S4x4096x2048, .f32⟩
  | 72 => ⟨S2048, .f32⟩
  | 73 => ⟨S1x1x2048, .f32⟩
  | 74 => ⟨S4x4096x2048, .f32⟩
  | 75 => ⟨S4x4096x2048, .f32⟩
  | 76 => ⟨S4x4096x2048, .f32⟩
  | 77 => ⟨S4x4096x2048, .f32⟩
  | 78 => ⟨S_, .f32⟩
  | 79 => ⟨S4x4096x2048, .f32⟩
  | 80 => ⟨S4x4096x2048, .f32⟩
  | 81 => ⟨S_, .f32⟩
  | 82 => ⟨S4x4096x2048, .f32⟩
  | 83 => ⟨S4x4096x2048, .f32⟩
  | 84 => ⟨S4x4096x2048, .f32⟩
  | 85 => ⟨S4x4096x2048, .f32⟩
  | 86 => ⟨S4x4096x2048, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_call4_v0 : Ref sig .tc := ⟨.hbm, 74, rfl⟩
abbrev main_call4_v1 : Ref sig .tc := ⟨.hbm, 75, rfl⟩
abbrev main_v52 : Ref sig .tc := ⟨.hbm, 76, rfl⟩
abbrev main_v53 : Ref sig .tc := ⟨.hbm, 77, rfl⟩
abbrev main_cst_4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_5 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_7 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_c : Ref sig .tc := ⟨.hbm, 112, rfl⟩
abbrev main_v83_0 : Ref sig .tc := ⟨.hbm, 113, rfl⟩
abbrev main_v83_1 : Ref sig .tc := ⟨.hbm, 114, rfl⟩
abbrev main_v83_2 : Ref sig .tc := ⟨.hbm, 115, rfl⟩
abbrev main_v83_3 : Ref sig .tc := ⟨.hbm, 116, rfl⟩
abbrev main_v83_4 : Ref sig .tc := ⟨.hbm, 117, rfl⟩
abbrev main_v83_5 : Ref sig .tc := ⟨.hbm, 118, rfl⟩
abbrev main_v83_6 : Ref sig .tc := ⟨.hbm, 119, rfl⟩
abbrev main_v83_7 : Ref sig .tc := ⟨.hbm, 120, rfl⟩
abbrev main_v83_8 : Ref sig .tc := ⟨.hbm, 121, rfl⟩
abbrev main_v83_9 : Ref sig .tc := ⟨.hbm, 122, rfl⟩
abbrev main_while0c_c_23 : Ref sig .tc := ⟨.hbm, 123, rfl⟩
abbrev main_while0c_v120 : Ref sig .tc := ⟨.hbm, 124, rfl⟩
abbrev main_while0b_call5_c : Ref sig .tc := ⟨.hbm, 125, rfl⟩
abbrev main_while0b_call5_c_0 : Ref sig .tc := ⟨.hbm, 126, rfl⟩
abbrev main_while0b_call5_c_1 : Ref sig .tc := ⟨.hbm, 127, rfl⟩
abbrev main_while0b_call5_c_2 : Ref sig .tc := ⟨.hbm, 128, rfl⟩
abbrev main_while0b_call5_v0 : Ref sig .tc := ⟨.hbm, 129, rfl⟩
abbrev main_while0b_v120 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_c_1 : Ref sig .tc := ⟨.hbm, 133, rfl⟩
abbrev main_while0b_call6_c_2 : Ref sig .tc := ⟨.hbm, 134, rfl⟩
abbrev main_while0b_call6_v0 : Ref sig .tc := ⟨.hbm, 135, rfl⟩
abbrev main_while0b_v121 : Ref sig .tc := ⟨.hbm, 136, rfl⟩
abbrev main_while0b_call7_c : Ref sig .tc := ⟨.hbm, 137, rfl⟩
abbrev main_while0b_call7_c_0 : Ref sig .tc := ⟨.hbm, 138, rfl⟩
abbrev main_while0b_call7_c_1 : Ref sig .tc := ⟨.hbm, 139, rfl⟩
abbrev main_while0b_call7_c_2 : Ref sig .tc := ⟨.hbm, 140, rfl⟩
abbrev main_while0b_call7_v0 : Ref sig .tc := ⟨.hbm, 141, rfl⟩
abbrev main_while0b_v122 : Ref sig .tc := ⟨.hbm, 142, rfl⟩
abbrev main_while0b_v123 : Ref sig .tc := ⟨.hbm, 143, rfl⟩
abbrev main_while0b_v124 : Ref sig .tc := ⟨.hbm, 144, rfl⟩
abbrev main_while0b_v125 : Ref sig .tc := ⟨.hbm, 145, rfl⟩
abbrev main_while0b_v126 : Ref sig .tc := ⟨.hbm, 146, rfl⟩
abbrev main_while0b_v127 : Ref sig .tc := ⟨.hbm, 147, rfl⟩
abbrev main_while0b_v128 : Ref sig .tc := ⟨.hbm, 148, rfl⟩
abbrev main_while0b_v129 : Ref sig .tc := ⟨.hbm, 149, rfl⟩
abbrev main_while0b_v130 : Ref sig .tc := ⟨.hbm, 150, rfl⟩
abbrev main_while0b_v131 : Ref sig .tc := ⟨.hbm, 151, rfl⟩
abbrev main_while0b_v132 : Ref sig .tc := ⟨.hbm, 152, rfl⟩
abbrev main_while0b_v133 : Ref sig .tc := ⟨.hbm, 153, rfl⟩
abbrev main_while0b_v134 : Ref sig .tc := ⟨.hbm, 154, rfl⟩
abbrev main_while0b_v135 : Ref sig .tc := ⟨.hbm, 155, rfl⟩
abbrev main_while0b_v136 : Ref sig .tc := ⟨.hbm, 156, rfl⟩
abbrev main_while0b_v137 : Ref sig .tc := ⟨.hbm, 157, rfl⟩
abbrev main_while0b_call8_v0 : Ref sig .tc := ⟨.hbm, 158, rfl⟩
abbrev main_while0b_call8_c : Ref sig .tc := ⟨.hbm, 159, rfl⟩
abbrev main_while0b_call8_c_0 : Ref sig .tc := ⟨.hbm, 160, rfl⟩
abbrev main_while0b_call8_c_1 : Ref sig .tc := ⟨.hbm, 161, rfl⟩
abbrev main_while0b_call8_c_2 : Ref sig .tc := ⟨.hbm, 162, rfl⟩
abbrev main_while0b_v138 : Ref sig .tc := ⟨.hbm, 163, rfl⟩
abbrev main_while0b_c_23 : Ref sig .tc := ⟨.hbm, 164, rfl⟩
abbrev main_while0b_v139 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_cst_9 : Ref sig .tc := ⟨.hbm, 175, rfl⟩
abbrev main_v93 : Ref sig .tc := ⟨.hbm, 176, rfl⟩
abbrev main_v94 : Ref sig .tc := ⟨.hbm, 177, rfl⟩
abbrev main_cst_10 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_cst_11 : Ref sig .tc := ⟨.hbm, 184, rfl⟩
abbrev main_v100 : Ref sig .tc := ⟨.hbm, 185, rfl⟩
abbrev main_v101 : Ref sig .tc := ⟨.hbm, 186, rfl⟩
abbrev main_cst_12 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_13 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_call10_v0 : Ref sig .tc := ⟨.hbm, 204, rfl⟩
abbrev main_call10_v1 : Ref sig .tc := ⟨.hbm, 205, rfl⟩
abbrev main_call10_cst : Ref sig .tc := ⟨.hbm, 206, rfl⟩
abbrev main_call10_v2 : Ref sig .tc := ⟨.hbm, 207, rfl⟩
abbrev main_call10_v3 : Ref sig .tc := ⟨.hbm, 208, rfl⟩
abbrev main_call10_cst_0 : Ref sig .tc := ⟨.hbm, 209, rfl⟩
abbrev main_call10_v4 : Ref sig .tc := ⟨.hbm, 210, rfl⟩
abbrev main_call10_v5 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S1x1024x12800 : Shape := ⟨3, ![1, 1024, 12800]⟩
abbrev S1024x12800 : Shape := ⟨2, ![1024, 12800]⟩
abbrev S16384x8192 : Shape := ⟨2, ![16384, 8192]⟩
abbrev S2048x1024 : Shape := ⟨2, ![2048, 1024]⟩
abbrev S1024x256 : Shape := ⟨2, ![1024, 256]⟩
abbrev S1024x512 : Shape := ⟨2, ![1024, 512]⟩
abbrev S2048x256 : Shape := ⟨2, ![2048, 256]⟩
abbrev S2048x512 : Shape := ⟨2, ![2048, 512]⟩

abbrev nBuf : Space → Nat
  | .hbm => 5
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1x1024x12800, .f32⟩
  | .hbm, ⟨2, _⟩ => ⟨S1024x12800, .f32⟩
  | .hbm, ⟨3, _⟩ => ⟨S1024x12800, .bf16⟩
  | .hbm, ⟨4, _⟩ => ⟨S16384x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2048x1024, .bf16⟩
  | .local _ .vmem, ⟨13, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c18_i32 : BitVec 32 := 18#32
  let v1 : BitVec 32 := Scalar.addi c18_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c22_i32 : BitVec 32 := 22#32
  let v1 : BitVec 32 := Scalar.addi c22_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c13_i32 : BitVec 32 := 13#32
  let v1 : BitVec 32 := Scalar.addi c13_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.muli c2_i32 v1
  let c17_i32 : BitVec 32 := 17#32
  let v3 : BitVec 32 := Scalar.addi c17_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c2_i32 : BitVec 32 := 2#32
  let v2 : BitVec 32 := Scalar.muli c2_i32 v1
  let c17_i32 : BitVec 32 := 17#32
  let v3 : BitVec 32 := Scalar.addi c17_i32 v2
  let c1_i32 : BitVec 32 := 1#32
  let v4 : BitVec 32 := Scalar.addi v3 c1_i32
  let c0_i32_0 : BitVec 32 := 0#32
  let c0_i32_1 : BitVec 32 := 0#32
  ![c0_i32_0.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x1024 : Shape := ⟨2, ![16384, 1024]⟩
abbrev S1x1024x12800 : Shape := ⟨3, ![1, 1024, 12800]⟩
abbrev S1024x12800 : Shape := ⟨2, ![1024, 12800]⟩
abbrev S16384x12800 : Shape := ⟨2, ![16384, 12800]⟩
abbrev S16384x2048 : Shape := ⟨2, ![16384, 2048]⟩
abbrev S16384x4096 : Shape := ⟨2, ![16384, 4096]⟩
abbrev S16384x4x256 : Shape := ⟨3, ![16384, 4, 256]⟩
abbrev S16384x4x512 : Shape := ⟨3, ![16384, 4, 512]⟩
abbrev S16384x4x1024 : Shape := ⟨3, ![16384, 4, 1024]⟩
abbrev S16384x8192 : Shape := ⟨2, ![16384, 8192]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x12800, .f32⟩
  | .hbm, ⟨2, _⟩ => ⟨S16384x1024, .f32⟩
  | .hbm, ⟨3, _⟩ => ⟨S1024x12800, .f32⟩
  | .hbm, ⟨4, _⟩ => ⟨S16384x12800, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x4096, .f32⟩
  | .hbm, ⟨9, _⟩ => ⟨S16384x4x256, .f32⟩
  | .hbm, ⟨10, _⟩ => ⟨S16384x4x256, .f32⟩
  | .hbm, ⟨11, _⟩ => ⟨S16384x4x512, .f32⟩
  | .hbm, ⟨12, _⟩ => ⟨S16384x4x1024, .f32⟩
  | .hbm, ⟨13, _⟩ => ⟨S16384x4096, .f32⟩
  | .hbm, ⟨14, _⟩ => ⟨S16384x8192, .f32⟩
  | .hbm, ⟨15, _⟩ => ⟨S16384x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6x1024 : Shape := ⟨3, ![4, 6, 1024]⟩
abbrev S1x1024x12800 : Shape := ⟨3, ![1, 1024, 12800]⟩
abbrev S16384x1024 : Shape := ⟨2, ![16384, 1024]⟩
abbrev S1024x12800 : Shape := ⟨2, ![1024, 12800]⟩
abbrev S16384x4608 : Shape := ⟨2, ![16384, 4608]⟩
abbrev S1024x1024 : Shape := ⟨2, ![1024, 1024]⟩
abbrev S1x6x1024 : Shape := ⟨3, ![1, 6, 1024]⟩
abbrev S1024x512 : Shape := ⟨2, ![1024, 512]⟩
abbrev S1024x1536 : Shape := ⟨2, ![1024, 1536]⟩
abbrev S8x1024x128 : Shape := ⟨3, ![8, 1024, 128]⟩
abbrev S3x1024x1024 : Shape := ⟨3, ![3, 1024, 1024]⟩
abbrev S1x1x1024 : Shape := ⟨3, ![1, 1, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1024 : Shape := ⟨3, ![1, 128, 1024]⟩
abbrev S1x32x128 : Shape := ⟨3, ![1, 32, 128]⟩
abbrev S32x128 : Shape := ⟨2, ![32, 128]⟩
abbrev S1x1024x1024 : Shape := ⟨3, ![1, 1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024x12800, .f32⟩
  | .hbm, ⟨3, _⟩ => ⟨S16384x1024, .f32⟩
  | .hbm, ⟨4, _⟩ => ⟨S1024x12800, .f32⟩
  | .hbm, ⟨5, _⟩ => ⟨S1024x12800, .bf16⟩
  | .hbm, ⟨6, _⟩ => ⟨S16384x4608, .bf16⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1536, .bf16⟩
  | .local _ .vmem, ⟨11, _⟩ => ⟨S1024x1536, .bf16⟩
  | .local _ .vmem, ⟨12, _⟩ => ⟨S1024x1024, .bf16⟩
  | .local _ .vmem, ⟨13, _⟩ => ⟨S1024x1024, .bf16⟩
  | .local _ .vmem, ⟨14, _⟩ => ⟨S8x1024x128, .f32⟩
  | .local _ .vmem, ⟨15, _⟩ => ⟨S3x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c8_i32 : BitVec 32 := 8#32
  let v27 : BitVec 32 := Scalar.addi c0_i32_20 c8_i32
  let c1_i32 : BitVec 32 := 1#32
  ⟨c0_i32_20, v27, c1_i32⟩
def k0_mult1 (k0_t1 : Fin k0_t1_loop.trips) : BitVec 32 :=
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  v1948
def k0_off1 (k0_t1 : Fin k0_t1_loop.trips) : Fin 2 → Nat :=
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1950 : Index := Scalar.indexCast v1949
  let c0_1883 : Index := 0#32
  ![v1950.toNat, 0]
def k0_off2 (k0_t1 : Fin k0_t1_loop.trips) : Fin 3 → Nat :=
  let c0_1889 : Index := 0#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1974 : Index := Scalar.indexCast v1949
  let c0_1890 : Index := 0#32
  ![0, v1974.toNat, 0]
def k0_off3 (k0_t1 : Fin k0_t1_loop.trips) : Fin 3 → Nat :=
  let c1_1891 : Index := 1#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1979 : Index := Scalar.indexCast v1949
  let c0_1892 : Index := 0#32
  ![1, v1979.toNat, 0]
def k0_off4 (k0_t1 : Fin k0_t1_loop.trips) : Fin 3 → Nat :=
  let c2_1893 : Index := 2#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1984 : Index := Scalar.indexCast v1949
  let c0_1894 : Index := 0#32
  ![2, v1984.toNat, 0]
def k0_off5 (k0_t1 : Fin k0_t1_loop.trips) : Fin 3 → Nat :=
  let c3_1895 : Index := 3#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1989 : Index := Scalar.indexCast v1949
  let c0_1896 : Index := 0#32
  ![3, v1989.toNat, 0]
def k0_off6 (k0_t1 : Fin k0_t1_loop.trips) : Fin 3 → Nat :=
  let c4_1897 : Index := 4#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1994 : Index := Scalar.indexCast v1949
  let c0_1898 : Index := 0#32
  ![4, v1994.toNat, 0]
def k0_off7 (k0_t1 : Fin k0_t1_loop.trips) : Fin 3 → Nat :=
  let c5_1899 : Index := 5#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v1999 : Index := Scalar.indexCast v1949
  let c0_1900 : Index := 0#32
  ![5, v1999.toNat, 0]
def k0_off8 (k0_t1 : Fin k0_t1_loop.trips) : Fin 3 → Nat :=
  let c6_1901 : Index := 6#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v2004 : Index := Scalar.indexCast v1949
  let c0_1902 : Index := 0#32
  ![6, v2004.toNat, 0]
def k0_off9 (k0_t1 : Fin k0_t1_loop.trips) : Fin 3 → Nat :=
  let c7_1903 : Index := 7#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v2009 : Index := Scalar.indexCast v1949
  let c0_1904 : Index := 0#32
  ![7, v2009.toNat, 0]
def k0_off10 (k0_t1 : Fin k0_t1_loop.trips) : Fin 3 → Nat :=
  let c0_1905 : Index := 0#32
  let c0_i32_20 : BitVec 32 := 0#32
  let c1_i32 : BitVec 32 := 1#32
  let arg11 : BitVec 32 := Scf.iv c0_i32_20 c1_i32 k0_t1
  let c128_i32 : BitVec 32 := 128#32
  let v1948 : BitVec 32 := Scalar.muli arg11 c128_i32
  let v1949 : BitVec 32 := v1948
  let v2014 : Index := Scalar.indexCast v1949
  let c0_1906 : Index := 0#32
  ![0, v2014.toNat, 0]
def k0_off11 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x4096x1024 : Shape := ⟨3, ![4, 4096, 1024]⟩
abbrev S4x6x1024 : Shape := ⟨3, ![4, 6, 1024]⟩
abbrev S1x1024x12800 : Shape := ⟨3, ![1, 1024, 12800]⟩
abbrev S_ : Shape := ⟨0, ![]⟩
abbrev S4x4096 : Shape := ⟨2, ![4, 4096]⟩
abbrev S4x4096x1 : Shape := ⟨3, ![4, 4096, 1]⟩
abbrev S4x1x1024 : Shape := ⟨3, ![4, 1, 1024]⟩
abbrev S4x1024 : Shape := ⟨2, ![4, 1024]⟩
abbrev S1024x12800 : Shape := ⟨2, ![1024, 12800]⟩
abbrev S4x4096x12800 : Shape := ⟨3, ![4, 4096, 12800]⟩
abbrev S4x4096x1536 : Shape := ⟨3, ![4, 4096, 1536]⟩
abbrev S4x4096x512 : Shape := ⟨3, ![4, 4096, 512]⟩
abbrev S32x512x1x512 : Shape := ⟨4, ![32, 512, 1, 512]⟩
abbrev S32x1x512x512 : Shape := ⟨4, ![32, 1, 512, 512]⟩
abbrev S16384x512 : Shape := ⟨2, ![16384, 512]⟩
abbrev S32x128x4x512 : Shape := ⟨4, ![32, 128, 4, 512]⟩
abbrev S32x4x128x512 : Shape := ⟨4, ![32, 4, 128, 512]⟩
abbrev S32x32x16x512 : Shape := ⟨4, ![32, 32, 16, 512]⟩
abbrev S32x16x32x512 : Shape := ⟨4, ![32, 16, 32, 512]⟩
abbrev S16384x4608 : Shape := ⟨2, ![16384, 4608]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024x12800, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S4x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S1024x12800, .f32⟩
  | .hbm, ⟨40, _⟩ => ⟨S4x4096x12800, .f32⟩
  | .hbm, ⟨41, _⟩ => ⟨S4x4096x1536, .f32⟩
  | .hbm, ⟨42, _⟩ => ⟨S4x4096x1536, .f32⟩
  | .hbm, ⟨43, _⟩ => ⟨S4x4096x1536, .f32⟩
  | .hbm, ⟨44, _⟩ => ⟨S4x4096x512, .f32⟩
  | .hbm, ⟨45, _⟩ => ⟨S32x512x1x512, .f32⟩
  | .hbm, ⟨46, _⟩ => ⟨S32x1x512x512, .f32⟩
  | .hbm, ⟨47, _⟩ => ⟨S16384x512, .f32⟩
  | .hbm, ⟨48, _⟩ => ⟨S4x4096x512, .f32⟩
  | .hbm, ⟨49, _⟩ => ⟨S32x512x1x512, .f32⟩
  | .hbm, ⟨50, _⟩ => ⟨S32x1x512x512, .f32⟩
  | .hbm, ⟨51, _⟩ => ⟨S16384x512, .f32⟩
  | .hbm, ⟨52, _⟩ => ⟨S4x4096x512, .f32⟩
  | .hbm, ⟨53, _⟩ => ⟨S32x512x1x512, .f32⟩
  | .hbm, ⟨54, _⟩ => ⟨S32x1x512x512, .f32⟩
  | .hbm, ⟨55, _⟩ => ⟨S16384x512, .f32⟩
  | .hbm, ⟨56, _⟩ => ⟨S4x4096x512, .f32⟩
  | .hbm, ⟨57, _⟩ => ⟨S32x128x4x512, .f32⟩
  | .hbm, ⟨58, _⟩ => ⟨S32x4x128x512, .f32⟩
  | .hbm, ⟨59, _⟩ => ⟨S16384x512, .f32⟩
  | .hbm, ⟨60, _⟩ => ⟨S4x4096x512, .f32⟩
  | .hbm, ⟨61, _⟩ => ⟨S32x128x4x512, .f32⟩
  | .hbm, ⟨62, _⟩ => ⟨S32x4x128x512, .f32⟩
  | .hbm, ⟨63, _⟩ => ⟨S16384x512, .f32⟩
  | .hbm, ⟨64, _⟩ => ⟨S4x4096x512, .f32⟩
  | .hbm, ⟨65, _⟩ => ⟨S32x128x4x512, .f32⟩
  | .hbm, ⟨66, _⟩ => ⟨S32x4x128x512, .f32⟩
  | .hbm, ⟨67, _⟩ => ⟨S16384x512, .f32⟩
  | .hbm, ⟨68, _⟩ => ⟨S4x4096x512, .f32⟩
  | .hbm, ⟨69, _⟩ => ⟨S32x32x16x512, .f32⟩
  | .hbm, ⟨70, _⟩ => ⟨S32x16x32x512, .f32⟩
  | .hbm, ⟨71, _⟩ => ⟨S16384x512, .f32⟩
  | .hbm, ⟨72, _⟩ => ⟨S4x4096x512, .f32⟩
  | .hbm, ⟨73, _⟩ => ⟨S32x32x16x512, .f32⟩
  | .hbm, ⟨74, _⟩ => ⟨S32x16x32x512, .f32⟩
  | .hbm, ⟨75, _⟩ => ⟨S16384x512, .f32⟩
  | .hbm, ⟨76, _⟩ => ⟨S4x4096x512, .f32⟩
  | .hbm, ⟨77, _⟩ => ⟨S32x32x16x512, .f32⟩
  | .hbm, ⟨78, _⟩ => ⟨S32x16x32x512, .f32⟩
  | .hbm, ⟨79, _⟩ => ⟨S16384x512, .f32⟩
  | .hbm, ⟨80, _⟩ => ⟨S16384x4608, .f32⟩
  | .hbm, ⟨81, _⟩ => ⟨S16384x4608, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩

abbrev nD : Nat := 1
abbrev τ : Topo := Topo.v7x

variable {F : FTy → Type} [FloatOps F]
-- ==== Proof.Sums.lean ====
module

public import Idealize.ShloMosaic.PureOps.Ideal
public import Idealize.ShloMosaic.PureOps.Ideal.Laws

@[expose] public section

noncomputable section

/-! The retention over the reals: what a head's state and output are after any number of rows, and how a chunk of
rows of any length carries them on. -/
namespace Cert.Retention

open Finset Idealize.ShloMosaic

/-- The state after the first `N` rows: keys times values, each faded by its distance from the last row. -/
def stateR (γ : ℝ) (k v : ℕ → ℕ → ℝ) (N d e : ℕ) : ℝ := ∑ m ∈ range N, k m d * γ ^ (N - 1 - m) * v m e

/-- The output at row `n`: the values of the rows `m` with `g + m ≤ n`, weighted by query times key and faded by the distance. -/
def outR (g : ℕ) (γ : ℝ) (q k v : ℕ → ℕ → ℝ) (n e : ℕ) : ℝ :=
  ∑ m ∈ range (n + 1), (∑ d ∈ range 256, q n d * k m d) * (if g + m ≤ n then γ ^ (n - m) else 0) * v m e

theorem stateR_zero (γ : ℝ) (k v : ℕ → ℕ → ℝ) (d e : ℕ) : stateR γ k v 0 d e = 0 := by simp [stateR]

/-- A chunk of `c` rows carries the state on. -/
theorem stateR_step (γ : ℝ) (k v : ℕ → ℕ → ℝ) (N c d e : ℕ) :
    stateR γ k v (N + c) d e = stateR γ k v N d e * γ ^ c + ∑ j ∈ range c, k (N + j) d * γ ^ (c - 1 - j) * v (N + j) e := by
  unfold stateR
  rw [sum_range_add, sum_mul]
  congr 1
  · refine sum_congr rfl fun m hm => ?_
    have hm := mem_range.1 hm
    have h : N + c - 1 - m = (N - 1 - m) + c := by omega
    rw [h, pow_add]; ring
  · refine sum_congr rfl fun j hj => ?_
    have hj := mem_range.1 hj
    have h : N + c - 1 - (N + j) = c - 1 - j := by omega
    rw [h]

/-- A row of a chunk of `c` rows: what the chunk itself gives and what the state before the chunk gives. -/
theorem outR_step (g : ℕ) (hg : g ≤ 1) (γ : ℝ) (q k v : ℕ → ℕ → ℝ) (N c i e : ℕ) (hi : i < c) :
    outR g γ q k v (N + i) e
      = (∑ j ∈ range c, (∑ d ∈ range 256, q (N + i) d * k (N + j) d) * (if g + j ≤ i then γ ^ (i - j) else 0) * v (N + j) e)
        + (∑ d ∈ range 256, q (N + i) d * stateR γ k v N d e) * γ ^ (i + 1) := by
  have ext : outR g γ q k v (N + i) e
      = ∑ m ∈ range (N + c), (∑ d ∈ range 256, q (N + i) d * k m d) * (if g + m ≤ N + i then γ ^ (N + i - m) else 0) * v m e := by
    unfold outR
    refine sum_subset (fun m hm => mem_range.2 (by have := mem_range.1 hm; omega)) fun m _ hm => ?_
    have hm : ¬ m < N + i + 1 := fun h => hm (mem_range.2 h)
    rw [if_neg (by omega)]; ring
  rw [ext, sum_range_add, add_comm]
  congr 1
  · refine sum_congr rfl fun j _ => ?_
    have h : N + i - (N + j) = i - j := by omega
    have h' : (g + (N + j) ≤ N + i) = (g + j ≤ i) := propext (by omega)
    rw [h]; simp only [h']
  · unfold stateR
    rw [sum_mul]
    simp only [mul_sum, sum_mul]
    rw [sum_comm]
    refine sum_congr rfl fun d _ => sum_congr rfl fun m hm => ?_
    have hm := mem_range.1 hm
    rw [if_pos (by omega)]
    have h : N + i - m = (N - 1 - m) + (i + 1) := by omega
    rw [h, pow_add]; ring

/-- A sum of real numbers read among the extended reals. -/
theorem coe_sum_fin {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The fading of one row, from its logarithm. -/
def fade (lg : EReal) : ℝ := (Ideal.exp lg).toReal

/-- The exponential of the logarithm times a count is the power of the fading, whatever the logarithm is below `+∞`. -/
theorem exp_mul_nat (lg : EReal) (h : lg ≠ ⊤) (n : ℕ) : Ideal.exp (lg * ((n : ℝ) : EReal)) = ((fade lg ^ n : ℝ) : EReal) := by
  induction lg with
  | top => exact absurd rfl h
  | bot =>
    have hb : Ideal.exp ⊥ = 0 := rfl
    have hf : fade ⊥ = 0 := by simp [fade, hb]
    rw [hf]
    rcases Nat.eq_zero_or_pos n with rfl | hn
    · have : ((⊥ : EReal) * (((0 : ℕ) : ℝ) : EReal)) = ((0 : ℝ) : EReal) := by simp
      rw [this, Ideal.exp_coe]; simp
    · have hp : (0 : ℝ) < (n : ℝ) := by exact_mod_cast hn
      rw [EReal.bot_mul_coe_of_pos hp, zero_pow (by omega)]; rfl
  | coe r =>
    have hf : fade (r : EReal) = Real.exp r := by simp [fade]
    rw [hf, ← EReal.coe_mul, Ideal.exp_coe, ← Real.exp_nat_mul, mul_comm]

end Cert.Retention

end
-- ==== Proof.Chunk.lean ====
module

public import proofs.«01_k».proof.Proof.Sums
public import proofs.«01_k».proof.Proof.Gen.KernelIdeal.Skeleton
public import Idealize.ShloMosaic.Lib.Pointwise
public import Idealize.ShloMosaic.Lib.MatmulPlain
public import Idealize.ShloMosaic.Lib.IdealHost

@[expose] public section

set_option maxRecDepth 16384

noncomputable section

/-! One chunk of 256 rows of the retention, as the kernel computes it: the state it leaves and the rows it gives. -/
namespace Cert.KernelIdeal.Ret

open Idealize.ShloMosaic Idealize.ShloMosaic.TcCoe Idealize.ShloMosaic.Tactic
open Cert.KernelIdeal.Gen Cert.Retention

section Chunk
variable {F : FTy → Type} [FloatOps F]

/-- The state after a chunk. -/
def chState (lg : FVec F S1x1 .f32) (kd : FVec F S256x128 .f32) (K : FVec F S1x256x256 .bf16) (V : FVec F S1x256x512 .bf16)
    (st : FVec F S256x512 .f32) : FVec F S256x512 .f32 :=
  k0_pay17 lg (k0_pay13 V) (k0_pay15 K) kd st

/-- The rows of a chunk. -/
def chOut (dm : FVec F S256x256 .f32) (qd : FVec F S256x128 .f32) (Q K : FVec F S1x256x256 .bf16) (V : FVec F S1x256x512 .bf16)
    (st : FVec F S256x512 .f32) : FVec F S256x512 .f32 :=
  k0_pay16 (k0_pay11 Q) (k0_pay14 Q K V dm) qd st

end Chunk

theorem bits_256 : Ideal.ofBits .f32 0x43800000#32 = ((256 : ℝ) : EReal) := by
  simp [Ideal.ofBits, Ideal.ieee]; rw [← EReal.coe_mul]; norm_num

theorem chState_apply (lg : FVec Ideal S1x1 .f32) (kd : FVec Ideal S256x128 .f32) (K : FVec Ideal S1x256x256 .bf16) (V : FVec Ideal S1x256x512 .bf16)
    (st : FVec Ideal S256x512 .f32) (w : ℕ → EReal) (hw : ∀ (i : Fin 256) (j : Fin 128), kd (ix2 i j) = w i) (d : Fin 256) (e : Fin 512) :
    chState lg kd K V st (ix2 d e)
      = st (ix2 d e) * Ideal.exp (lg (ix2 0 0) * ((256 : ℝ) : EReal)) + ∑ m : Fin 256, (K (ix3 0 m d) * w m) * V (ix3 0 m e) := by
  simp only [chState, k0_pay17, k0_pay13, k0_pay15, k0_pay12]
  pointwise
  simp only [hw, bits_256, dite_eq_ite, ite_self]

theorem chOut_apply (dm : FVec Ideal S256x256 .f32) (qd : FVec Ideal S256x128 .f32) (Q K : FVec Ideal S1x256x256 .bf16) (V : FVec Ideal S1x256x512 .bf16)
    (st : FVec Ideal S256x512 .f32) (w : ℕ → EReal) (hw : ∀ (i : Fin 256) (j : Fin 128), qd (ix2 i j) = w i) (n : Fin 256) (e : Fin 512) :
    chOut dm qd Q K V st (ix2 n e)
      = (∑ m : Fin 256, ((∑ d : Fin 256, Q (ix3 0 n d) * K (ix3 0 m d)) * dm (ix2 n m)) * V (ix3 0 m e))
        + (∑ d : Fin 256, Q (ix3 0 n d) * st (ix2 d e)) * w n := by
  simp only [chOut, k0_pay16, k0_pay14, k0_pay13, k0_pay12, k0_pay11]
  pointwise
  simp only [hw, bits_256, dite_eq_ite, ite_self]

/-- The logarithm of the fading, from the decay parameter. -/
def logFade (x : EReal) : EReal := min x 0 - Ideal.log (1 + Ideal.exp (0 - FloatOps.absf (F := Ideal) (φ := .f32) x))

theorem pay6_apply (x : EReal) (i j : Fin 1) : k0_pay6 (F := Ideal) x (ix2 i j) = logFade x := by
  simp only [k0_pay6]; pointwise; rfl

theorem pay68_apply (x : EReal) (i j : Fin 1) : k0_pay68 (F := Ideal) x (ix2 i j) = logFade x := by
  simp only [k0_pay68]; pointwise; rfl

theorem logFade_ne_top (x : EReal) : logFade x ≠ ⊤ := by
  have h1 : min x 0 ≤ 0 := min_le_right _ _
  have h2 : Ideal.log (1 + Ideal.exp (0 - FloatOps.absf (F := Ideal) (φ := .f32) x)) ≠ ⊥ := by
    generalize FloatOps.absf (F := Ideal) (φ := .f32) x = a
    generalize (0 - a : EReal) = b
    have h0 : (0 : EReal) ≤ Ideal.exp b := by
      induction b with
      | top => exact le_top
      | bot => exact le_refl _
      | coe r => rw [Ideal.exp_coe]; exact EReal.coe_nonneg.2 (Real.exp_pos r).le
    generalize Ideal.exp b = e at h0
    induction e with
    | top => rw [EReal.add_top_of_ne_bot (by decide)]; exact top_ne_bot
    | bot => simp at h0
    | coe r =>
      have hr : 0 ≤ r := EReal.coe_nonneg.1 h0
      have : (1 + (r : EReal)) = ((1 + r : ℝ) : EReal) := by rw [EReal.coe_add]; rfl
      rw [this]
      have hh : Ideal.log ((1 + r : ℝ) : EReal) = ((Real.log (1 + r) : ℝ) : EReal) := by
        show (if 1 + r ≤ 0 then (⊥ : EReal) else _) = _
        rw [if_neg (by linarith)]
      rw [hh]; exact EReal.coe_ne_bot _
  unfold logFade
  generalize Ideal.log _ = l at h2 ⊢
  intro h
  have : min x 0 - l ≤ 0 - l := EReal.sub_le_sub h1 le_rfl
  rw [h, top_le_iff, zero_sub] at this
  exact h2 (by simpa using congrArg (fun t => -t) this)

theorem bits_sixteenth : Ideal.ofBits .f32 0x3D800000#32 = (((1 / 16 : ℝ)) : EReal) := by
  simp [Ideal.ofBits, Ideal.ieee]; rw [← EReal.coe_mul]; norm_num
theorem bits_255 : Ideal.ofBits .f32 0x437F0000#32 = ((255 : ℝ) : EReal) := by
  simp [Ideal.ofBits, Ideal.ieee]; rw [← EReal.coe_mul]; norm_num

theorem toInt_small (n : ℕ) (h : n < 4096) : (BitVec.ofNat 32 n).toInt = (n : ℤ) := by
  rw [BitVec.toInt_eq_toNat_of_lt] <;> rw [BitVec.toNat_ofNat, Nat.mod_eq_of_lt (by omega)]
  omega

theorem sitofp_ofNat (n : ℕ) (h : n < 4096) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [toInt_small n h]
  rw [this]; simp

theorem toInt_sub (i j : Fin 256) : (IntOp.subi (BitVec.ofNat 32 ↑j) (BitVec.ofNat 32 ↑i)).toInt = (j : ℤ) - i := by
  have hi := i.isLt; have hj := j.isLt
  show (BitVec.ofNat 32 ↑j - BitVec.ofNat 32 ↑i).toInt = _
  rw [BitVec.toInt_sub, toInt_small _ (by omega), toInt_small _ (by omega)]; dsimp only [Int.bmod]; split <;> omega

theorem maxsi_zero (b : BitVec 32) : FloatOps.sitofp (F := Ideal) .f32 (IntOp.maxsi b 0#32) = (((b.toInt.toNat : ℕ) : ℝ) : EReal) := by
  show (((IntOp.maxsi b 0#32).toInt : ℝ) : EReal) = _
  have : (IntOp.maxsi b 0#32).toInt = ((b.toInt.toNat : ℕ) : ℤ) := by
    unfold IntOp.maxsi; split <;> simp_all [BitVec.slt, BitVec.sle] <;> omega
  rw [this, Int.cast_natCast]

theorem ofBool_eq_one (p : Prop) [Decidable p] : (BitVec.ofBool (decide p) = 1) ↔ p := by
  by_cases h : p <;> simp [h]

theorem decB_dm (x : EReal) (i j : Fin 256) : k0_pay8 (F := Ideal) x (ix2 i j)
    = (((if 1 + i.val ≤ j.val then fade (logFade x) ^ (j.val - i.val) else 0) * (1 / 16) : ℝ) : EReal) := by
  simp only [k0_pay8]
  pointwise
  rw [maxsi_zero, toInt_sub, pay6_apply, exp_mul_nat _ (logFade_ne_top x), bits_sixteenth]
  have hi := i.isLt
  have hj := j.isLt
  have hc : (IntOp.cmpi CmpIPredicate.sgt (IntOp.subi (BitVec.ofNat 32 ↑j) (BitVec.ofNat 32 ↑i)) 0#32 = 1) ↔ 1 + i.val ≤ j.val := by
    have h := toInt_sub i j
    have : IntOp.cmpi CmpIPredicate.sgt (IntOp.subi (BitVec.ofNat 32 ↑j) (BitVec.ofNat 32 ↑i)) 0#32
      = BitVec.ofBool (decide (0 < (IntOp.subi (BitVec.ofNat 32 ↑j) (BitVec.ofNat 32 ↑i)).toInt)) := rfl
    rw [this, h, ofBool_eq_one]; omega
  have e : ((j.val : ℤ) - i.val).toNat = j.val - i.val := by omega
  rw [Scalar.select, e]
  by_cases hh : 1 + i.val ≤ j.val
  · rw [if_pos (hc.2 hh), if_pos hh, EReal.coe_mul]
  · rw [if_neg (mt hc.1 hh), if_neg hh]; simp
theorem decB_kd (x : EReal) (i : Fin 256) (j : Fin 128) : k0_pay9 (F := Ideal) x (ix2 i j) = ((fade (logFade x) ^ i.val * (1 / 16) : ℝ) : EReal) := by
  simp only [k0_pay9, k0_pay7]
  pointwise
  rw [sitofp_ofNat _ (by omega), pay6_apply, exp_mul_nat _ (logFade_ne_top x), bits_sixteenth, EReal.coe_mul]
theorem decB_qd (x : EReal) (i : Fin 256) (j : Fin 128) : k0_pay10 (F := Ideal) x (ix2 i j) = ((fade (logFade x) ^ (256 - i.val) : ℝ) : EReal) := by
  have hi := i.isLt
  simp only [k0_pay10, k0_pay7]
  pointwise
  rw [sitofp_ofNat _ (by omega), pay6_apply, bits_256]
  have : ((256 : ℝ) : EReal) - ((i.val : ℝ) : EReal) = (((256 - i.val : ℕ) : ℝ) : EReal) := by
    rw [← EReal.coe_sub, Nat.cast_sub (by omega)]; norm_num
  rw [this, exp_mul_nat _ (logFade_ne_top x)]
theorem decF_dm (x : EReal) (i j : Fin 256) : k0_pay70 (F := Ideal) x (ix2 i j)
    = (((if j.val ≤ i.val then fade (logFade x) ^ (i.val - j.val) else 0) * (1 / 16) : ℝ) : EReal) := by
  simp only [k0_pay70]
  pointwise
  rw [maxsi_zero, toInt_sub, pay68_apply, exp_mul_nat _ (logFade_ne_top x), bits_sixteenth]
  have hi := i.isLt
  have hj := j.isLt
  have hc : (IntOp.cmpi CmpIPredicate.sge (IntOp.subi (BitVec.ofNat 32 ↑i) (BitVec.ofNat 32 ↑j)) 0#32 = 1) ↔ j.val ≤ i.val := by
    have h := toInt_sub j i
    have : IntOp.cmpi CmpIPredicate.sge (IntOp.subi (BitVec.ofNat 32 ↑i) (BitVec.ofNat 32 ↑j)) 0#32
      = BitVec.ofBool (decide (0 ≤ (IntOp.subi (BitVec.ofNat 32 ↑i) (BitVec.ofNat 32 ↑j)).toInt)) := rfl
    rw [this, h, ofBool_eq_one]; omega
  have e : ((i.val : ℤ) - j.val).toNat = i.val - j.val := by omega
  rw [Scalar.select, e]
  by_cases hh : j.val ≤ i.val
  · rw [if_pos (hc.2 hh), if_pos hh, EReal.coe_mul]
  · rw [if_neg (mt hc.1 hh), if_neg hh]; simp
theorem decF_kd (x : EReal) (i : Fin 256) (j : Fin 128) : k0_pay71 (F := Ideal) x (ix2 i j) = ((fade (logFade x) ^ (255 - i.val) * (1 / 16) : ℝ) : EReal) := by
  have hi := i.isLt
  simp only [k0_pay71, k0_pay69]
  pointwise
  rw [sitofp_ofNat _ (by omega), pay68_apply, bits_255, bits_sixteenth]
  have : ((255 : ℝ) : EReal) - ((i.val : ℝ) : EReal) = (((255 - i.val : ℕ) : ℝ) : EReal) := by
    rw [← EReal.coe_sub, Nat.cast_sub (by omega)]; norm_num
  rw [this, exp_mul_nat _ (logFade_ne_top x), EReal.coe_mul]
theorem decF_qd (x : EReal) (i : Fin 256) (j : Fin 128) : k0_pay72 (F := Ideal) x (ix2 i j) = ((fade (logFade x) ^ (i.val + 1) : ℝ) : EReal) := by
  have hi := i.isLt
  simp only [k0_pay72, k0_pay69]
  pointwise
  rw [sitofp_ofNat _ (by omega), pay68_apply]
  have : ((i.val : ℝ) : EReal) + 1 = (((i.val + 1 : ℕ) : ℝ) : EReal) := by
    push_cast; rfl
  rw [this, exp_mul_nat _ (logFade_ne_top x)]

/-! The chunk over the reals, in the order of the rows and in the reversed order. -/

theorem chState_real {lg : FVec Ideal S1x1 .f32} {kd : FVec Ideal S256x128 .f32} {K : FVec Ideal S1x256x256 .bf16} {V : FVec Ideal S1x256x512 .bf16}
    {st : FVec Ideal S256x512 .f32} {x : EReal} (hlg : lg (ix2 0 0) = logFade x) (w : ℕ → ℝ)
    (hw : ∀ (i : Fin 256) (j : Fin 128), kd (ix2 i j) = ((w i : ℝ) : EReal)) (k v s : ℕ → ℕ → ℝ)
    (hK : ∀ m d : Fin 256, K (ix3 0 m d) = ((k m d : ℝ) : EReal)) (hV : ∀ (m : Fin 256) (e : Fin 512), V (ix3 0 m e) = ((v m e : ℝ) : EReal))
    (hs : ∀ (d : Fin 256) (e : Fin 512), st (ix2 d e) = ((s d e : ℝ) : EReal)) (d : Fin 256) (e : Fin 512) :
    chState lg kd K V st (ix2 d e)
      = ((s d e * fade (logFade x) ^ 256 + ∑ m ∈ Finset.range 256, k m d * w m * v m e : ℝ) : EReal) := by
  rw [chState_apply lg kd K V st (fun i => ((w i : ℝ) : EReal)) hw, hlg]
  have h := exp_mul_nat _ (logFade_ne_top x) 256
  rw [show ((256 : ℕ) : ℝ) = (256 : ℝ) by norm_num] at h
  rw [h, Finset.sum_range, EReal.coe_add, coe_sum_fin, EReal.coe_mul, hs]
  simp only [hK, hV, ← EReal.coe_mul]

theorem chOut_real {dm : FVec Ideal S256x256 .f32} {qd : FVec Ideal S256x128 .f32} {Q K : FVec Ideal S1x256x256 .bf16} {V : FVec Ideal S1x256x512 .bf16}
    {st : FVec Ideal S256x512 .f32} (a : ℕ → ℕ → ℝ) (ha : ∀ i j : Fin 256, dm (ix2 i j) = ((a i j : ℝ) : EReal)) (w : ℕ → ℝ)
    (hw : ∀ (i : Fin 256) (j : Fin 128), qd (ix2 i j) = ((w i : ℝ) : EReal)) (q k v s : ℕ → ℕ → ℝ)
    (hQ : ∀ m d : Fin 256, Q (ix3 0 m d) = ((q m d : ℝ) : EReal)) (hK : ∀ m d : Fin 256, K (ix3 0 m d) = ((k m d : ℝ) : EReal))
    (hV : ∀ (m : Fin 256) (e : Fin 512), V (ix3 0 m e) = ((v m e : ℝ) : EReal))
    (hs : ∀ (d : Fin 256) (e : Fin 512), st (ix2 d e) = ((s d e : ℝ) : EReal)) (n : Fin 256) (e : Fin 512) :
    chOut dm qd Q K V st (ix2 n e)
      = (((∑ m ∈ Finset.range 256, (∑ d ∈ Finset.range 256, q n d * k m d) * a n m * v m e)
          + (∑ d ∈ Finset.range 256, q n d * s d e) * w n : ℝ) : EReal) := by
  rw [chOut_apply dm qd Q K V st (fun i => ((w i : ℝ) : EReal)) hw]
  simp only [Finset.sum_range, EReal.coe_add, coe_sum_fin, EReal.coe_mul, hs, ha, hQ, hK, hV]

section Sequences
variable {lg : FVec Ideal S1x1 .f32} {kd qd : FVec Ideal S256x128 .f32} {dm : FVec Ideal S256x256 .f32} {Q K : FVec Ideal S1x256x256 .bf16}
  {V : FVec Ideal S1x256x512 .bf16} {st : FVec Ideal S256x512 .f32} {x : EReal} (q k v : ℕ → ℕ → ℝ) (N : ℕ)

/-- The keys scaled. -/
def scaled (k : ℕ → ℕ → ℝ) (m d : ℕ) : ℝ := k m d * (1 / 16)

theorem fwd_state (hlg : lg (ix2 0 0) = logFade x)
    (hw : ∀ (i : Fin 256) (j : Fin 128), kd (ix2 i j) = ((fade (logFade x) ^ (255 - i.val) * (1 / 16) : ℝ) : EReal))
    (hK : ∀ m d : Fin 256, K (ix3 0 m d) = ((k (N + m) d : ℝ) : EReal)) (hV : ∀ (m : Fin 256) (e : Fin 512), V (ix3 0 m e) = ((v (N + m) e : ℝ) : EReal))
    (hs : ∀ (d : Fin 256) (e : Fin 512), st (ix2 d e) = ((stateR (fade (logFade x)) (scaled k) v N d e : ℝ) : EReal)) (d : Fin 256) (e : Fin 512) :
    chState lg kd K V st (ix2 d e) = ((stateR (fade (logFade x)) (scaled k) v (N + 256) d e : ℝ) : EReal) := by
  rw [chState_real hlg (fun i => fade (logFade x) ^ (255 - i) * (1 / 16)) hw (fun m d => k (N + m) d) (fun m e => v (N + m) e)
    (stateR (fade (logFade x)) (scaled k) v N) hK hV hs, stateR_step]
  congr 2
  refine Finset.sum_congr rfl fun m _ => ?_
  unfold scaled; ring

theorem fwd_out
    (hm : ∀ i j : Fin 256, dm (ix2 i j) = (((if j.val ≤ i.val then fade (logFade x) ^ (i.val - j.val) else 0) * (1 / 16) : ℝ) : EReal))
    (hw : ∀ (i : Fin 256) (j : Fin 128), qd (ix2 i j) = ((fade (logFade x) ^ (i.val + 1) : ℝ) : EReal))
    (hQ : ∀ m d : Fin 256, Q (ix3 0 m d) = ((q (N + m) d : ℝ) : EReal))
    (hK : ∀ m d : Fin 256, K (ix3 0 m d) = ((k (N + m) d : ℝ) : EReal)) (hV : ∀ (m : Fin 256) (e : Fin 512), V (ix3 0 m e) = ((v (N + m) e : ℝ) : EReal))
    (hs : ∀ (d : Fin 256) (e : Fin 512), st (ix2 d e) = ((stateR (fade (logFade x)) (scaled k) v N d e : ℝ) : EReal)) (n : Fin 256) (e : Fin 512) :
    chOut dm qd Q K V st (ix2 n e) = ((outR 0 (fade (logFade x)) q (scaled k) v (N + n) e : ℝ) : EReal) := by
  rw [chOut_real (fun i j => (if j ≤ i then fade (logFade x) ^ (i - j) else 0) * (1 / 16)) hm (fun i => fade (logFade x) ^ (i + 1)) hw
    (fun m d => q (N + m) d) (fun m d => k (N + m) d) (fun m e => v (N + m) e) (stateR (fade (logFade x)) (scaled k) v N) hQ hK hV hs,
    outR_step 0 (by omega) _ _ _ _ N 256 n e n.isLt]
  congr 2
  refine Finset.sum_congr rfl fun m _ => ?_
  simp only [scaled, zero_add, ← mul_assoc, ← Finset.sum_mul]
  ring

theorem bwd_state (hlg : lg (ix2 0 0) = logFade x)
    (hw : ∀ (i : Fin 256) (j : Fin 128), kd (ix2 i j) = ((fade (logFade x) ^ i.val * (1 / 16) : ℝ) : EReal))
    (hK : ∀ m d : Fin 256, K (ix3 0 m d) = ((k (N + (255 - m)) d : ℝ) : EReal)) (hV : ∀ (m : Fin 256) (e : Fin 512), V (ix3 0 m e) = ((v (N + (255 - m)) e : ℝ) : EReal))
    (hs : ∀ (d : Fin 256) (e : Fin 512), st (ix2 d e) = ((stateR (fade (logFade x)) (scaled k) v N d e : ℝ) : EReal)) (d : Fin 256) (e : Fin 512) :
    chState lg kd K V st (ix2 d e) = ((stateR (fade (logFade x)) (scaled k) v (N + 256) d e : ℝ) : EReal) := by
  rw [chState_real hlg (fun i => fade (logFade x) ^ i * (1 / 16)) hw (fun m d => k (N + (255 - m)) d) (fun m e => v (N + (255 - m)) e)
    (stateR (fade (logFade x)) (scaled k) v N) hK hV hs, stateR_step, ← Finset.sum_range_reflect]
  congr 2
  refine Finset.sum_congr rfl fun m hm => ?_
  have hm := Finset.mem_range.1 hm
  have h1 : 255 - (256 - 1 - m) = m := by omega
  rw [h1]; unfold scaled; ring

theorem bwd_out
    (hm : ∀ i j : Fin 256, dm (ix2 i j) = (((if 1 + i.val ≤ j.val then fade (logFade x) ^ (j.val - i.val) else 0) * (1 / 16) : ℝ) : EReal))
    (hw : ∀ (i : Fin 256) (j : Fin 128), qd (ix2 i j) = ((fade (logFade x) ^ (256 - i.val) : ℝ) : EReal))
    (hQ : ∀ m d : Fin 256, Q (ix3 0 m d) = ((q (N + (255 - m)) d : ℝ) : EReal))
    (hK : ∀ m d : Fin 256, K (ix3 0 m d) = ((k (N + (255 - m)) d : ℝ) : EReal)) (hV : ∀ (m : Fin 256) (e : Fin 512), V (ix3 0 m e) = ((v (N + (255 - m)) e : ℝ) : EReal))
    (hs : ∀ (d : Fin 256) (e : Fin 512), st (ix2 d e) = ((stateR (fade (logFade x)) (scaled k) v N d e : ℝ) : EReal)) (n : Fin 256) (e : Fin 512) :
    chOut dm qd Q K V st (ix2 n e) = ((outR 1 (fade (logFade x)) q (scaled k) v (N + (255 - n)) e : ℝ) : EReal) := by
  have hn := n.isLt
  rw [chOut_real (fun i j => (if 1 + i ≤ j then fade (logFade x) ^ (j - i) else 0) * (1 / 16)) hm (fun i => fade (logFade x) ^ (256 - i)) hw
    (fun m d => q (N + (255 - m)) d) (fun m d => k (N + (255 - m)) d) (fun m e => v (N + (255 - m)) e) (stateR (fade (logFade x)) (scaled k) v N) hQ hK hV hs,
    outR_step 1 (by omega) _ _ _ _ N 256 (255 - n) e (by omega), ← Finset.sum_range_reflect]
  have h2 : 255 - n.val + 1 = 256 - n.val := by omega
  rw [h2]
  congr 2
  refine Finset.sum_congr rfl fun m hm => ?_
  have hm := Finset.mem_range.1 hm
  have h1 : 255 - (256 - 1 - m) = m := by omega
  have h3 : (1 + n.val ≤ 256 - 1 - m) = (1 + m ≤ 255 - n.val) := propext (by omega)
  have h4 : 256 - 1 - m - n.val = 255 - n.val - m := by omega
  simp only [h1, h3, h4, scaled, ← mul_assoc, ← Finset.sum_mul]
  ring

end Sequences

end Cert.KernelIdeal.Ret

end
-- ==== Proof.RunA.lean ====
module

public import proofs.«01_k».proof.Proof.Gen.KernelIdeal.Frame
public import proofs.«01_k».proof.Proof.Gen.KernelIdeal.Skeleton

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The grid points that clear the running state: each head's first and third. -/
abbrev isReset (i : grid0.Coords) : Prop := Scalar.cmpi .ne (Scalar.extui (Scalar.ori (Scalar.cmpi .eq (BitVec.ofNat 32 (i 2).val) 0#32) (Scalar.cmpi .eq (BitVec.ofNat 32 (i 2).val) 2#32))) 0#32 = 1#1

/-- The grid points that write the backward decays: each head's first. -/
abbrev isFirst (i : grid0.Coords) : Prop := Scalar.cmpi .ne (Scalar.extui (Scalar.cmpi .eq (BitVec.ofNat 32 (i 2).val) 0#32)) 0#32 = 1#1

/-- The grid points that write the forward decays: each head's third. -/
abbrev isTurn (i : grid0.Coords) : Prop := Scalar.cmpi .ne (Scalar.extui (Scalar.cmpi .eq (BitVec.ofNat 32 (i 2).val) 2#32)) 0#32 = 1#1

set_option maxHeartbeats 2000000 in
/-- The body at the first point of a head: the state is cleared, the backward decays are written, the upper half of the rows is passed backward. What it stores is found by the run, as lists of pieces (the last stored first). -/
noncomputable def runA (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
    (h0 : isReset i) (h1 : k0_cond2 i = 1#1) (h2 : isFirst i) (h3 : ¬ k0_cond4 i = 1#1)
    (x0 : Vec F S8 .f32) (x1 : Vec F S1x2048x1024 .bf16) (x2 : Vec F S1x2048x512 .bf16) (x3 : Vec F S1x512 .f32) :
    Σ' (LS0 : List (View.Piece (Elt F) S256x512 .f32)), Σ' (LS2 : List (View.Piece (Elt F) S256x256 .f32)), Σ' (LS3 : List (View.Piece (Elt F) S256x128 .f32)), Σ' (LS4 : List (View.Piece (Elt F) S256x128 .f32)), { LS1 : List (View.Piece (Elt F) S4096x512 .f32) //
      ∀ (xi : Vec F S1x2048x512 .bf16) (xs1 : Vec F S4096x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d) ∗ owns (c : Thread nD τ) arg9 fullShare xs1 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, (arg8.view.loc (c : Thread nD τ) ↦[arg8.view.set]{fullShare} arg8.view.writes (Elt F) f LS0)) ∗ (arg9.view.loc (c : Thread nD τ) ↦[arg9.view.set]{fullShare} arg9.view.writes (Elt F) (harg9.unread (Val := Elt F) xs1) LS1) ∗ (∃ f, (arg10.view.loc (c : Thread nD τ) ↦[arg10.view.set]{fullShare} arg10.view.writes (Elt F) f LS2)) ∗ (∃ f, (arg11.view.loc (c : Thread nD τ) ↦[arg11.view.set]{fullShare} arg11.view.writes (Elt F) f LS3)) ∗ (∃ f, (arg12.view.loc (c : Thread nD τ) ↦[arg12.view.set]{fullShare} arg12.view.writes (Elt F) f LS4))) -∗ K ⟨⟩))
          ⊢ wp frame (wpE (defs₀ (F := F)) Variants.none c none) E (cc0_retention i arg3 harg3 arg4 harg4 arg5 harg5 arg6 harg6 arg7 harg7 arg8 harg8 arg9 harg9 arg10 harg10 arg11 harg11 arg12 harg12) K } := by
  refine ⟨?_, ?_, ?_, ?_, ?_, fun xi xs1 E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%fH0, %hH0, H0⟩, ⟨%fH1, %hH1, H1⟩, ⟨%fH2, %hH2, H2⟩, ⟨%fH3, %hH3, H3⟩, ⟨%fH4, %hH4, H4⟩, ⟨%dHS0, %fHS0, -, HS0⟩, ⟨%fHS1, %hHS1, HS1⟩, ⟨%dHS2, %fHS2, -, HS2⟩, ⟨%dHS3, %fHS3, -, HS3⟩, ⟨%dHS4, %fHS4, -, HS4⟩, Hk⟩
    obtain rfl := harg3.eq_unread hH0; obtain rfl := harg4.eq_unread hH1; obtain rfl := harg5.eq_unread hH2; obtain rfl := harg6.eq_unread hH3; obtain rfl := harg7.eq_unread hH4; obtain rfl := harg9.eq_unread hHS1
    sl_exec (disch := first | sl_exact h0 | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexact HS1
    isplitl [HS2]
    · iexists _; iexact HS2
    isplitl [HS3]
    · iexists _; iexact HS3
    iexists _; iexact HS4

end Cert.KernelIdeal.Ret

end
-- ==== Proof.RunB.lean ====
module

public import proofs.«01_k».proof.Proof.RunA

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at the second point of a head: the lower half of the rows is passed backward. What it stores is found by the run, as lists of pieces (the last stored first). -/
noncomputable def runB (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
    (h0 : ¬ isReset i) (h1 : k0_cond2 i = 1#1) (h2 : ¬ isFirst i) (h3 : ¬ k0_cond4 i = 1#1)
    (x0 : Vec F S8 .f32) (x1 : Vec F S1x2048x1024 .bf16) (x2 : Vec F S1x2048x512 .bf16) (x3 : Vec F S1x512 .f32) (xs0 : Vec F S256x512 .f32) (xs2 : Vec F S256x256 .f32) (xs3 : Vec F S256x128 .f32) (xs4 : Vec F S256x128 .f32) :
    Σ' (LS0 : List (View.Piece (Elt F) S256x512 .f32)), { LS1 : List (View.Piece (Elt F) S4096x512 .f32) //
      ∀ (xi : Vec F S1x2048x512 .bf16) (xs1 : Vec F S4096x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, (arg8.view.loc (c : Thread nD τ) ↦[arg8.view.set]{fullShare} arg8.view.writes (Elt F) f LS0)) ∗ (arg9.view.loc (c : Thread nD τ) ↦[arg9.view.set]{fullShare} arg9.view.writes (Elt F) (harg9.unread (Val := Elt F) xs1) LS1) ∗ owns (c : Thread nD τ) arg10 fullShare xs2 ∗ owns (c : Thread nD τ) arg11 fullShare xs3 ∗ owns (c : Thread nD τ) arg12 fullShare xs4) -∗ K ⟨⟩))
          ⊢ wp frame (wpE (defs₀ (F := F)) Variants.none c none) E (cc0_retention i arg3 harg3 arg4 harg4 arg5 harg5 arg6 harg6 arg7 harg7 arg8 harg8 arg9 harg9 arg10 harg10 arg11 harg11 arg12 harg12) K } := by
  refine ⟨?_, ?_, fun xi xs1 E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%fH0, %hH0, H0⟩, ⟨%fH1, %hH1, H1⟩, ⟨%fH2, %hH2, H2⟩, ⟨%fH3, %hH3, H3⟩, ⟨%fH4, %hH4, H4⟩, ⟨%fHS0, %hHS0, HS0⟩, ⟨%fHS1, %hHS1, HS1⟩, ⟨%fHS2, %hHS2, HS2⟩, ⟨%fHS3, %hHS3, HS3⟩, ⟨%fHS4, %hHS4, HS4⟩, Hk⟩
    obtain rfl := harg3.eq_unread hH0; obtain rfl := harg4.eq_unread hH1; obtain rfl := harg5.eq_unread hH2; obtain rfl := harg6.eq_unread hH3; obtain rfl := harg7.eq_unread hH4; obtain rfl := harg8.eq_unread hHS0; obtain rfl := harg9.eq_unread hHS1; obtain rfl := harg10.eq_unread hHS2; obtain rfl := harg11.eq_unread hHS3; obtain rfl := harg12.eq_unread hHS4
    sl_exec (disch := first | sl_exact h0 | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexact HS1
    isplitl [HS2]
    · iexists _; isplitr; · ipureintro; exact harg10.read_unread _
      iexact HS2
    isplitl [HS3]
    · iexists _; isplitr; · ipureintro; exact harg11.read_unread _
      iexact HS3
    iexists _; isplitr; · ipureintro; exact harg12.read_unread _
    iexact HS4

end Cert.KernelIdeal.Ret

end
-- ==== Proof.RunC.lean ====
module

public import proofs.«01_k».proof.Proof.RunB

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at the third point of a head: the state is cleared, the forward decays are written, the lower half of the rows is passed forward and stored. What it stores is found by the run, as lists of pieces (the last stored first). -/
noncomputable def runC (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
    (h0 : isReset i) (h1 : ¬ k0_cond2 i = 1#1) (h3 : k0_cond4 i = 1#1) (h2 : isTurn i)
    (x0 : Vec F S8 .f32) (x1 : Vec F S1x2048x1024 .bf16) (x2 : Vec F S1x2048x512 .bf16) (x3 : Vec F S1x512 .f32) (xs1 : Vec F S4096x512 .f32) :
    Σ' (LS0 : List (View.Piece (Elt F) S256x512 .f32)), Σ' (LS2 : List (View.Piece (Elt F) S256x256 .f32)), Σ' (LS3 : List (View.Piece (Elt F) S256x128 .f32)), Σ' (LS4 : List (View.Piece (Elt F) S256x128 .f32)), { LO : List (View.Piece (Elt F) S1x2048x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs1 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, (arg7.view.loc (c : Thread nD τ) ↦[arg7.view.set]{fullShare} arg7.view.writes (Elt F) f LO)) ∗ (∃ f, (arg8.view.loc (c : Thread nD τ) ↦[arg8.view.set]{fullShare} arg8.view.writes (Elt F) f LS0)) ∗ owns (c : Thread nD τ) arg9 fullShare xs1 ∗ (∃ f, (arg10.view.loc (c : Thread nD τ) ↦[arg10.view.set]{fullShare} arg10.view.writes (Elt F) f LS2)) ∗ (∃ f, (arg11.view.loc (c : Thread nD τ) ↦[arg11.view.set]{fullShare} arg11.view.writes (Elt F) f LS3)) ∗ (∃ f, (arg12.view.loc (c : Thread nD τ) ↦[arg12.view.set]{fullShare} arg12.view.writes (Elt F) f LS4))) -∗ K ⟨⟩))
          ⊢ wp frame (wpE (defs₀ (F := F)) Variants.none c none) E (cc0_retention i arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_retention_eq_skeleton]; unfold cc0_retention_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%fH0, %hH0, H0⟩, ⟨%fH1, %hH1, H1⟩, ⟨%fH2, %hH2, H2⟩, ⟨%fH3, %hH3, H3⟩, ⟨%dH4, %fH4, -, H4⟩, ⟨%dHS0, %fHS0, -, HS0⟩, ⟨%fHS1, %hHS1, HS1⟩, ⟨%dHS2, %fHS2, -, HS2⟩, ⟨%dHS3, %fHS3, -, HS3⟩, ⟨%dHS4, %fHS4, -, HS4⟩, Hk⟩
    obtain rfl := harg3.eq_unread hH0; obtain rfl := harg4.eq_unread hH1; obtain rfl := harg5.eq_unread hH2; obtain rfl := harg6.eq_unread hH3; obtain rfl := harg9.eq_unread hHS1
    sl_exec (disch := first | sl_exact h0 | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; iexact HS0
    isplitl [HS1]
    · iexists _; isplitr; · ipureintro; exact harg9.read_unread _
      iexact HS1
    isplitl [HS2]
    · iexists _; iexact HS2
    isplitl [HS3]
    · iexists _; iexact HS3
    iexists _; iexact HS4

end Cert.KernelIdeal.Ret

end
-- ==== Proof.RunD.lean ====
module

public import proofs.«01_k».proof.Proof.RunC

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at the last point of a head: the upper half of the rows is passed forward and stored. What it stores is found by the run, as lists of pieces (the last stored first). -/
noncomputable def runD (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
    (h0 : ¬ isReset i) (h1 : ¬ k0_cond2 i = 1#1) (h3 : k0_cond4 i = 1#1) (h2 : ¬ isTurn i)
    (x0 : Vec F S8 .f32) (x1 : Vec F S1x2048x1024 .bf16) (x2 : Vec F S1x2048x512 .bf16) (x3 : Vec F S1x512 .f32) (xs0 : Vec F S256x512 .f32) (xs2 : Vec F S256x256 .f32) (xs3 : Vec F S256x128 .f32) (xs4 : Vec F S256x128 .f32) (xs1 : Vec F S4096x512 .f32) :
    Σ' (LS0 : List (View.Piece (Elt F) S256x512 .f32)), { LO : List (View.Piece (Elt F) S1x2048x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, (arg7.view.loc (c : Thread nD τ) ↦[arg7.view.set]{fullShare} arg7.view.writes (Elt F) f LO)) ∗ (∃ f, (arg8.view.loc (c : Thread nD τ) ↦[arg8.view.set]{fullShare} arg8.view.writes (Elt F) f LS0)) ∗ owns (c : Thread nD τ) arg9 fullShare xs1 ∗ owns (c : Thread nD τ) arg10 fullShare xs2 ∗ owns (c : Thread nD τ) arg11 fullShare xs3 ∗ owns (c : Thread nD τ) arg12 fullShare xs4) -∗ K ⟨⟩))
          ⊢ wp frame (wpE (defs₀ (F := F)) Variants.none c none) E (cc0_retention i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_retention_eq_skeleton]; unfold cc0_retention_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%fH0, %hH0, H0⟩, ⟨%fH1, %hH1, H1⟩, ⟨%fH2, %hH2, H2⟩, ⟨%fH3, %hH3, H3⟩, ⟨%dH4, %fH4, -, H4⟩, ⟨%fHS0, %hHS0, HS0⟩, ⟨%fHS1, %hHS1, HS1⟩, ⟨%fHS2, %hHS2, HS2⟩, ⟨%fHS3, %hHS3, HS3⟩, ⟨%fHS4, %hHS4, HS4⟩, Hk⟩
    obtain rfl := harg3.eq_unread hH0; obtain rfl := harg4.eq_unread hH1; obtain rfl := harg5.eq_unread hH2; obtain rfl := harg6.eq_unread hH3; obtain rfl := harg8.eq_unread hHS0; obtain rfl := harg9.eq_unread hHS1; obtain rfl := harg10.eq_unread hHS2; obtain rfl := harg11.eq_unread hHS3; obtain rfl := harg12.eq_unread hHS4
    sl_exec (disch := first | sl_exact h0 | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    iexists _; isplitr; · ipureintro; exact harg12.read_unread _
    iexact HS4

end Cert.KernelIdeal.Ret

end
-- ==== Proof.Frame.lean ====
module

public import proofs.«01_k».proof.Proof.RunD
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The grid points by their place within a head -/

theorem isReset_iff : ∀ t : Fin grid0.N, isReset (grid0.coords t) ↔ t.val % 2 = 0 := by decide +kernel
theorem isFirst_iff : ∀ t : Fin grid0.N, isFirst (grid0.coords t) ↔ t.val % 4 = 0 := by decide +kernel
theorem isTurn_iff : ∀ t : Fin grid0.N, isTurn (grid0.coords t) ↔ t.val % 4 = 2 := by decide +kernel
theorem back_iff : ∀ t : Fin grid0.N, k0_cond2 (grid0.coords t) = 1#1 ↔ t.val % 4 ≤ 1 := by decide +kernel
theorem forth_iff : ∀ t : Fin grid0.N, k0_cond4 (grid0.coords t) = 1#1 ↔ 2 ≤ t.val % 4 := by decide +kernel

/-! ## The buffers -/

/-- Window 0's staging buffer at point `t`. -/
abbrev stg0 (t : Fin cfg0.N) : Memref sig .tc .smem S8 .f32 := win0_0.stage (cfg0.slots t 0)
/-- It is a whole buffer. -/
abbrev stgW0 (t : Fin cfg0.N) : (stg0 t).IsWhole := hstage0_0 ((cfg0.slots t 0).cast nbuf0_0)
/-- Window 1's staging buffer at point `t`. -/
abbrev stg1 (t : Fin cfg0.N) : Memref sig .tc .vmem S1x2048x1024 .bf16 := win0_1.stage (cfg0.slots t 1)
/-- It is a whole buffer. -/
abbrev stgW1 (t : Fin cfg0.N) : (stg1 t).IsWhole := hstage0_1 ((cfg0.slots t 1).cast nbuf0_1)
/-- Window 2's staging buffer at point `t`. -/
abbrev stg2 (t : Fin cfg0.N) : Memref sig .tc .vmem S1x2048x512 .bf16 := win0_2.stage (cfg0.slots t 2)
/-- It is a whole buffer. -/
abbrev stgW2 (t : Fin cfg0.N) : (stg2 t).IsWhole := hstage0_2 ((cfg0.slots t 2).cast nbuf0_2)
/-- Window 3's staging buffer at point `t`. -/
abbrev stg3 (t : Fin cfg0.N) : Memref sig .tc .vmem S1x512 .f32 := win0_3.stage (cfg0.slots t 3)
/-- It is a whole buffer. -/
abbrev stgW3 (t : Fin cfg0.N) : (stg3 t).IsWhole := hstage0_3 ((cfg0.slots t 3).cast nbuf0_3)
/-- Window 4's staging buffer at point `t`. -/
abbrev stg4 (t : Fin cfg0.N) : Memref sig .tc .vmem S1x2048x512 .bf16 := win0_4.stage (cfg0.slots t 4)
/-- It is a whole buffer. -/
abbrev stgW4 (t : Fin cfg0.N) : (stg4 t).IsWhole := hstage0_4 ((cfg0.slots t 4).cast nbuf0_4)
/-- Scratch buffer 0. -/
abbrev scr0 : Memref sig .tc .vmem S256x512 .f32 := Memref.whole cc0_scratch0
/-- It is a whole buffer. -/
abbrev scrW0 : (scr0).IsWhole := Memref.isWhole_whole _
/-- Scratch buffer 1. -/
abbrev scr1 : Memref sig .tc .vmem S4096x512 .f32 := Memref.whole cc0_scratch1
/-- It is a whole buffer. -/
abbrev scrW1 : (scr1).IsWhole := Memref.isWhole_whole _
/-- Scratch buffer 2. -/
abbrev scr2 : Memref sig .tc .vmem S256x256 .f32 := Memref.whole cc0_scratch2
/-- It is a whole buffer. -/
abbrev scrW2 : (scr2).IsWhole := Memref.isWhole_whole _
/-- Scratch buffer 3. -/
abbrev scr3 : Memref sig .tc .vmem S256x128 .f32 := Memref.whole cc0_scratch3
/-- It is a whole buffer. -/
abbrev scrW3 : (scr3).IsWhole := Memref.isWhole_whole _
/-- Scratch buffer 4. -/
abbrev scr4 : Memref sig .tc .vmem S256x128 .f32 := Memref.whole cc0_scratch4
/-- It is a whole buffer. -/
abbrev scrW4 : (scr4).IsWhole := Memref.isWhole_whole _

/-- What the launch hands the body between points: the scratch buffers at some contents, the generator register at some state. -/
theorem between_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

theorem defs₀_row (t : Fin cfg0.N) :
    defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- The window of which the frame says nothing: the output. -/
def silent : Fin 5 → Bool := fun w => w.val == 4

/-- What the frame says of each buffer: an input's keeps its block, of the output and the scratch buffers nothing is said. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

theorem frameDats_A (c : Dev nD) (w : Fin cfg0.W) : (frameDats m 0 c).A w = V m c (Pipeline.arrRef spec0 w) := by
  dsimp only [frameDats]
theorem frameDats_before0 (c : Dev nD) (t : Fin cfg0.N) (d) : (frameDats m 0 c).before 0 t d = iblk m c 0 t :=
  before0_0_of m (frameDats m 0 c) (frameDats_A m c 0) (fun t => by dsimp only [frameDats]) t d
theorem frameDats_leaves0 (c : Dev nD) (t : Fin cfg0.N) :
    (frameDats m 0 c).leavesExact 0 t = owns (c : Thread nD τ) (stg0 t) fullShare (iblk m c 0 t) := by
  unfold Dat.leavesExact; rw [show cfg0.idle 0 (grid0.coords t) = false from rfl]; rfl
theorem frameDats_before1 (c : Dev nD) (t : Fin cfg0.N) (d) : (frameDats m 0 c).before 1 t d = iblk m c 1 t :=
  before0_1_of m (frameDats m 0 c) (frameDats_A m c 1) (fun t => by dsimp only [frameDats]) t d
theorem frameDats_leaves1 (c : Dev nD) (t : Fin cfg0.N) :
    (frameDats m 0 c).leavesExact 1 t = owns (c : Thread nD τ) (stg1 t) fullShare (iblk m c 1 t) := by
  unfold Dat.leavesExact; rw [show cfg0.idle 1 (grid0.coords t) = false from rfl]; rfl
theorem frameDats_before2 (c : Dev nD) (t : Fin cfg0.N) (d) : (frameDats m 0 c).before 2 t d = iblk m c 2 t :=
  before0_2_of m (frameDats m 0 c) (frameDats_A m c 2) (fun t => by dsimp only [frameDats]) t d
theorem frameDats_leaves2 (c : Dev nD) (t : Fin cfg0.N) :
    (frameDats m 0 c).leavesExact 2 t = owns (c : Thread nD τ) (stg2 t) fullShare (iblk m c 2 t) := by
  unfold Dat.leavesExact; rw [show cfg0.idle 2 (grid0.coords t) = false from rfl]; rfl
theorem frameDats_before3 (c : Dev nD) (t : Fin cfg0.N) (d) : (frameDats m 0 c).before 3 t d = iblk m c 3 t :=
  before0_3_of m (frameDats m 0 c) (frameDats_A m c 3) (fun t => by dsimp only [frameDats]) t d
theorem frameDats_leaves3 (c : Dev nD) (t : Fin cfg0.N) :
    (frameDats m 0 c).leavesExact 3 t = owns (c : Thread nD τ) (stg3 t) fullShare (iblk m c 3 t) := by
  unfold Dat.leavesExact; rw [show cfg0.idle 3 (grid0.coords t) = false from rfl]; rfl

/-- What the body takes at point `t`. -/
def framePre (c : Dev nD) (t : Fin cfg0.N) : sProp 𝕄 :=
  iprop((frameDats m 0 c).Φ t.castSucc ∗ (frameDats m 0 c).owesAt () t.castSucc
    ∗ (∃ d, owns (c : Thread nD τ) (stg0 t) fullShare ((frameDats m 0 c).before 0 t d))
    ∗ (∃ d, owns (c : Thread nD τ) (stg1 t) fullShare ((frameDats m 0 c).before 1 t d))
    ∗ (∃ d, owns (c : Thread nD τ) (stg2 t) fullShare ((frameDats m 0 c).before 2 t d))
    ∗ (∃ d, owns (c : Thread nD τ) (stg3 t) fullShare ((frameDats m 0 c).before 3 t d))
    ∗ (∃ d, owns (c : Thread nD τ) (stg4 t) fullShare d))

/-- What the body gives back at point `t`. -/
def framePost (c : Dev nD) (t : Fin cfg0.N) : sProp 𝕄 :=
  iprop((frameDats m 0 c).Φ t.succ ∗ (frameDats m 0 c).owesAt () t.succ
    ∗ (frameDats m 0 c).leavesExact 0 t
    ∗ (frameDats m 0 c).leavesExact 1 t
    ∗ (frameDats m 0 c).leavesExact 2 t
    ∗ (frameDats m 0 c).leavesExact 3 t
    ∗ (∃ d, owns (c : Thread nD τ) (stg4 t) fullShare d))

set_option maxHeartbeats 4000000 in
/-- The body at any point keeps what the frame says: one run for each place within a head. -/
theorem frame_body (c : Dev nD) (t : Fin cfg0.N) :
    framePre m c t ⊢ wp frame (wpE (defs₀ (F := F)) Variants.none c none) Set.univ (bodyAt0 t) (fun _ => framePost m c t) := by
  unfold framePre framePost bodyAt0
  simp only [frameDats_before0, frameDats_before1, frameDats_before2, frameDats_before3, frameDats_leaves0, frameDats_leaves1, frameDats_leaves2, frameDats_leaves3]
  rw [show (frameDats m 0 c).owesAt () t.succ = (frameDats m 0 c).owesAt () t.castSucc from rfl]
  rw [show (frameDats m 0 c).Φ t.castSucc = Pipeline.ΦA spec0 c from rfl, show (frameDats m 0 c).Φ t.succ = Pipeline.ΦA spec0 c from rfl, between_eq]
  have hq : t.val % 4 = 0 ∨ t.val % 4 = 1 ∨ t.val % 4 = 2 ∨ t.val % 4 = 3 := by omega
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩⟩
  rcases hq with hq | hq | hq | hq
  · iapply ((runA c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 ((isReset_iff t).mpr (by omega)) ((back_iff t).mpr (by omega)) ((isFirst_iff t).mpr (by omega)) (fun h => absurd ((forth_iff t).mp h) (by omega)) (iblk m c 0 t) (iblk m c 1 t) (iblk m c 2 t) (iblk m c 3 t) ).2.2.2.2.2 d4 s1 Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, H4, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _, _; isplitr; swap; iexact HS0; ipureintro; rfl
        isplitl [HS1]
        · unfold owns; iexists _, _; isplitr; swap; iexact HS1; ipureintro; rfl
        isplitl [HS2]
        · unfold owns; iexists _, _; isplitr; swap; iexact HS2; ipureintro; rfl
        isplitl [HS3]
        · unfold owns; iexists _, _; isplitr; swap; iexact HS3; ipureintro; rfl
        unfold owns; iexists _, _; isplitr; swap; iexact HS4; ipureintro; rfl
      iexact Hg
    isplitl [Ho]; · iexact Ho
    isplitl [H0]; · iexact H0
    isplitl [H1]; · iexact H1
    isplitl [H2]; · iexact H2
    isplitl [H3]; · iexact H3
    iexists _; iexact H4
  · iapply ((runB c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (fun h => absurd ((isReset_iff t).mp h) (by omega)) ((back_iff t).mpr (by omega)) (fun h => absurd ((isFirst_iff t).mp h) (by omega)) (fun h => absurd ((forth_iff t).mp h) (by omega)) (iblk m c 0 t) (iblk m c 1 t) (iblk m c 2 t) (iblk m c 3 t) s0 s2 s3 s4).2.2 d4 s1 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e0, HS0⟩, HS1, HS2, HS3, HS4⟩
    isplitl [HS0 HS1 HS2 HS3 HS4 Hg]
    · isplitl [HS0 HS1 HS2 HS3 HS4]
      · isplitl [HS0]
        · unfold owns; iexists _, _; isplitr; swap; iexact HS0; ipureintro; rfl
        isplitl [HS1]
        · unfold owns; iexists _, _; isplitr; swap; iexact HS1; ipureintro; rfl
        isplitl [HS2]
        · iexists _; iexact HS2
        isplitl [HS3]
        · iexists _; iexact HS3
        iexists _; iexact HS4
      iexact Hg
    isplitl [Ho]; · iexact Ho
    isplitl [H0]; · iexact H0
    isplitl [H1]; · iexact H1
    isplitl [H2]; · iexact H2
    isplitl [H3]; · iexact H3
    iexists _; iexact H4
  · iapply ((runC c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 ((isReset_iff t).mpr (by omega)) (fun h => absurd ((back_iff t).mp h) (by omega)) ((forth_iff t).mpr (by omega)) ((isTurn_iff t).mpr (by omega)) (iblk m c 0 t) (iblk m c 1 t) (iblk m c 2 t) (iblk m c 3 t) s1).2.2.2.2.2 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, ⟨%e, H4⟩, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · isplitl [HS0]
        · unfold owns; iexists _, _; isplitr; swap; iexact HS0; ipureintro; rfl
        isplitl [HS1]
        · iexists _; iexact HS1
        isplitl [HS2]
        · unfold owns; iexists _, _; isplitr; swap; iexact HS2; ipureintro; rfl
        isplitl [HS3]
        · unfold owns; iexists _, _; isplitr; swap; iexact HS3; ipureintro; rfl
        unfold owns; iexists _, _; isplitr; swap; iexact HS4; ipureintro; rfl
      iexact Hg
    isplitl [Ho]; · iexact Ho
    isplitl [H0]; · iexact H0
    isplitl [H1]; · iexact H1
    isplitl [H2]; · iexact H2
    isplitl [H3]; · iexact H3
    unfold owns; iexists _, _; isplitr; swap; iexact H4; ipureintro; rfl
  · iapply ((runD c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (fun h => absurd ((isReset_iff t).mp h) (by omega)) (fun h => absurd ((back_iff t).mp h) (by omega)) ((forth_iff t).mpr (by omega)) (fun h => absurd ((isTurn_iff t).mp h) (by omega)) (iblk m c 0 t) (iblk m c 1 t) (iblk m c 2 t) (iblk m c 3 t) s0 s2 s3 s4 s1).2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, ⟨%e, H4⟩, ⟨%e0, HS0⟩, HS1, HS2, HS3, HS4⟩
    isplitl [HS0 HS1 HS2 HS3 HS4 Hg]
    · isplitl [HS0 HS1 HS2 HS3 HS4]
      · isplitl [HS0]
        · unfold owns; iexists _, _; isplitr; swap; iexact HS0; ipureintro; rfl
        isplitl [HS1]
        · iexists _; iexact HS1
        isplitl [HS2]
        · iexists _; iexact HS2
        isplitl [HS3]
        · iexists _; iexact HS3
        iexists _; iexact HS4
      iexact Hg
    isplitl [Ho]; · iexact Ho
    isplitl [H0]; · iexact H0
    isplitl [H1]; · iexact H1
    isplitl [H2]; · iexact H2
    isplitl [H3]; · iexact H3
    unfold owns; iexists _, _; isplitr; swap; iexact H4; ipureintro; rfl

theorem frame_obligation (c : Dev nD) : BodyObligation (frameDats (F := F) m 0 c) (defs₀ (F := F)) Variants.none () Set.univ silent := fun t => by
  rw [bigSep_W0, bigSep_W0, defs₀_row]
  exact triple_restated (frame_body m c t) rfl .rfl fun _ => .rfl

set_option backward.isDefEq.respectTransparency.types false in
/-- Every run ends, the inputs unchanged and every counter at zero; nothing is said of the output. -/
theorem frame_run : θ_run defs (onTc (τ := τ) (main (F := F))) (s₀ m ρ) (fun r => (Pipeline.RDat.FramePost (cfgs 0) (fun c => (frameDats m 0 c).toRForget silent) (V m)) r ∧ r.2.sem = fun _ => 0) :=
  Pipeline.θ_run_frame_track_forget_shared (Q' := _) cfgs (frameDats m) (0 : Fin 1) launch₀0 defs₀ Variants.none silent m ρ main
    (hbody := fun c => (frame_obligation m c).loose) (hq := fun _ _ _ => rfl)
    (howed := fun _ _ => rfl) (V := V m) (hmain := hmain m Variants.none) (hA := frameDats_A m) (hin := fun _ => .rfl) (hout := fun _ => .rfl)

/-- The frame: the arguments end unchanged, every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (frame_run m ρ)

end Cert.KernelIdeal.Ret

end
-- ==== Proof.ValBase.lean ====
module

public import proofs.«01_k».proof.Proof.Chunk
public import proofs.«01_k».proof.Proof.Frame
public import Idealize.ShloMosaic.Lib.WholeRead
public import Idealize.ShloMosaic.Lib.VecWindow
public import Idealize.ShloMosaic.Lib.WritesUnit

@[expose] public section

set_option maxRecDepth 16384

noncomputable section

/-! What the body's loads read, and what its stores leave, in the words of the retention's sequences. -/
namespace Cert.KernelIdeal.Ret

open Idealize.ShloMosaic Idealize.ShloMosaic.TcCoe Idealize.ShloMosaic.Tactic
open Cert.KernelIdeal.Gen Cert.Retention

/-- A block of 2048 rows of queries, keys and values holds rows of the three sequences, at the places `ρ` gives. -/
structure Reads (x1 : Vec Ideal S1x2048x1024 .bf16) (q k v : ℕ → ℕ → ℝ) (ρ : ℕ → ℕ) : Prop where
  q : ∀ (r : Fin 2048) (d : Fin 256), x1 (ix3 (0 : Fin 1) r (⟨d.val, by omega⟩ : Fin 1024)) = ((q (ρ r) d : ℝ) : EReal)
  k : ∀ (r : Fin 2048) (d : Fin 256), x1 (ix3 (0 : Fin 1) r (⟨256 + d.val, by omega⟩ : Fin 1024)) = ((k (ρ r) d : ℝ) : EReal)
  v : ∀ (r : Fin 2048) (e : Fin 512), x1 (ix3 (0 : Fin 1) r (⟨512 + e.val, by omega⟩ : Fin 1024)) = ((v (ρ r) e : ℝ) : EReal)

section Loads
variable {x1 : Vec Ideal S1x2048x1024 .bf16} {q k v : ℕ → ℕ → ℝ} {ρ : ℕ → ℕ} (hr : Reads x1 q k v ρ)
variable {arg4 : Memref sig .tc .vmem S1x2048x1024 .bf16} (harg4 : arg4.IsWhole) (r0 : ℕ)
include hr

theorem load_q (inb : ∀ a, (![0, r0, 0] : Fin 3 → ℕ) a + S1x256x256.size a ≤ S1x2048x1024.size a) (m d : Fin 256) :
    View.readAt (Elt Ideal) arg4.view (Rect.unit (s := S1x2048x1024) ![0, r0, 0] S1x256x256.size inb).toLoadRect (harg4.unread x1) (ix3 (0 : Fin 1) m d)
      = ((q (ρ (r0 + m)) d : ℝ) : EReal) := by
  have h1 : r0 + 256 ≤ 2048 := inb 1
  rw [harg4.readAt_unread]
  refine Eq.trans (congrArg x1 ?_) (hr.q ⟨r0 + m, by omega⟩ d)
  refine funext fun a => Fin.ext ?_
  match a with
  | ⟨0, _⟩ => rfl
  | ⟨1, _⟩ => show r0 + 1 * m.val = r0 + m.val; omega
  | ⟨2, _⟩ => show 0 + 1 * d.val = d.val; omega

theorem load_k (inb : ∀ a, (![0, r0, 256] : Fin 3 → ℕ) a + S1x256x256.size a ≤ S1x2048x1024.size a) (m d : Fin 256) :
    View.readAt (Elt Ideal) arg4.view (Rect.unit (s := S1x2048x1024) ![0, r0, 256] S1x256x256.size inb).toLoadRect (harg4.unread x1) (ix3 (0 : Fin 1) m d)
      = ((k (ρ (r0 + m)) d : ℝ) : EReal) := by
  have h1 : r0 + 256 ≤ 2048 := inb 1
  rw [harg4.readAt_unread]
  refine Eq.trans (congrArg x1 ?_) (hr.k ⟨r0 + m, by omega⟩ d)
  refine funext fun a => Fin.ext ?_
  match a with
  | ⟨0, _⟩ => rfl
  | ⟨1, _⟩ => show r0 + 1 * m.val = r0 + m.val; omega
  | ⟨2, _⟩ => show 256 + 1 * d.val = 256 + d.val; omega

theorem load_v (inb : ∀ a, (![0, r0, 512] : Fin 3 → ℕ) a + S1x256x512.size a ≤ S1x2048x1024.size a) (m : Fin 256) (e : Fin 512) :
    View.readAt (Elt Ideal) arg4.view (Rect.unit (s := S1x2048x1024) ![0, r0, 512] S1x256x512.size inb).toLoadRect (harg4.unread x1) (ix3 (0 : Fin 1) m e)
      = ((v (ρ (r0 + m)) e : ℝ) : EReal) := by
  have h1 : r0 + 256 ≤ 2048 := inb 1
  rw [harg4.readAt_unread]
  refine Eq.trans (congrArg x1 ?_) (hr.v ⟨r0 + m, by omega⟩ e)
  refine funext fun a => Fin.ext ?_
  match a with
  | ⟨0, _⟩ => rfl
  | ⟨1, _⟩ => show r0 + 1 * m.val = r0 + m.val; omega
  | ⟨2, _⟩ => show 512 + 1 * e.val = 512 + e.val; omega

end Loads

/-- A whole load of a whole buffer reads its contents. -/
theorem load_full {s : Shape} {e : EltTy} {sp : Space} {a : Memref sig .tc sp s e} (h : a.IsWhole) (X : Vec Ideal s e) {off : Fin s.rank → ℕ}
    (inb : ∀ x, off x + s.size x ≤ s.size x) :
    View.readAt (Elt Ideal) a.view (Rect.unit off s.size inb).toLoadRect (h.unread X) = X := by
  funext x
  rw [h.readAt_unread]
  refine congrArg X (funext fun y => Fin.ext ?_)
  have := inb y
  show off y + 1 * (x y).val = (x y).val
  omega

section Chunks
variable {lg : FVec Ideal S1x1 .f32} {kd qd : FVec Ideal S256x128 .f32} {dm : FVec Ideal S256x256 .f32}
  {st : FVec Ideal S256x512 .f32} {x : EReal} {q k v : ℕ → ℕ → ℝ} {base : ℕ} {x1 : Vec Ideal S1x2048x1024 .bf16}
  {arg4 : Memref sig .tc .vmem S1x2048x1024 .bf16} (harg4 : arg4.IsWhole) (r0 : ℕ) (N : ℕ)

/-- Rows loaded forward: the chunk at row `r0`. -/
theorem fwdState (hr : Reads x1 q k v (fun r => base + r)) (hN : N = base + r0) (hlg : lg (ix2 0 0) = logFade x)
    (hw : ∀ (i : Fin 256) (j : Fin 128), kd (ix2 i j) = ((fade (logFade x) ^ (255 - i.val) * (1 / 16) : ℝ) : EReal)) {inbk inbv}
    (hs : ∀ (d : Fin 256) (e : Fin 512), st (ix2 d e) = ((stateR (fade (logFade x)) (scaled k) v N d e : ℝ) : EReal)) (d : Fin 256) (e : Fin 512) :
    chState lg kd (View.readAt (Elt Ideal) arg4.view (Rect.unit (s := S1x2048x1024) ![0, r0, 256] S1x256x256.size inbk).toLoadRect (harg4.unread x1))
      (View.readAt (Elt Ideal) arg4.view (Rect.unit (s := S1x2048x1024) ![0, r0, 512] S1x256x512.size inbv).toLoadRect (harg4.unread x1)) st (ix2 d e)
      = ((stateR (fade (logFade x)) (scaled k) v (N + 256) d e : ℝ) : EReal) := by
  refine fwd_state k v N hlg hw (fun m d => ?_) (fun m e => ?_) hs d e
  · rw [load_k hr harg4 r0 inbk, hN, Nat.add_assoc]
  · rw [load_v hr harg4 r0 inbv, hN, Nat.add_assoc]

theorem fwdOut (hr : Reads x1 q k v (fun r => base + r)) (hN : N = base + r0)
    (hm : ∀ i j : Fin 256, dm (ix2 i j) = (((if j.val ≤ i.val then fade (logFade x) ^ (i.val - j.val) else 0) * (1 / 16) : ℝ) : EReal))
    (hw : ∀ (i : Fin 256) (j : Fin 128), qd (ix2 i j) = ((fade (logFade x) ^ (i.val + 1) : ℝ) : EReal)) {inbq inbk inbv}
    (hs : ∀ (d : Fin 256) (e : Fin 512), st (ix2 d e) = ((stateR (fade (logFade x)) (scaled k) v N d e : ℝ) : EReal)) (n : Fin 256) (e : Fin 512) :
    chOut dm qd (View.readAt (Elt Ideal) arg4.view (Rect.unit (s := S1x2048x1024) ![0, r0, 0] S1x256x256.size inbq).toLoadRect (harg4.unread x1))
      (View.readAt (Elt Ideal) arg4.view (Rect.unit (s := S1x2048x1024) ![0, r0, 256] S1x256x256.size inbk).toLoadRect (harg4.unread x1))
      (View.readAt (Elt Ideal) arg4.view (Rect.unit (s := S1x2048x1024) ![0, r0, 512] S1x256x512.size inbv).toLoadRect (harg4.unread x1)) st (ix2 n e)
      = ((outR 0 (fade (logFade x)) q (scaled k) v (N + n) e : ℝ) : EReal) := by
  refine fwd_out q k v N hm hw (fun m d => ?_) (fun m d => ?_) (fun m e => ?_) hs n e
  · rw [load_q hr harg4 r0 inbq, hN, Nat.add_assoc]
  · rw [load_k hr harg4 r0 inbk, hN, Nat.add_assoc]
  · rw [load_v hr harg4 r0 inbv, hN, Nat.add_assoc]

/-- Rows loaded backward: the chunk at row `r0`. -/
theorem bwdState (hr : Reads x1 q k v (fun r => base + (2047 - r))) (hN : N + r0 = base + 1792) (h0 : r0 ≤ 1792) (hlg : lg (ix2 0 0) = logFade x)
    (hw : ∀ (i : Fin 256) (j : Fin 128), kd (ix2 i j) = ((fade (logFade x) ^ i.val * (1 / 16) : ℝ) : EReal)) {inbk inbv}
    (hs : ∀ (d : Fin 256) (e : Fin 512), st (ix2 d e) = ((stateR (fade (logFade x)) (scaled k) v N d e : ℝ) : EReal)) (d : Fin 256) (e : Fin 512) :
    chState lg kd (View.readAt (Elt Ideal) arg4.view (Rect.unit (s := S1x2048x1024) ![0, r0, 256] S1x256x256.size inbk).toLoadRect (harg4.unread x1))
      (View.readAt (Elt Ideal) arg4.view (Rect.unit (s := S1x2048x1024) ![0, r0, 512] S1x256x512.size inbv).toLoadRect (harg4.unread x1)) st (ix2 d e)
      = ((stateR (fade (logFade x)) (scaled k) v (N + 256) d e : ℝ) : EReal) := by
  refine bwd_state k v N hlg hw (fun m d => ?_) (fun m e => ?_) hs d e
  · rw [load_k hr harg4 r0 inbk, show base + (2047 - (r0 + m.val)) = N + (255 - m.val) by omega]
  · rw [load_v hr harg4 r0 inbv, show base + (2047 - (r0 + m.val)) = N + (255 - m.val) by omega]

theorem bwdOut (hr : Reads x1 q k v (fun r => base + (2047 - r))) (hN : N + r0 = base + 1792) (h0 : r0 ≤ 1792)
    (hm : ∀ i j : Fin 256, dm (ix2 i j) = (((if 1 + i.val ≤ j.val then fade (logFade x) ^ (j.val - i.val) else 0) * (1 / 16) : ℝ) : EReal))
    (hw : ∀ (i : Fin 256) (j : Fin 128), qd (ix2 i j) = ((fade (logFade x) ^ (256 - i.val) : ℝ) : EReal)) {inbq inbk inbv}
    (hs : ∀ (d : Fin 256) (e : Fin 512), st (ix2 d e) = ((stateR (fade (logFade x)) (scaled k) v N d e : ℝ) : EReal)) (n : Fin 256) (e : Fin 512) :
    chOut dm qd (View.readAt (Elt Ideal) arg4.view (Rect.unit (s := S1x2048x1024) ![0, r0, 0] S1x256x256.size inbq).toLoadRect (harg4.unread x1))
      (View.readAt (Elt Ideal) arg4.view (Rect.unit (s := S1x2048x1024) ![0, r0, 256] S1x256x256.size inbk).toLoadRect (harg4.unread x1))
      (View.readAt (Elt Ideal) arg4.view (Rect.unit (s := S1x2048x1024) ![0, r0, 512] S1x256x512.size inbv).toLoadRect (harg4.unread x1)) st (ix2 n e)
      = ((outR 1 (fade (logFade x)) q (scaled k) v (N + (255 - n)) e : ℝ) : EReal) := by
  refine bwd_out q k v N hm hw (fun m d => ?_) (fun m d => ?_) (fun m e => ?_) hs n e
  · rw [load_q hr harg4 r0 inbq, show base + (2047 - (r0 + m.val)) = N + (255 - m.val) by omega]
  · rw [load_k hr harg4 r0 inbk, show base + (2047 - (r0 + m.val)) = N + (255 - m.val) by omega]
  · rw [load_v hr harg4 r0 inbv, show base + (2047 - (r0 + m.val)) = N + (255 - m.val) by omega]

end Chunks

/-! ## Stores of 256 rows at a time -/

/-- The stores of a buffer of 4096 rows, each of 256 rows from a row of the list on, are of the rows of `T`. -/
def RowsOf (T : ℕ → ℕ → EReal) : List (View.Piece (Elt Ideal) S4096x512 .f32) → List ℕ → Prop
  | [], [] => True
  | p :: L, o :: os => (∃ (off : Fin 2 → ℕ) (inb : ∀ a : Fin 2, off a + S256x512.size a ≤ S4096x512.size a) (w : FVec Ideal S256x512 .f32),
      off = ![o, 0] ∧ p = ⟨Rect.unit (s := S4096x512) off S256x512.size inb, w⟩ ∧ ∀ (n : Fin 256) (e : Fin 512), w (ix2 n e) = T (o + n) e) ∧ RowsOf T L os
  | _, _ => False

theorem RowsOf.nil (T : ℕ → ℕ → EReal) : RowsOf T [] [] := trivial

theorem RowsOf.cons {T : ℕ → ℕ → EReal} {off : Fin 2 → ℕ} {o : ℕ} (hoff : off = ![o, 0]) {w : FVec Ideal S256x512 .f32}
    (hw : ∀ (n : Fin 256) (e : Fin 512), w (ix2 n e) = T (o + n) e) {inb : ∀ a : Fin 2, off a + S256x512.size a ≤ S4096x512.size a}
    {L : List (View.Piece (Elt Ideal) S4096x512 .f32)} {os : List ℕ} (hL : RowsOf T L os) :
    RowsOf T (⟨Rect.unit (s := S4096x512) off S256x512.size inb, w⟩ :: L) (o :: os) := ⟨⟨off, inb, w, hoff, rfl, hw⟩, hL⟩

theorem RowsOf.read {T : ℕ → ℕ → EReal} (v : View sig .tc .vmem S4096x512 .f32) (f : v.ty.Contents (Elt Ideal)) (r : Fin 4096) (e : Fin 512) :
    ∀ (L : List (View.Piece (Elt Ideal) S4096x512 .f32)) (os : List ℕ), RowsOf T L os →
      v.read (Elt Ideal) (v.writes (Elt Ideal) f L) (ix2 r e) = if ∃ o ∈ os, o ≤ r.val ∧ r.val < o + 256 then T r e else v.read (Elt Ideal) f (ix2 r e)
  | [], [], _ => by simp
  | [], _ :: _, h => h.elim
  | _ :: _, [], h => h.elim
  | p :: L, o :: os, ⟨⟨off, inb, w, hoff, hp, hw⟩, hL⟩ => by
    subst hp
    by_cases h : o ≤ r.val ∧ r.val < o + 256
    · rw [if_pos ⟨o, List.mem_cons_self, h⟩]
      refine (View.read_writes_cons_rows_of_mem v f inb w L (ix2 r e) (ix2 (⟨r.val - o, by omega⟩ : Fin 256) e) hoff ?_ rfl).trans ?_
      · show r.val = o + (r.val - o); omega
      · rw [hw]; congr 1; show o + (r.val - o) = r.val; omega
    · refine (View.read_writes_cons_rows_of_not_mem v f inb w L (ix2 r e) (W := 256) hoff rfl ?_).trans ?_
      · show r.val < o ∨ o + 256 ≤ r.val; omega
      · rw [RowsOf.read v f r e L os hL]
        congr 1
        refine propext ⟨fun ⟨o', ho, hh⟩ => ⟨o', List.mem_cons_of_mem _ ho, hh⟩, fun ⟨o', ho, hh⟩ => ?_⟩
        rcases List.mem_cons.1 ho with rfl | ho
        · exact absurd hh h
        · exact ⟨o', ho, hh⟩

/-- The stores of a block of 2048 rows of the output, each of 256 rows from a row of the list on, are of the rows of `T`. -/
def BlockOf (T : ℕ → ℕ → EReal) : List (View.Piece (Elt Ideal) S1x2048x512 .bf16) → List ℕ → Prop
  | [], [] => True
  | p :: L, o :: os => (∃ (inb : ∀ a : Fin 3, (![0, o, 0] : Fin 3 → ℕ) a + S1x256x512.size a ≤ S1x2048x512.size a) (w : FVec Ideal S1x256x512 .bf16),
      p = ⟨Rect.unit (s := S1x2048x512) ![0, o, 0] S1x256x512.size inb, w⟩ ∧ ∀ (n : Fin 256) (e : Fin 512), w (ix3 (0 : Fin 1) n e) = T (o + n) e) ∧ BlockOf T L os
  | _, _ => False

theorem BlockOf.nil (T : ℕ → ℕ → EReal) : BlockOf T [] [] := trivial

theorem BlockOf.cons {T : ℕ → ℕ → EReal} {o : ℕ} {w : FVec Ideal S1x256x512 .bf16}
    (hw : ∀ (n : Fin 256) (e : Fin 512), w (ix3 (0 : Fin 1) n e) = T (o + n) e)
    {inb : ∀ a : Fin 3, (![0, o, 0] : Fin 3 → ℕ) a + S1x256x512.size a ≤ S1x2048x512.size a}
    {L : List (View.Piece (Elt Ideal) S1x2048x512 .bf16)} {os : List ℕ} (hL : BlockOf T L os) :
    BlockOf T (⟨Rect.unit (s := S1x2048x512) ![0, o, 0] S1x256x512.size inb, w⟩ :: L) (o :: os) := ⟨⟨inb, w, rfl, hw⟩, hL⟩

theorem BlockOf.read {T : ℕ → ℕ → EReal} (v : View sig .tc .vmem S1x2048x512 .bf16) (f : v.ty.Contents (Elt Ideal)) (r : Fin 2048) (e : Fin 512) :
    ∀ (L : List (View.Piece (Elt Ideal) S1x2048x512 .bf16)) (os : List ℕ), BlockOf T L os → (∃ o ∈ os, o ≤ r.val ∧ r.val < o + 256) →
      v.read (Elt Ideal) (v.writes (Elt Ideal) f L) (ix3 (0 : Fin 1) r e) = T r e
  | [], [], _, h => by obtain ⟨_, h, _⟩ := h; exact absurd h List.not_mem_nil
  | [], _ :: _, h, _ => h.elim
  | _ :: _, [], h, _ => h.elim
  | p :: L, o :: os, ⟨⟨inb, w, hp, hw⟩, hL⟩, hc => by
    subst hp
    by_cases h : o ≤ r.val ∧ r.val < o + 256
    · refine (View.read_writes_cons_unit_of_mem v f inb w L (ix3 (0 : Fin 1) r e) (ix3 (0 : Fin 1) (⟨r.val - o, by omega⟩ : Fin 256) e) rfl ?_).trans ?_
      · intro a
        match a with
        | ⟨0, _⟩ => rfl
        | ⟨1, _⟩ => show r.val = o + (r.val - o); omega
        | ⟨2, _⟩ => show e.val = 0 + e.val; omega
      · rw [hw]; congr 1; show o + (r.val - o) = r.val; omega
    · refine (View.read_writes_cons_unit_of_not_mem v f inb w L (ix3 (0 : Fin 1) r e) rfl (1 : Fin 3) ?_).trans ?_
      · show r.val < o ∨ o + 256 ≤ r.val; omega
      · refine BlockOf.read v f r e L os hL ?_
        obtain ⟨o', ho, hh⟩ := hc
        rcases List.mem_cons.1 ho with rfl | ho
        · exact absurd hh h
        · exact ⟨o', ho, hh⟩

/-! ## The end of a row: the norm, the gain, the gate -/

/-- A row of 512 normalised, at the column whose value is `x`. -/
def normAt (y : Fin 512 → EReal) (x : EReal) : EReal :=
  (x - Ideal.div (∑ j, y j) (Ideal.ofBits .f32 0x44000000#32))
    * Ideal.rsqrt (Ideal.div (∑ j, (y j - Ideal.div (∑ l, y l) (Ideal.ofBits .f32 0x44000000#32)) * (y j - Ideal.div (∑ l, y l) (Ideal.ofBits .f32 0x44000000#32)))
        (Ideal.ofBits .f32 0x44000000#32) + Ideal.ofBits .f32 0x3727C5AC#32)

/-- A row normalised, scaled by the gain and gated, at column `e`. -/
def finAt (y : ℕ → EReal) (g gain : EReal) (e : ℕ) : EReal :=
  g * Ideal.div 1 (1 + Ideal.exp (0 - g)) * (normAt (fun j => y j) (y e) * gain)

section
variable {F : FTy → Type} [FloatOps F]
/-- The rows of a chunk as they are stored: the two directions added, normalised, scaled and gated. -/
def chFin (y yb : FVec F S256x512 .f32) (g : FVec F S1x256x512 .bf16) (gain : FVec F S1x512 .f32) : FVec F S1x256x512 .bf16 :=
  k0_pay88 (k0_pay87 y yb g gain)
end

theorem chFin_apply (y yb : FVec Ideal S256x512 .f32) (g : FVec Ideal S1x256x512 .bf16) (gain : FVec Ideal S1x512 .f32) (n : Fin 256) (e : Fin 512)
    (Y : ℕ → EReal) (hY : ∀ j : Fin 512, y (ix2 n j) + yb (ix2 n j) = Y j) :
    chFin y yb g gain (ix3 (0 : Fin 1) n e) = finAt Y (g (ix3 (0 : Fin 1) n e)) (gain (ix2 (0 : Fin 1) e)) e := by
  simp only [chFin, k0_pay88, k0_pay87, finAt, normAt]
  pointwise
  simp only [hY]

/-- The number of a point's head, read from the table of decays. -/
theorem load_scalar {arg3 : Memref sig .tc .smem S8 .f32} (harg3 : arg3.IsWhole) (x0 : Vec Ideal S8 .f32) (off : Fin 1 → ℕ) (o : Fin 8) (ho : off = ![o.val])
    (inb : ∀ a, off a + S1.size a ≤ S8.size a) (hne : S1.Idx) :
    View.readAt (Elt Ideal) arg3.view (Rect.unit (s := S8) off S1.size inb).toLoadRect (harg3.unread x0) hne = x0 (ix1 o) := by
  subst ho
  rw [harg3.readAt_unread]
  refine congrArg x0 (funext fun a => Fin.ext ?_)
  match a with
  | ⟨0, _⟩ =>
    have h : (hne 0).val < 1 := (hne 0).isLt
    show o.val + 1 * (hne 0).val = o.val
    omega

/-- Rows of a buffer of 4096 rows. -/
theorem load_rows {arg9 : Memref sig .tc .vmem S4096x512 .f32} (harg9 : arg9.IsWhole) (X : Vec Ideal S4096x512 .f32) {Tb : ℕ → ℕ → EReal}
    (hb : ∀ (r : Fin 4096) (e : Fin 512), X (ix2 r e) = Tb r e) {off : Fin 2 → ℕ} {o : ℕ} (ho : off = ![o, 0])
    {inb : ∀ a, off a + S256x512.size a ≤ S4096x512.size a} (n : Fin 256) (e : Fin 512) :
    View.readAt (Elt Ideal) arg9.view (Rect.unit (s := S4096x512) off S256x512.size inb).toLoadRect (harg9.unread X) (ix2 n e) = Tb (o + n) e := by
  subst ho
  have h1 : o + 256 ≤ 4096 := inb 0
  rw [harg9.readAt_unread]
  refine Eq.trans (congrArg X ?_) (hb ⟨o + n, by omega⟩ e)
  refine funext fun a => Fin.ext ?_
  match a with
  | ⟨0, _⟩ => show o + 1 * n.val = o + n.val; omega
  | ⟨1, _⟩ => show 0 + 1 * e.val = e.val; omega

/-- Rows of the gate. -/
theorem load_gate {arg5 : Memref sig .tc .vmem S1x2048x512 .bf16} (harg5 : arg5.IsWhole) (X : Vec Ideal S1x2048x512 .bf16) {G : ℕ → ℕ → EReal}
    (hg : ∀ (r : Fin 2048) (e : Fin 512), X (ix3 (0 : Fin 1) r e) = G r e) (r0 : ℕ)
    {inb : ∀ a, (![0, r0, 0] : Fin 3 → ℕ) a + S1x256x512.size a ≤ S1x2048x512.size a} (n : Fin 256) (e : Fin 512) :
    View.readAt (Elt Ideal) arg5.view (Rect.unit (s := S1x2048x512) ![0, r0, 0] S1x256x512.size inb).toLoadRect (harg5.unread X) (ix3 (0 : Fin 1) n e)
      = G (r0 + n) e := by
  have h1 : r0 + 256 ≤ 2048 := inb 1
  rw [harg5.readAt_unread]
  refine Eq.trans (congrArg X ?_) (hg ⟨r0 + n, by omega⟩ e)
  refine funext fun a => Fin.ext ?_
  match a with
  | ⟨0, _⟩ => rfl
  | ⟨1, _⟩ => show r0 + 1 * n.val = r0 + n.val; omega
  | ⟨2, _⟩ => show 0 + 1 * e.val = e.val; omega

/-- What a forward point stores for a chunk: the rows of the two directions added and finished. -/
theorem fin_rows {y yb : FVec Ideal S256x512 .f32} {g : FVec Ideal S1x256x512 .bf16} {gain : FVec Ideal S1x512 .f32} {Yf Yb G : ℕ → ℕ → EReal} {Gn : ℕ → EReal}
    {b r0 : ℕ} (hy : ∀ (n : Fin 256) (e : Fin 512), y (ix2 n e) = Yf (b + r0 + n) e) (hyb : ∀ (n : Fin 256) (e : Fin 512), yb (ix2 n e) = Yb (b + r0 + n) e)
    (hg : ∀ (n : Fin 256) (e : Fin 512), g (ix3 (0 : Fin 1) n e) = G (r0 + n) e) (hgn : ∀ e : Fin 512, gain (ix2 (0 : Fin 1) e) = Gn e) (n : Fin 256) (e : Fin 512) :
    chFin y yb g gain (ix3 (0 : Fin 1) n e) = finAt (fun j => Yf (b + (r0 + n)) j + Yb (b + (r0 + n)) j) (G (r0 + n) e) (Gn e) e := by
  rw [chFin_apply y yb g gain n e (fun j => Yf (b + (r0 + n)) j + Yb (b + (r0 + n)) j) (fun j => by rw [hy, hyb, Nat.add_assoc]), hg, hgn]

theorem zero_state (γ : ℝ) (k v : ℕ → ℕ → ℝ) (d : Fin 256) (e : Fin 512) : k0_pay1 (F := Ideal) (ix2 d e) = ((stateR γ k v 0 d e : ℝ) : EReal) := by
  rw [stateR_zero]
  simp only [k0_pay1]
  pointwise
  rfl

theorem pay2_apply (y : FVec Ideal S256x512 .f32) (n : Fin 256) (e : Fin 512) : k0_pay2 y (ix2 n e) = y (ix2 n e) := by
  simp only [k0_pay2]
  pointwise

end Cert.KernelIdeal.Ret

end
-- ==== Proof.Spec.lean ====
module

public import proofs.«01_k».proof.Proof.ValBase

@[expose] public section

noncomputable section

/-! The retention's result as a function of the arguments, at an index. -/
namespace Cert.Retention

open Idealize.ShloMosaic Idealize.ShloMosaic.TcCoe
open Cert.KernelIdeal.Ret (logFade scaled finAt)

/-- A table of numbers read at any two naturals: zero outside. -/
def tot {n k : ℕ} (X : Fin n → Fin k → EReal) (r c : ℕ) : EReal := if h : r < n ∧ c < k then X ⟨r, h.1⟩ ⟨c, h.2⟩ else 0

theorem tot_eq {n k : ℕ} (X : Fin n → Fin k → EReal) (r : Fin n) (c : Fin k) : tot X r c = X r c := by
  unfold tot; rw [dif_pos ⟨r.isLt, c.isLt⟩]

theorem tot_of {n k : ℕ} (X : Fin n → Fin k → EReal) {r c : ℕ} (hr : r < n) (hc : c < k) : tot X r c = X ⟨r, hr⟩ ⟨c, hc⟩ := by
  unfold tot; rw [dif_pos ⟨hr, hc⟩]

/-- The rows from `row` on and the columns from `col` on of a table of activations. -/
def seqOf (A : ℕ → ℕ → EReal) (row col : ℕ) : ℕ → ℕ → ℝ := fun n d => (A (row + n) (col + d)).toReal

/-- A sequence of 4096 rows read from its last row to its first. -/
def backSeq (s : ℕ → ℕ → ℝ) : ℕ → ℕ → ℝ := fun n d => s (4095 - n) d

/-- Row `n` of the retention of head `h` of sequence `b`: what comes from the rows up to it, and what comes from the rows after it. -/
def retRow (A : ℕ → ℕ → EReal) (xf xb : EReal) (b h n e : ℕ) : EReal :=
  ((outR 0 (fade (logFade xf)) (seqOf A (4096 * b) (1024 * h)) (scaled (seqOf A (4096 * b) (1024 * h + 256))) (seqOf A (4096 * b) (1024 * h + 512)) n e : ℝ) : EReal)
    + ((outR 1 (fade (logFade xb)) (backSeq (seqOf A (4096 * b) (1024 * h))) (scaled (backSeq (seqOf A (4096 * b) (1024 * h + 256))))
        (backSeq (seqOf A (4096 * b) (1024 * h + 512))) (4095 - n) e : ℝ) : EReal)

/-- The result at sequence `b`, row `n`, column `c`: the retention of the column's head, normalised, scaled by the gain, gated. -/
def resultAt (A : ℕ → ℕ → EReal) (Df Db gain : ℕ → EReal) (b n c : ℕ) : EReal :=
  finAt (retRow A (Df (c / 512)) (Db (c / 512)) b (c / 512) n) (A (4096 * b + n) (4096 + c)) (gain c) (c % 512)

end Cert.Retention

end
-- ==== Proof.KBlocks.lean ====
module

public import proofs.«01_k».proof.Proof.Spec
public import Idealize.ShloMosaic.Lib.Pipeline.ValueKit

@[expose] public section

set_option maxRecDepth 16384

noncomputable section

/-! The blocks of the five windows, in the arguments. -/
namespace Cert.KernelIdeal.Ret

open Idealize.ShloMosaic Idealize.ShloMosaic.TcCoe Idealize.ShloMosaic.Tactic
open Idealize.SL Idealize.SL.Sem
open Cert.KernelIdeal.Gen Cert.Retention

variable (m : (ℓ : Loc nD τ sig) → Buf (Elt Ideal) ℓ)

/-- The activations a launch finds. -/
def acts (c : Dev nD) : ℕ → ℕ → EReal := tot fun (r : Fin 16384) (k : Fin 8192) => (m ((c : Thread nD τ).loc main_arg0) : Vec Ideal S16384x8192 .bf16) (ix2 r k)
/-- Its decays, forward and backward, and its gains. -/
def decF (c : Dev nD) : ℕ → EReal := tot (fun (_ : Fin 1) (k : Fin 4) => (m ((c : Thread nD τ).loc main_arg1) : Vec Ideal S1x4 .f32) (ix2 0 k)) 0
def decB (c : Dev nD) : ℕ → EReal := tot (fun (_ : Fin 1) (k : Fin 4) => (m ((c : Thread nD τ).loc main_arg2) : Vec Ideal S1x4 .f32) (ix2 0 k)) 0
def gains (c : Dev nD) : ℕ → EReal := tot (fun (_ : Fin 1) (k : Fin 2048) => (m ((c : Thread nD τ).loc main_arg3) : Vec Ideal S1x2048 .f32) (ix2 0 k)) 0

theorem idx0 : ∀ t : Fin grid0.N, win0_0.index t = ![0] := by decide +kernel
theorem idx1 : ∀ t : Fin grid0.N, win0_1.index t = ![t.val / 16, if t.val % 4 < 2 then 1 - t.val % 4 else t.val % 4 - 2, t.val / 4 % 4] := by decide +kernel
theorem idx2 : ∀ t : Fin grid0.N, win0_2.index t = ![t.val / 16, t.val % 4 - 2, 8 + t.val / 4 % 4] := by decide +kernel
theorem idx3 : ∀ t : Fin grid0.N, win0_3.index t = ![0, t.val / 4 % 4] := by decide +kernel
theorem idx4 : ∀ t : Fin grid0.N, win0_4.index t = ![t.val / 16, t.val % 4 - 2, t.val / 4 % 4] := by decide +kernel
theorem coord1 : ∀ t : Fin grid0.N, (grid0.coords t 1).val = t.val / 4 % 4 := by decide +kernel
theorem coord2 : ∀ t : Fin grid0.N, (grid0.coords t 2).val = t.val % 4 := by decide +kernel

theorem V_v5 (c : Dev nD) : V m c main_v5 = shapeCast S4x4096x8192 (m ((c : Thread nD τ).loc main_arg0) : Vec Ideal S16384x8192 .bf16) shapeCasts_S16384x8192_S4x4096x8192 := rfl
theorem V_v4 (c : Dev nD) : V m c main_v4 = shapeCast S1x2048 (shapeCast S2048 (m ((c : Thread nD τ).loc main_arg3) : Vec Ideal S1x2048 .f32) shapeCasts_S1x2048_S2048) shapeCasts_S2048_S1x2048 := rfl
theorem V_v2 (c : Dev nD) : V m c main_v2 = concatenate S8 0 [⟨S4, shapeCast S4 (m ((c : Thread nD τ).loc main_arg1) : Vec Ideal S1x4 .f32) shapeCasts_S1x4_S4⟩,
    ⟨S4, shapeCast S4 (m ((c : Thread nD τ).loc main_arg2) : Vec Ideal S1x4 .f32) shapeCasts_S1x4_S4⟩] concatenates_S4_S4_S8_d0 := rfl

theorem v5_apply (c : Dev nD) (b : Fin 4) (r : Fin 4096) (k : Fin 8192) :
    (V m c main_v5 : Vec Ideal S4x4096x8192 .bf16) (ix3 b r k) = acts m c (4096 * b + r) k := by
  rw [V_v5, acts, tot_of _ (by omega) k.isLt]
  have hb : b.val < 4 := b.isLt
  refine shapeCast_apply _ _ _ (ix2 (⟨4096 * b + r, by omega⟩ : Fin 16384) k) ?_
  rw [Shape.rowMajor_val_two, Shape.rowMajor_val_three]
  show (4096 * b.val + r.val) * 8192 + k.val = (b.val * 4096 + r.val) * 8192 + k.val
  omega

theorem v2_apply (c : Dev nD) (k : Fin 4) :
    (V m c main_v2 : Vec Ideal S8 .f32) (ix1 (⟨k, by omega⟩ : Fin 8)) = decF m c k ∧ (V m c main_v2 : Vec Ideal S8 .f32) (ix1 (⟨4 + k, by omega⟩ : Fin 8)) = decB m c k := by
  rw [V_v2, decF, decB, tot_of _ (by omega) k.isLt, tot_of _ (by omega) k.isLt]
  constructor
  · pointwise
  · pointwise

theorem v4_apply (c : Dev nD) (k : Fin 2048) : (V m c main_v4 : Vec Ideal S1x2048 .f32) (ix2 (0 : Fin 1) k) = gains m c k := by
  rw [V_v4, gains, tot_of _ (by omega) k.isLt]
  pointwise
  try rfl

theorem blk0 (c : Dev nD) (t : Fin cfg0.N) (k : Fin 8) : (iblk m c 0 t : Vec Ideal S8 .f32) (ix1 k) = (V m c main_v2 : Vec Ideal S8 .f32) (ix1 k) := by
  blk_simp [iblk]
  refine congrArg (V m c main_v2) ?_
  blk_ext [idx0 t]

theorem blk1 (c : Dev nD) (t : Fin cfg0.N) (r : Fin 2048) (k : Fin 1024) :
    (iblk m c 1 t : Vec Ideal S1x2048x1024 .bf16) (ix3 (0 : Fin 1) r k)
      = acts m c (4096 * (t.val / 16) + (2048 * (if t.val % 4 < 2 then 1 - t.val % 4 else t.val % 4 - 2) + r)) (1024 * (t.val / 4 % 4) + k) := by
  have ht : t.val < 64 := t.isLt
  have h := v5_apply m c ⟨t.val / 16, by omega⟩ ⟨2048 * (if t.val % 4 < 2 then 1 - t.val % 4 else t.val % 4 - 2) + r, by split <;> omega⟩ ⟨1024 * (t.val / 4 % 4) + k, by omega⟩
  refine Eq.trans ?_ h
  blk_simp [iblk]
  refine congrArg (V m c main_v5) ?_
  blk_ext [idx1 t]

theorem blk2 (c : Dev nD) (t : Fin cfg0.N) (r : Fin 2048) (k : Fin 512) :
    (iblk m c 2 t : Vec Ideal S1x2048x512 .bf16) (ix3 (0 : Fin 1) r k)
      = acts m c (4096 * (t.val / 16) + (2048 * (t.val % 4 - 2) + r)) (4096 + (512 * (t.val / 4 % 4) + k)) := by
  have ht : t.val < 64 := t.isLt
  have h := v5_apply m c ⟨t.val / 16, by omega⟩ ⟨2048 * (t.val % 4 - 2) + r, by omega⟩ ⟨4096 + (512 * (t.val / 4 % 4) + k), by omega⟩
  refine Eq.trans ?_ h
  blk_simp [iblk]
  refine congrArg (V m c main_v5) ?_
  blk_ext [idx2 t]

theorem blk3 (c : Dev nD) (t : Fin cfg0.N) (k : Fin 512) :
    (iblk m c 3 t : Vec Ideal S1x512 .f32) (ix2 (0 : Fin 1) k) = gains m c (512 * (t.val / 4 % 4) + k) := by
  have ht : t.val < 64 := t.isLt
  have h := v4_apply m c ⟨512 * (t.val / 4 % 4) + k, by omega⟩
  refine Eq.trans ?_ h
  blk_simp [iblk]
  refine congrArg (V m c main_v4) ?_
  blk_ext [idx3 t]

end Cert.KernelIdeal.Ret

end
-- ==== Proof.ValA.lean ====
module

public import proofs.«01_k».proof.Proof.ValBase

@[expose] public section

set_option maxRecDepth 16384

noncomputable section

/-! The first point of a head: the upper half of the rows, passed backward from nothing. -/
namespace Cert.KernelIdeal.Ret

open Idealize.ShloMosaic Idealize.ShloMosaic.TcCoe Idealize.ShloMosaic.Tactic
open Cert.KernelIdeal.Gen Cert.Retention

section
variable (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
variable (h0 : isReset i) (h1 : k0_cond2 i = 1#1) (h2 : isFirst i) (h3 : ¬ k0_cond4 i = 1#1)
variable (x0 : Vec Ideal S8 .f32) (x1 : Vec Ideal S1x2048x1024 .bf16) (x2 : Vec Ideal S1x2048x512 .bf16) (x3 : Vec Ideal S1x512 .f32)
variable {q k v : ℕ → ℕ → ℝ} {x : EReal}
  (hr : Reads x1 q k v (fun r => 0 + (2047 - r))) (hx : (runA.sl.r c i arg3 harg3 h1 x0) = x)
  (hi : (i 2).val = 0)

include c i arg3 harg3 arg4 harg4 arg5 harg5 arg6 harg6 arg7 harg7 arg8 harg8 arg9 harg9 arg10 harg10 arg11 harg11 arg12 harg12 h0 h1 h2 h3 x0 x1 x2 x3 hr hx hi

theorem A_lg : (runA.sl.r_1 c i arg3 harg3 h1 x0) (ix2 0 0) = logFade x := (pay6_apply _ _ _).trans (congrArg logFade hx)

theorem A_dm : ∀ a b : Fin 256, (runA.sl.v40 c i arg3 harg3 arg10 h1 x0) (ix2 a b) = (((if 1 + a.val ≤ b.val then fade (logFade x) ^ (b.val - a.val) else 0) * (1 / 16) : ℝ) : EReal) := fun i1 j1 =>
  (congrFun (show (runA.sl.v40 c i arg3 harg3 arg10 h1 x0) = k0_pay8 (F := Ideal) (runA.sl.r c i arg3 harg3 h1 x0) from View.readCov_full _ _ _ _ _) _).trans (by rw [hx]; exact decB_dm x i1 j1)

theorem A_kd : ∀ (a : Fin 256) (b : Fin 128), (runA.sl.v45 c i arg3 harg3 arg11 h1 x0) (ix2 a b) = ((fade (logFade x) ^ a.val * (1 / 16) : ℝ) : EReal) := fun i1 j1 =>
  (congrFun (show (runA.sl.v45 c i arg3 harg3 arg11 h1 x0) = k0_pay9 (F := Ideal) (runA.sl.r c i arg3 harg3 h1 x0) from View.readCov_full _ _ _ _ _) _).trans (by rw [hx]; exact decB_kd x i1 j1)

theorem A_qd : ∀ (a : Fin 256) (b : Fin 128), (runA.sl.v50 c i arg3 harg3 arg12 h1 x0) (ix2 a b) = ((fade (logFade x) ^ (256 - a.val) : ℝ) : EReal) := fun i1 j1 =>
  (congrFun (show (runA.sl.v50 c i arg3 harg3 arg12 h1 x0) = k0_pay10 (F := Ideal) (runA.sl.r c i arg3 harg3 h1 x0) from View.readCov_full _ _ _ _ _) _).trans (by rw [hx]; exact decB_qd x i1 j1)

theorem A_s0 : ∀ (d : Fin 256) (e : Fin 512), (runA.sl.v52 (F := Ideal) c arg8) (ix2 d e) = ((stateR (fade (logFade x)) (scaled k) v 0 d e : ℝ) : EReal) := fun d e =>
  (congrFun (show (runA.sl.v52 (F := Ideal) c arg8) = k0_pay1 (F := Ideal) from View.readCov_full _ _ _ _ _) _).trans (zero_state _ _ _ d e)

theorem A_s1 : ∀ (d : Fin 256) (e : Fin 512), (runA.sl.v91 c i arg3 harg3 arg4 harg4 arg8 arg11 h1 x0 x1) (ix2 d e) = ((stateR (fade (logFade x)) (scaled k) v 256 d e : ℝ) : EReal) := fun d e =>
  (congrFun (show (runA.sl.v91 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runA.sl.v52 (F := Ideal) c arg8) from View.readCov_full _ _ _ _ _) _).trans
    (bwdState harg4 1792 0 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s0 c i arg3 harg3 arg4 harg4 arg5 harg5 arg6 harg6 arg7 harg7 arg8 harg8 arg9 harg9 arg10 harg10 arg11 harg11 arg12 harg12 h0 h1 h2 h3 x0 x1 x2 x3 hr hx hi) d e)

theorem A_s2 : ∀ (d : Fin 256) (e : Fin 512), (runA.sl.v130 c i arg3 harg3 arg4 harg4 arg8 arg11 h1 x0 x1) (ix2 d e) = ((stateR (fade (logFade x)) (scaled k) v 512 d e : ℝ) : EReal) := fun d e =>
  (congrFun (show (runA.sl.v130 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runA.sl.v91 c i arg3 harg3 arg4 harg4 arg8 arg11 h1 x0 x1) from View.readCov_full _ _ _ _ _) _).trans
    (bwdState harg4 1536 256 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s1 c i arg3 harg3 arg4 harg4 arg5 harg5 arg6 harg6 arg7 harg7 arg8 harg8 arg9 harg9 arg10 harg10 arg11 harg11 arg12 harg12 h0 h1 h2 h3 x0 x1 x2 x3 hr hx hi) d e)

theorem A_s3 : ∀ (d : Fin 256) (e : Fin 512), (runA.sl.v169 c i arg3 harg3 arg4 harg4 arg8 arg11 h1 x0 x1) (ix2 d e) = ((stateR (fade (logFade x)) (scaled k) v 768 d e : ℝ) : EReal) := fun d e =>
  (congrFun (show (runA.sl.v169 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runA.sl.v130 c i arg3 harg3 arg4 harg4 arg8 arg11 h1 x0 x1) from View.readCov_full _ _ _ _ _) _).trans
    (bwdState harg4 1280 512 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s2 c i arg3 harg3 arg4 harg4 arg5 harg5 arg6 harg6 arg7 harg7 arg8 harg8 arg9 harg9 arg10 harg10 arg11 harg11 arg12 harg12 h0 h1 h2 h3 x0 x1 x2 x3 hr hx hi) d e)

theorem A_s4 : ∀ (d : Fin 256) (e : Fin 512), (runA.sl.v208 c i arg3 harg3 arg4 harg4 arg8 arg11 h1 x0 x1) (ix2 d e) = ((stateR (fade (logFade x)) (scaled k) v 1024 d e : ℝ) : EReal) := fun d e =>
  (congrFun (show (runA.sl.v208 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runA.sl.v169 c i arg3 harg3 arg4 harg4 arg8 arg11 h1 x0 x1) from View.readCov_full _ _ _ _ _) _).trans
    (bwdState harg4 1024 768 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s3 c i arg3 harg3 arg4 harg4 arg5 harg5 arg6 harg6 arg7 harg7 arg8 harg8 arg9 harg9 arg10 harg10 arg11 harg11 arg12 harg12 h0 h1 h2 h3 x0 x1 x2 x3 hr hx hi) d e)

theorem A_s5 : ∀ (d : Fin 256) (e : Fin 512), (runA.sl.v247 c i arg3 harg3 arg4 harg4 arg8 arg11 h1 x0 x1) (ix2 d e) = ((stateR (fade (logFade x)) (scaled k) v 1280 d e : ℝ) : EReal) := fun d e =>
  (congrFun (show (runA.sl.v247 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runA.sl.v208 c i arg3 harg3 arg4 harg4 arg8 arg11 h1 x0 x1) from View.readCov_full _ _ _ _ _) _).trans
    (bwdState harg4 768 1024 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s4 c i arg3 harg3 arg4 harg4 arg5 harg5 arg6 harg6 arg7 harg7 arg8 harg8 arg9 harg9 arg10 harg10 arg11 harg11 arg12 harg12 h0 h1 h2 h3 x0 x1 x2 x3 hr hx hi) d e)

theorem A_s6 : ∀ (d : Fin 256) (e : Fin 512), (runA.sl.v286 c i arg3 harg3 arg4 harg4 arg8 arg11 h1 x0 x1) (ix2 d e) = ((stateR (fade (logFade x)) (scaled k) v 1536 d e : ℝ) : EReal) := fun d e =>
  (congrFun (show (runA.sl.v286 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runA.sl.v247 c i arg3 harg3 arg4 harg4 arg8 arg11 h1 x0 x1) from View.readCov_full _ _ _ _ _) _).trans
    (bwdState harg4 512 1280 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s5 c i arg3 harg3 arg4 harg4 arg5 harg5 arg6 harg6 arg7 harg7 arg8 harg8 arg9 harg9 arg10 harg10 arg11 harg11 arg12 harg12 h0 h1 h2 h3 x0 x1 x2 x3 hr hx hi) d e)

theorem A_s7 : ∀ (d : Fin 256) (e : Fin 512), (runA.sl.v325 c i arg3 harg3 arg4 harg4 arg8 arg11 h1 x0 x1) (ix2 d e) = ((stateR (fade (logFade x)) (scaled k) v 1792 d e : ℝ) : EReal) := fun d e =>
  (congrFun (show (runA.sl.v325 c i arg3 harg3 arg4 harg4 arg8 arg11 h1 x0 x1) = chState (runA.sl.r_1 c i arg3 harg3 h1 x0) (runA.sl.v45 c i arg3 harg3 arg11 h1 x0) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runA.sl.v286 c i arg3 harg3 arg4 harg4 arg8 arg11 h1 x0 x1) from View.readCov_full _ _ _ _ _) _).trans
    (bwdState harg4 256 1536 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s6 c i arg3 harg3 arg4 harg4 arg5 harg5 arg6 harg6 arg7 harg7 arg8 harg8 arg9 harg9 arg10 harg10 arg11 harg11 arg12 harg12 h0 h1 h2 h3 x0 x1 x2 x3 hr hx hi) d e)

theorem A_state (f : arg8.view.ty.Contents (Elt Ideal)) : ∀ (d : Fin 256) (e : Fin 512), arg8.view.read (Elt Ideal) (arg8.view.writes (Elt Ideal) f (runA (F := Ideal) c i arg3 harg3 arg4 harg4 arg5 harg5 arg6 harg6 arg7 harg7 arg8 harg8 arg9 harg9 arg10 harg10 arg11 harg11 arg12 harg12 h0 h1 h2 h3 x0 x1 x2 x3).1) (ix2 d e) = ((stateR (fade (logFade x)) (scaled k) v 2048 d e : ℝ) : EReal) := fun d e => by
  dsimp only [runA]
  refine (congrFun (View.read_writes_full _ _ _ _ _) _).trans ?_
  show chState (runA.sl.r_1 c i arg3 harg3 h1 x0) (runA.sl.v45 c i arg3 harg3 arg11 h1 x0) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runA.sl.v325 c i arg3 harg3 arg4 harg4 arg8 arg11 h1 x0 x1) (ix2 d e) = _
  exact bwdState harg4 0 1792 hr (by omega) (by omega) (A_lg c i arg3 harg3 arg4 harg4 arg5 harg5 arg6 harg6 arg7 harg7 arg8 harg8 arg9 harg9 arg10 harg10 arg11 harg11 arg12 harg12 h0 h1 h2 h3 x0 x1 x2 x3 hr hx hi) (A_kd c i arg3 harg3 arg4 harg4 arg5 harg5 arg6 harg6 arg7 harg7 arg8 harg8 arg9 harg9 arg10 harg10 arg11 harg11 arg12 harg12 h0 h1 h2 h3 x0 x1 x2 x3 hr hx hi) (A_s7 c i arg3 harg3 arg4 harg4 arg5 harg5 arg6 harg6 arg7 harg7 arg8 harg8 arg9 harg9 arg10 harg10 arg11 harg11 arg12 harg12 h0 h1 h2 h3 x0 x1 x2 x3 hr hx hi) d e

theorem A_dm' (f : arg10.view.ty.Contents (Elt Ideal)) : ∀ a b : Fin 256, arg10.view.read (Elt Ideal) (arg10.view.writes (Elt Ideal) f (runA (F := Ideal) c i arg3 harg3 arg4 harg4 arg5 harg5 arg6 harg6 arg7 harg7 arg8 harg8 arg9 harg9 arg10 harg10 arg11 harg11 arg12 harg12 h0 h1 h2 h3 x0 x1 x2 x3).2.1) (ix2 a b) = (((if 1 + a.val ≤ b.val then fade (logFade x) ^ (b.val - a.val) else 0) * (1 / 16) : ℝ) : EReal) := fun i1 j1 => by
  dsimp only [runA]
  refine (congrFun (View.read_writes_full _ _ _ _ _) _).trans ?_
  show k0_pay8 (F := Ideal) (runA.sl.r c i arg3 harg3 h1 x0) (ix2 i1 j1) = _
  rw [hx]; exact decB_dm x i1 j1

theorem A_kd' (f : arg11.view.ty.Contents (Elt Ideal)) : ∀ (a : Fin 256) (b : Fin 128), arg11.view.read (Elt Ideal) (arg11.view.writes (Elt Ideal) f (runA (F := Ideal) c i arg3 harg3 arg4 harg4 arg5 harg5 arg6 harg6 arg7 harg7 arg8 harg8 arg9 harg9 arg10 harg10 arg11 harg11 arg12 harg12 h0 h1 h2 h3 x0 x1 x2 x3).2.2.1) (ix2 a b) = ((fade (logFade x) ^ a.val * (1 / 16) : ℝ) : EReal) := fun i1 j1 => by
  dsimp only [runA]
  refine (congrFun (View.read_writes_full _ _ _ _ _) _).trans ?_
  show k0_pay9 (F := Ideal) (runA.sl.r c i arg3 harg3 h1 x0) (ix2 i1 j1) = _
  rw [hx]; exact decB_kd x i1 j1

theorem A_qd' (f : arg12.view.ty.Contents (Elt Ideal)) : ∀ (a : Fin 256) (b : Fin 128), arg12.view.read (Elt Ideal) (arg12.view.writes (Elt Ideal) f (runA (F := Ideal) c i arg3 harg3 arg4 harg4 arg5 harg5 arg6 harg6 arg7 harg7 arg8 harg8 arg9 harg9 arg10 harg10 arg11 harg11 arg12 harg12 h0 h1 h2 h3 x0 x1 x2 x3).2.2.2.1) (ix2 a b) = ((fade (logFade x) ^ (256 - a.val) : ℝ) : EReal) := fun i1 j1 => by
  dsimp only [runA]
  refine (congrFun (View.read_writes_full _ _ _ _ _) _).trans ?_
  show k0_pay10 (F := Ideal) (runA.sl.r c i arg3 harg3 h1 x0) (ix2 i1 j1) = _
  rw [hx]; exact decB_qd x i1 j1

theorem A_p0 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 0, 0] S1x256x256.size inb_S1x2048x1024_S1x256x256_0_0_0).toLoadRect (harg4.unread x1)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runA.sl.v325 c i arg3 harg3 arg4 harg4 arg8 arg11 h1 x0 x1)) (ix2 n e)
    = ((outR 1 (fade (logFade x)) q (scaled k) v (4095 - (2048 + n.val)) e : ℝ) : EReal) := by
  rw [pay2_apply, bwdOut harg4 0 1792 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s7 c i arg3 harg3 arg4 harg4 arg5 harg5 arg6 harg6 arg7 harg7 arg8 harg8 arg9 harg9 arg10 harg10 arg11 harg11 arg12 harg12 h0 h1 h2 h3 x0 x1 x2 x3 hr hx hi) n e, show 1792 + (255 - n.val) = 4095 - (2048 + n.val) by omega]

theorem A_p1 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 256, 0] S1x256x256.size inb_S1x2048x1024_S1x256x256_0_256_0).toLoadRect (harg4.unread x1)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runA.sl.v286 c i arg3 harg3 arg4 harg4 arg8 arg11 h1 x0 x1)) (ix2 n e)
    = ((outR 1 (fade (logFade x)) q (scaled k) v (4095 - (2304 + n.val)) e : ℝ) : EReal) := by
  rw [pay2_apply, bwdOut harg4 256 1536 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s6 c i arg3 harg3 arg4 harg4 arg5 harg5 arg6 harg6 arg7 harg7 arg8 harg8 arg9 harg9 arg10 harg10 arg11 harg11 arg12 harg12 h0 h1 h2 h3 x0 x1 x2 x3 hr hx hi) n e, show 1536 + (255 - n.val) = 4095 - (2304 + n.val) by omega]

theorem A_p2 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 512, 0] S1x256x256.size inb_S1x2048x1024_S1x256x256_0_512_0).toLoadRect (harg4.unread x1)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runA.sl.v247 c i arg3 harg3 arg4 harg4 arg8 arg11 h1 x0 x1)) (ix2 n e)
    = ((outR 1 (fade (logFade x)) q (scaled k) v (4095 - (2560 + n.val)) e : ℝ) : EReal) := by
  rw [pay2_apply, bwdOut harg4 512 1280 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s5 c i arg3 harg3 arg4 harg4 arg5 harg5 arg6 harg6 arg7 harg7 arg8 harg8 arg9 harg9 arg10 harg10 arg11 harg11 arg12 harg12 h0 h1 h2 h3 x0 x1 x2 x3 hr hx hi) n e, show 1280 + (255 - n.val) = 4095 - (2560 + n.val) by omega]

theorem A_p3 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 768, 0] S1x256x256.size inb_S1x2048x1024_S1x256x256_0_768_0).toLoadRect (harg4.unread x1)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runA.sl.v208 c i arg3 harg3 arg4 harg4 arg8 arg11 h1 x0 x1)) (ix2 n e)
    = ((outR 1 (fade (logFade x)) q (scaled k) v (4095 - (2816 + n.val)) e : ℝ) : EReal) := by
  rw [pay2_apply, bwdOut harg4 768 1024 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s4 c i arg3 harg3 arg4 harg4 arg5 harg5 arg6 harg6 arg7 harg7 arg8 harg8 arg9 harg9 arg10 harg10 arg11 harg11 arg12 harg12 h0 h1 h2 h3 x0 x1 x2 x3 hr hx hi) n e, show 1024 + (255 - n.val) = 4095 - (2816 + n.val) by omega]

theorem A_p4 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 1024, 0] S1x256x256.size inb_S1x2048x1024_S1x256x256_0_1024_0).toLoadRect (harg4.unread x1)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runA.sl.v169 c i arg3 harg3 arg4 harg4 arg8 arg11 h1 x0 x1)) (ix2 n e)
    = ((outR 1 (fade (logFade x)) q (scaled k) v (4095 - (3072 + n.val)) e : ℝ) : EReal) := by
  rw [pay2_apply, bwdOut harg4 1024 768 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s3 c i arg3 harg3 arg4 harg4 arg5 harg5 arg6 harg6 arg7 harg7 arg8 harg8 arg9 harg9 arg10 harg10 arg11 harg11 arg12 harg12 h0 h1 h2 h3 x0 x1 x2 x3 hr hx hi) n e, show 768 + (255 - n.val) = 4095 - (3072 + n.val) by omega]

theorem A_p5 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 1280, 0] S1x256x256.size inb_S1x2048x1024_S1x256x256_0_1280_0).toLoadRect (harg4.unread x1)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runA.sl.v130 c i arg3 harg3 arg4 harg4 arg8 arg11 h1 x0 x1)) (ix2 n e)
    = ((outR 1 (fade (logFade x)) q (scaled k) v (4095 - (3328 + n.val)) e : ℝ) : EReal) := by
  rw [pay2_apply, bwdOut harg4 1280 512 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s2 c i arg3 harg3 arg4 harg4 arg5 harg5 arg6 harg6 arg7 harg7 arg8 harg8 arg9 harg9 arg10 harg10 arg11 harg11 arg12 harg12 h0 h1 h2 h3 x0 x1 x2 x3 hr hx hi) n e, show 512 + (255 - n.val) = 4095 - (3328 + n.val) by omega]

theorem A_p6 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 1536, 0] S1x256x256.size inb_S1x2048x1024_S1x256x256_0_1536_0).toLoadRect (harg4.unread x1)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runA.sl.v91 c i arg3 harg3 arg4 harg4 arg8 arg11 h1 x0 x1)) (ix2 n e)
    = ((outR 1 (fade (logFade x)) q (scaled k) v (4095 - (3584 + n.val)) e : ℝ) : EReal) := by
  rw [pay2_apply, bwdOut harg4 1536 256 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s1 c i arg3 harg3 arg4 harg4 arg5 harg5 arg6 harg6 arg7 harg7 arg8 harg8 arg9 harg9 arg10 harg10 arg11 harg11 arg12 harg12 h0 h1 h2 h3 x0 x1 x2 x3 hr hx hi) n e, show 256 + (255 - n.val) = 4095 - (3584 + n.val) by omega]

theorem A_p7 (n : Fin 256) (e : Fin 512) : k0_pay2 (F := Ideal) (chOut (F := Ideal) (runA.sl.v40 c i arg3 harg3 arg10 h1 x0) (runA.sl.v50 c i arg3 harg3 arg12 h1 x0) (View.readAt (Elt Ideal) arg4.view (Rect.unit (s := S1x2048x1024) ![0, 1792, 0] S1x256x256.size inb_S1x2048x1024_S1x256x256_0_1792_0).toLoadRect (harg4.unread x1)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runA.sl.v52 (F := Ideal) c arg8)) (ix2 n e)
    = ((outR 1 (fade (logFade x)) q (scaled k) v (4095 - (3840 + n.val)) e : ℝ) : EReal) := by
  rw [pay2_apply, bwdOut harg4 1792 0 hr (by omega) (by omega) (A_dm c i arg3 harg3 arg4 harg4 arg5 harg5 arg6 harg6 arg7 harg7 arg8 harg8 arg9 harg9 arg10 harg10 arg11 harg11 arg12 harg12 h0 h1 h2 h3 x0 x1 x2 x3 hr hx hi) (A_qd c i arg3 harg3 arg4 harg4 arg5 harg5 arg6 harg6 arg7 harg7 arg8 harg8 arg9 harg9 arg10 harg10 arg11 harg11 arg12 harg12 h0 h1 h2 h3 x0 x1 x2 x3 hr hx hi) (A_s0 c i arg3 harg3 arg4 harg4 arg5 harg5 arg6 harg6 arg7 harg7 arg8 harg8 arg9 harg9 arg10 harg10 arg11 harg11 arg12 harg12 h0 h1 h2 h3 x0 x1 x2 x3 hr hx hi) n e, show 0 + (255 - n.val) = 4095 - (3840 + n.val) by omega]

theorem A_rows : RowsOf (fun r e => ((outR 1 (fade (logFade x)) q (scaled k) v (4095 - r) e : ℝ) : EReal)) (runA (F := Ideal) c i arg3 harg3 arg4 harg4 arg5 harg5 arg6 harg6 arg7 harg7 arg8 harg8 arg9 harg9 arg10 harg10 arg11 harg11 arg12 harg12 h0 h1 h2 h3 x0 x1 x2 x3).2.2.2.2.1 [2048, 2304, 2560, 2816, 3072, 3328, 3584, 3840] := by
  dsimp only [runA]
  exact RowsOf.cons (off := k0_off2 i 0#32) (by simp only [k0_off2, hi]; rfl) (A_p0 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 256#32) (by simp only [k0_off2, hi]; rfl) (A_p1 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 512#32) (by simp only [k0_off2, hi]; rfl) (A_p2 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 768#32) (by simp only [k0_off2, hi]; rfl) (A_p3 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 1024#32) (by simp only [k0_off2, hi]; rfl) (A_p4 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 1280#32) (by simp only [k0_off2, hi]; rfl) (A_p5 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 1536#32) (by simp only [k0_off2, hi]; rfl) (A_p6 c i arg3 harg3 arg4 harg4 arg5 harg5 arg6 harg6 arg7 harg7 arg8 harg8 arg9 harg9 arg10 harg10 arg11 harg11 arg12 harg12 h0 h1 h2 h3 x0 x1 x2 x3 hr hx hi)
    (RowsOf.cons (off := k0_off2 i 1792#32) (by simp only [k0_off2, hi]; rfl) (A_p7 c i arg3 harg3 arg4 harg4 arg5 harg5 arg6 harg6 arg7 harg7 arg8 harg8 arg9 harg9 arg10 harg10 arg11 harg11 arg12 harg12 h0 h1 h2 h3 x0 x1 x2 x3 hr hx hi)
    (RowsOf.nil _))))))))

end

end Cert.KernelIdeal.Ret

end
-- ==== Proof.ValB.lean ====
module

public import proofs.«01_k».proof.Proof.ValBase

@[expose] public section

set_option maxRecDepth 16384

noncomputable section

/-! The second point of a head: the lower half of the rows, passed backward. -/
namespace Cert.KernelIdeal.Ret

open Idealize.ShloMosaic Idealize.ShloMosaic.TcCoe Idealize.ShloMosaic.Tactic
open Cert.KernelIdeal.Gen Cert.Retention

section
variable (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
variable (h0 : ¬ isReset i) (h1 : k0_cond2 i = 1#1) (h2 : ¬ isFirst i) (h3 : ¬ k0_cond4 i = 1#1)
variable (x0 : Vec Ideal S8 .f32) (x1 : Vec Ideal S1x2048x1024 .bf16) (x2 : Vec Ideal S1x2048x512 .bf16) (x3 : Vec Ideal S1x512 .f32)
  (xs0 : Vec Ideal S256x512 .f32) (xs2 : Vec Ideal S256x256 .f32) (xs3 : Vec Ideal S256x128 .f32) (xs4 : Vec Ideal S256x128 .f32)
variable {q k v : ℕ → ℕ → ℝ} {x : EReal}
  (hr : Reads x1 q k v (fun r => 2048 + (2047 - r))) (hx : (runB.sl.r c i arg3 harg3 h1 x0) = x)
  (hdm : ∀ i j : Fin 256, xs2 (ix2 i j) = (((if 1 + i.val ≤ j.val then fade (logFade x) ^ (j.val - i.val) else 0) * (1 / 16) : ℝ) : EReal))
  (hkd : ∀ (i : Fin 256) (j : Fin 128), xs3 (ix2 i j) = ((fade (logFade x) ^ i.val * (1 / 16) : ℝ) : EReal))
  (hqd : ∀ (i : Fin 256) (j : Fin 128), xs4 (ix2 i j) = ((fade (logFade x) ^ (256 - i.val) : ℝ) : EReal))
  (hs : ∀ (d : Fin 256) (e : Fin 512), xs0 (ix2 d e) = ((stateR (fade (logFade x)) (scaled k) v 2048 d e : ℝ) : EReal))
  (hi : (i 2).val = 1)

include c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi

theorem B_lg : (runB.sl.r_1 c i arg3 harg3 h1 x0) (ix2 0 0) = logFade x := (pay6_apply _ _ _).trans (congrArg logFade hx)

theorem B_dm : ∀ i j : Fin 256, (View.readAt (Elt Ideal) arg10.view (Rect.unit (s := S256x256) ![0, 0] S256x256.size inb_S256x256_S256x256_0_0).toLoadRect (harg10.unread xs2)) (ix2 i j) = (((if 1 + i.val ≤ j.val then fade (logFade x) ^ (j.val - i.val) else 0) * (1 / 16) : ℝ) : EReal) := fun i1 j1 => by rw [load_full]; exact hdm i1 j1

theorem B_kd : ∀ (i : Fin 256) (j : Fin 128), (View.readAt (Elt Ideal) arg11.view (Rect.unit (s := S256x128) ![0, 0] S256x128.size inb_S256x128_S256x128_0_0).toLoadRect (harg11.unread xs3)) (ix2 i j) = ((fade (logFade x) ^ i.val * (1 / 16) : ℝ) : EReal) := fun i1 j1 => by rw [load_full]; exact hkd i1 j1

theorem B_qd : ∀ (i : Fin 256) (j : Fin 128), (View.readAt (Elt Ideal) arg12.view (Rect.unit (s := S256x128) ![0, 0] S256x128.size inb_S256x128_S256x128_0_0).toLoadRect (harg12.unread xs4)) (ix2 i j) = ((fade (logFade x) ^ (256 - i.val) : ℝ) : EReal) := fun i1 j1 => by rw [load_full]; exact hqd i1 j1

theorem B_s0 : ∀ (d : Fin 256) (e : Fin 512), (View.readAt (Elt Ideal) arg8.view (Rect.unit (s := S256x512) ![0, 0] S256x512.size inb_S256x512_S256x512_0_0).toLoadRect (harg8.unread xs0)) (ix2 d e) = ((stateR (fade (logFade x)) (scaled k) v 2048 d e : ℝ) : EReal) := fun d e => by rw [load_full]; exact hs d e

theorem B_s1 : ∀ (d : Fin 256) (e : Fin 512), (runB.sl.v91 c i arg3 harg3 arg4 harg4 arg8 harg8 arg11 harg11 h1 x0 x1 xs0 xs3) (ix2 d e) = ((stateR (fade (logFade x)) (scaled k) v 2304 d e : ℝ) : EReal) := fun d e =>
  (congrFun (show (runB.sl.v91 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (View.readAt (Elt Ideal) arg8.view (Rect.unit (s := S256x512) ![0, 0] S256x512.size inb_S256x512_S256x512_0_0).toLoadRect (harg8.unread xs0)) from View.readCov_full _ _ _ _ _) _).trans
    (bwdState harg4 1792 2048 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s0 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s2 : ∀ (d : Fin 256) (e : Fin 512), (runB.sl.v130 c i arg3 harg3 arg4 harg4 arg8 harg8 arg11 harg11 h1 x0 x1 xs0 xs3) (ix2 d e) = ((stateR (fade (logFade x)) (scaled k) v 2560 d e : ℝ) : EReal) := fun d e =>
  (congrFun (show (runB.sl.v130 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runB.sl.v91 c i arg3 harg3 arg4 harg4 arg8 harg8 arg11 harg11 h1 x0 x1 xs0 xs3) from View.readCov_full _ _ _ _ _) _).trans
    (bwdState harg4 1536 2304 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s1 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s3 : ∀ (d : Fin 256) (e : Fin 512), (runB.sl.v169 c i arg3 harg3 arg4 harg4 arg8 harg8 arg11 harg11 h1 x0 x1 xs0 xs3) (ix2 d e) = ((stateR (fade (logFade x)) (scaled k) v 2816 d e : ℝ) : EReal) := fun d e =>
  (congrFun (show (runB.sl.v169 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runB.sl.v130 c i arg3 harg3 arg4 harg4 arg8 harg8 arg11 harg11 h1 x0 x1 xs0 xs3) from View.readCov_full _ _ _ _ _) _).trans
    (bwdState harg4 1280 2560 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s2 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s4 : ∀ (d : Fin 256) (e : Fin 512), (runB.sl.v208 c i arg3 harg3 arg4 harg4 arg8 harg8 arg11 harg11 h1 x0 x1 xs0 xs3) (ix2 d e) = ((stateR (fade (logFade x)) (scaled k) v 3072 d e : ℝ) : EReal) := fun d e =>
  (congrFun (show (runB.sl.v208 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runB.sl.v169 c i arg3 harg3 arg4 harg4 arg8 harg8 arg11 harg11 h1 x0 x1 xs0 xs3) from View.readCov_full _ _ _ _ _) _).trans
    (bwdState harg4 1024 2816 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s3 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s5 : ∀ (d : Fin 256) (e : Fin 512), (runB.sl.v247 c i arg3 harg3 arg4 harg4 arg8 harg8 arg11 harg11 h1 x0 x1 xs0 xs3) (ix2 d e) = ((stateR (fade (logFade x)) (scaled k) v 3328 d e : ℝ) : EReal) := fun d e =>
  (congrFun (show (runB.sl.v247 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runB.sl.v208 c i arg3 harg3 arg4 harg4 arg8 harg8 arg11 harg11 h1 x0 x1 xs0 xs3) from View.readCov_full _ _ _ _ _) _).trans
    (bwdState harg4 768 3072 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s4 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s6 : ∀ (d : Fin 256) (e : Fin 512), (runB.sl.v286 c i arg3 harg3 arg4 harg4 arg8 harg8 arg11 harg11 h1 x0 x1 xs0 xs3) (ix2 d e) = ((stateR (fade (logFade x)) (scaled k) v 3584 d e : ℝ) : EReal) := fun d e =>
  (congrFun (show (runB.sl.v286 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runB.sl.v247 c i arg3 harg3 arg4 harg4 arg8 harg8 arg11 harg11 h1 x0 x1 xs0 xs3) from View.readCov_full _ _ _ _ _) _).trans
    (bwdState harg4 512 3328 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s5 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_s7 : ∀ (d : Fin 256) (e : Fin 512), (runB.sl.v325 c i arg3 harg3 arg4 harg4 arg8 harg8 arg11 harg11 h1 x0 x1 xs0 xs3) (ix2 d e) = ((stateR (fade (logFade x)) (scaled k) v 3840 d e : ℝ) : EReal) := fun d e =>
  (congrFun (show (runB.sl.v325 c i arg3 harg3 arg4 harg4 arg8 harg8 arg11 harg11 h1 x0 x1 xs0 xs3) = chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runB.sl.v286 c i arg3 harg3 arg4 harg4 arg8 harg8 arg11 harg11 h1 x0 x1 xs0 xs3) from View.readCov_full _ _ _ _ _) _).trans
    (bwdState harg4 256 3584 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s6 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e)

theorem B_state (f : arg8.view.ty.Contents (Elt Ideal)) : ∀ (d : Fin 256) (e : Fin 512), arg8.view.read (Elt Ideal) (arg8.view.writes (Elt Ideal) f (runB (F := Ideal) c i arg3 harg3 arg4 harg4 arg5 harg5 arg6 harg6 arg7 harg7 arg8 harg8 arg9 harg9 arg10 harg10 arg11 harg11 arg12 harg12 h0 h1 h2 h3 x0 x1 x2 x3 xs0 xs2 xs3 xs4).1) (ix2 d e) = ((stateR (fade (logFade x)) (scaled k) v 4096 d e : ℝ) : EReal) := fun d e => by
  dsimp only [runB]
  refine (congrFun (View.read_writes_full _ _ _ _ _) _).trans ?_
  show chState (runB.sl.r_1 c i arg3 harg3 h1 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runB.sl.v325 c i arg3 harg3 arg4 harg4 arg8 harg8 arg11 harg11 h1 x0 x1 xs0 xs3) (ix2 d e) = _
  exact bwdState harg4 0 3840 hr (by omega) (by omega) (B_lg c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_kd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s7 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) d e

theorem B_p0 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 0, 0] S1x256x256.size inb_S1x2048x1024_S1x256x256_0_0_0).toLoadRect (harg4.unread x1)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runB.sl.v325 c i arg3 harg3 arg4 harg4 arg8 harg8 arg11 harg11 h1 x0 x1 xs0 xs3)) (ix2 n e)
    = ((outR 1 (fade (logFade x)) q (scaled k) v (4095 - (0 + n.val)) e : ℝ) : EReal) := by
  rw [pay2_apply, bwdOut harg4 0 3840 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s7 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 3840 + (255 - n.val) = 4095 - (0 + n.val) by omega]

theorem B_p1 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 256, 0] S1x256x256.size inb_S1x2048x1024_S1x256x256_0_256_0).toLoadRect (harg4.unread x1)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runB.sl.v286 c i arg3 harg3 arg4 harg4 arg8 harg8 arg11 harg11 h1 x0 x1 xs0 xs3)) (ix2 n e)
    = ((outR 1 (fade (logFade x)) q (scaled k) v (4095 - (256 + n.val)) e : ℝ) : EReal) := by
  rw [pay2_apply, bwdOut harg4 256 3584 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s6 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 3584 + (255 - n.val) = 4095 - (256 + n.val) by omega]

theorem B_p2 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 512, 0] S1x256x256.size inb_S1x2048x1024_S1x256x256_0_512_0).toLoadRect (harg4.unread x1)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runB.sl.v247 c i arg3 harg3 arg4 harg4 arg8 harg8 arg11 harg11 h1 x0 x1 xs0 xs3)) (ix2 n e)
    = ((outR 1 (fade (logFade x)) q (scaled k) v (4095 - (512 + n.val)) e : ℝ) : EReal) := by
  rw [pay2_apply, bwdOut harg4 512 3328 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s5 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 3328 + (255 - n.val) = 4095 - (512 + n.val) by omega]

theorem B_p3 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 768, 0] S1x256x256.size inb_S1x2048x1024_S1x256x256_0_768_0).toLoadRect (harg4.unread x1)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runB.sl.v208 c i arg3 harg3 arg4 harg4 arg8 harg8 arg11 harg11 h1 x0 x1 xs0 xs3)) (ix2 n e)
    = ((outR 1 (fade (logFade x)) q (scaled k) v (4095 - (768 + n.val)) e : ℝ) : EReal) := by
  rw [pay2_apply, bwdOut harg4 768 3072 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s4 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 3072 + (255 - n.val) = 4095 - (768 + n.val) by omega]

theorem B_p4 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1024, 0] S1x256x256.size inb_S1x2048x1024_S1x256x256_0_1024_0).toLoadRect (harg4.unread x1)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runB.sl.v169 c i arg3 harg3 arg4 harg4 arg8 harg8 arg11 harg11 h1 x0 x1 xs0 xs3)) (ix2 n e)
    = ((outR 1 (fade (logFade x)) q (scaled k) v (4095 - (1024 + n.val)) e : ℝ) : EReal) := by
  rw [pay2_apply, bwdOut harg4 1024 2816 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s3 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 2816 + (255 - n.val) = 4095 - (1024 + n.val) by omega]

theorem B_p5 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1280, 0] S1x256x256.size inb_S1x2048x1024_S1x256x256_0_1280_0).toLoadRect (harg4.unread x1)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runB.sl.v130 c i arg3 harg3 arg4 harg4 arg8 harg8 arg11 harg11 h1 x0 x1 xs0 xs3)) (ix2 n e)
    = ((outR 1 (fade (logFade x)) q (scaled k) v (4095 - (1280 + n.val)) e : ℝ) : EReal) := by
  rw [pay2_apply, bwdOut harg4 1280 2560 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s2 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 2560 + (255 - n.val) = 4095 - (1280 + n.val) by omega]

theorem B_p6 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1536, 0] S1x256x256.size inb_S1x2048x1024_S1x256x256_0_1536_0).toLoadRect (harg4.unread x1)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runB.sl.v91 c i arg3 harg3 arg4 harg4 arg8 harg8 arg11 harg11 h1 x0 x1 xs0 xs3)) (ix2 n e)
    = ((outR 1 (fade (logFade x)) q (scaled k) v (4095 - (1536 + n.val)) e : ℝ) : EReal) := by
  rw [pay2_apply, bwdOut harg4 1536 2304 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s1 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 2304 + (255 - n.val) = 4095 - (1536 + n.val) by omega]

theorem B_p7 (n : Fin 256) (e : Fin 512) : k0_pay2 (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1792, 0] S1x256x256.size inb_S1x2048x1024_S1x256x256_0_1792_0).toLoadRect (harg4.unread x1)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (View.readAt (Elt Ideal) arg8.view (Rect.unit (s := S256x512) ![0, 0] S256x512.size inb_S256x512_S256x512_0_0).toLoadRect (harg8.unread xs0))) (ix2 n e)
    = ((outR 1 (fade (logFade x)) q (scaled k) v (4095 - (1792 + n.val)) e : ℝ) : EReal) := by
  rw [pay2_apply, bwdOut harg4 1792 2048 hr (by omega) (by omega) (B_dm c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_qd c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) (B_s0 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi) n e, show 2048 + (255 - n.val) = 4095 - (1792 + n.val) by omega]

theorem B_rows : RowsOf (fun r e => ((outR 1 (fade (logFade x)) q (scaled k) v (4095 - r) e : ℝ) : EReal)) (runB (F := Ideal) c i arg3 harg3 arg4 harg4 arg5 harg5 arg6 harg6 arg7 harg7 arg8 harg8 arg9 harg9 arg10 harg10 arg11 harg11 arg12 harg12 h0 h1 h2 h3 x0 x1 x2 x3 xs0 xs2 xs3 xs4).2.1 [0, 256, 512, 768, 1024, 1280, 1536, 1792] := by
  dsimp only [runB]
  exact RowsOf.cons (off := k0_off2 i 0#32) (by simp only [k0_off2, hi]; rfl) (B_p0 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 256#32) (by simp only [k0_off2, hi]; rfl) (B_p1 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 512#32) (by simp only [k0_off2, hi]; rfl) (B_p2 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 768#32) (by simp only [k0_off2, hi]; rfl) (B_p3 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 1024#32) (by simp only [k0_off2, hi]; rfl) (B_p4 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 1280#32) (by simp only [k0_off2, hi]; rfl) (B_p5 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 1536#32) (by simp only [k0_off2, hi]; rfl) (B_p6 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.cons (off := k0_off2 i 1792#32) (by simp only [k0_off2, hi]; rfl) (B_p7 c i arg3 harg3 arg4 harg4 arg5 harg5 arg6 harg6 arg7 harg7 arg8 harg8 arg9 harg9 arg10 harg10 arg11 harg11 arg12 harg12 h0 h1 h2 h3 x0 x1 x2 x3 xs0 xs2 xs3 xs4 hr hx hdm hkd hqd hs hi)
    (RowsOf.nil _))))))))

end

end Cert.KernelIdeal.Ret

end
-- ==== Proof.ValC.lean ====
module

public import proofs.«01_k».proof.Proof.ValBase

@[expose] public section

set_option maxRecDepth 16384

noncomputable section

/-! The third point of a head: the lower half of the rows, passed forward from nothing, added to the rows passed backward, and finished. -/
namespace Cert.KernelIdeal.Ret

open Idealize.ShloMosaic Idealize.ShloMosaic.TcCoe Idealize.ShloMosaic.Tactic
open Cert.KernelIdeal.Gen Cert.Retention

section
variable (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
variable (h0 : isReset i) (h1 : ¬ k0_cond2 i = 1#1) (h3 : k0_cond4 i = 1#1) (h2 : isTurn i)
variable (x0 : Vec Ideal S8 .f32) (x1 : Vec Ideal S1x2048x1024 .bf16) (x2 : Vec Ideal S1x2048x512 .bf16) (x3 : Vec Ideal S1x512 .f32) (xs1 : Vec Ideal S4096x512 .f32)
variable {q k v : ℕ → ℕ → ℝ} {x : EReal}
  (hr : Reads x1 q k v (fun r => 0 + r)) (hx : (runC.sl.r c i arg3 harg3 h3 x0) = x)
  {Tb G : ℕ → ℕ → EReal} {Gn : ℕ → EReal} (hb : ∀ (r : Fin 4096) (e : Fin 512), xs1 (ix2 r e) = Tb r e) (hg : ∀ (r : Fin 2048) (e : Fin 512), x2 (ix3 (0 : Fin 1) r e) = G r e)
  (hgn : ∀ e : Fin 512, x3 (ix2 (0 : Fin 1) e) = Gn e)
  (hi : (i 2).val = 2)

include c i arg3 harg3 arg4 harg4 arg5 harg5 arg6 harg6 arg7 harg7 arg8 harg8 arg9 harg9 arg10 harg10 arg11 harg11 arg12 harg12 h0 h1 h3 h2 x0 x1 x2 x3 xs1 hr hx hi hb hg hgn

theorem C_lg : (runC.sl.r_1 c i arg3 harg3 h3 x0) (ix2 0 0) = logFade x := (pay68_apply _ _ _).trans (congrArg logFade hx)

theorem C_dm : ∀ a b : Fin 256, (runC.sl.v39 c i arg3 harg3 arg10 h3 x0) (ix2 a b) = (((if b.val ≤ a.val then fade (logFade x) ^ (a.val - b.val) else 0) * (1 / 16) : ℝ) : EReal) := fun i1 j1 =>
  (congrFun (show (runC.sl.v39 c i arg3 harg3 arg10 h3 x0) = k0_pay70 (F := Ideal) (runC.sl.r c i arg3 harg3 h3 x0) from View.readCov_full _ _ _ _ _) _).trans (by rw [hx]; exact decF_dm x i1 j1)

theorem C_kd : ∀ (a : Fin 256) (b : Fin 128), (runC.sl.v44 c i arg3 harg3 arg11 h3 x0) (ix2 a b) = ((fade (logFade x) ^ (255 - a.val) * (1 / 16) : ℝ) : EReal) := fun i1 j1 =>
  (congrFun (show (runC.sl.v44 c i arg3 harg3 arg11 h3 x0) = k0_pay71 (F := Ideal) (runC.sl.r c i arg3 harg3 h3 x0) from View.readCov_full _ _ _ _ _) _).trans (by rw [hx]; exact decF_kd x i1 j1)

theorem C_qd : ∀ (a : Fin 256) (b : Fin 128), (runC.sl.v49 c i arg3 harg3 arg12 h3 x0) (ix2 a b) = ((fade (logFade x) ^ (a.val + 1) : ℝ) : EReal) := fun i1 j1 =>
  (congrFun (show (runC.sl.v49 c i arg3 harg3 arg12 h3 x0) = k0_pay72 (F := Ideal) (runC.sl.r c i arg3 harg3 h3 x0) from View.readCov_full _ _ _ _ _) _).trans (by rw [hx]; exact decF_qd x i1 j1)

theorem C_s0 : ∀ (d : Fin 256) (e : Fin 512), (runC.sl.v51 (F := Ideal) c arg8) (ix2 d e) = ((stateR (fade (logFade x)) (scaled k) v 0 d e : ℝ) : EReal) := fun d e =>
  (congrFun (show (runC.sl.v51 (F := Ideal) c arg8) = k0_pay1 (F := Ideal) from View.readCov_full _ _ _ _ _) _).trans (zero_state _ _ _ d e)

theorem C_s1 : ∀ (d : Fin 256) (e : Fin 512), (runC.sl.v125 c i arg3 harg3 arg4 harg4 arg8 arg11 h3 x0 x1) (ix2 d e) = ((stateR (fade (logFade x)) (scaled k) v 256 d e : ℝ) : EReal) := fun d e =>
  (congrFun (show (runC.sl.v125 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runC.sl.v51 (F := Ideal) c arg8) from View.readCov_full _ _ _ _ _) _).trans
    (fwdState harg4 0 0 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s0 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s2 : ∀ (d : Fin 256) (e : Fin 512), (runC.sl.v199 c i arg3 harg3 arg4 harg4 arg8 arg11 h3 x0 x1) (ix2 d e) = ((stateR (fade (logFade x)) (scaled k) v 512 d e : ℝ) : EReal) := fun d e =>
  (congrFun (show (runC.sl.v199 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runC.sl.v125 c i arg3 harg3 arg4 harg4 arg8 arg11 h3 x0 x1) from View.readCov_full _ _ _ _ _) _).trans
    (fwdState harg4 256 256 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s1 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s3 : ∀ (d : Fin 256) (e : Fin 512), (runC.sl.v273 c i arg3 harg3 arg4 harg4 arg8 arg11 h3 x0 x1) (ix2 d e) = ((stateR (fade (logFade x)) (scaled k) v 768 d e : ℝ) : EReal) := fun d e =>
  (congrFun (show (runC.sl.v273 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runC.sl.v199 c i arg3 harg3 arg4 harg4 arg8 arg11 h3 x0 x1) from View.readCov_full _ _ _ _ _) _).trans
    (fwdState harg4 512 512 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s2 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s4 : ∀ (d : Fin 256) (e : Fin 512), (runC.sl.v347 c i arg3 harg3 arg4 harg4 arg8 arg11 h3 x0 x1) (ix2 d e) = ((stateR (fade (logFade x)) (scaled k) v 1024 d e : ℝ) : EReal) := fun d e =>
  (congrFun (show (runC.sl.v347 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runC.sl.v273 c i arg3 harg3 arg4 harg4 arg8 arg11 h3 x0 x1) from View.readCov_full _ _ _ _ _) _).trans
    (fwdState harg4 768 768 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s3 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s5 : ∀ (d : Fin 256) (e : Fin 512), (runC.sl.v421 c i arg3 harg3 arg4 harg4 arg8 arg11 h3 x0 x1) (ix2 d e) = ((stateR (fade (logFade x)) (scaled k) v 1280 d e : ℝ) : EReal) := fun d e =>
  (congrFun (show (runC.sl.v421 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runC.sl.v347 c i arg3 harg3 arg4 harg4 arg8 arg11 h3 x0 x1) from View.readCov_full _ _ _ _ _) _).trans
    (fwdState harg4 1024 1024 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s4 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s6 : ∀ (d : Fin 256) (e : Fin 512), (runC.sl.v495 c i arg3 harg3 arg4 harg4 arg8 arg11 h3 x0 x1) (ix2 d e) = ((stateR (fade (logFade x)) (scaled k) v 1536 d e : ℝ) : EReal) := fun d e =>
  (congrFun (show (runC.sl.v495 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runC.sl.v421 c i arg3 harg3 arg4 harg4 arg8 arg11 h3 x0 x1) from View.readCov_full _ _ _ _ _) _).trans
    (fwdState harg4 1280 1280 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s5 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_s7 : ∀ (d : Fin 256) (e : Fin 512), (runC.sl.v569 c i arg3 harg3 arg4 harg4 arg8 arg11 h3 x0 x1) (ix2 d e) = ((stateR (fade (logFade x)) (scaled k) v 1792 d e : ℝ) : EReal) := fun d e =>
  (congrFun (show (runC.sl.v569 c i arg3 harg3 arg4 harg4 arg8 arg11 h3 x0 x1) = chState (runC.sl.r_1 c i arg3 harg3 h3 x0) (runC.sl.v44 c i arg3 harg3 arg11 h3 x0) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runC.sl.v495 c i arg3 harg3 arg4 harg4 arg8 arg11 h3 x0 x1) from View.readCov_full _ _ _ _ _) _).trans
    (fwdState harg4 1536 1536 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s6 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e)

theorem C_state (f : arg8.view.ty.Contents (Elt Ideal)) : ∀ (d : Fin 256) (e : Fin 512), arg8.view.read (Elt Ideal) (arg8.view.writes (Elt Ideal) f (runC (F := Ideal) c i arg3 harg3 arg4 harg4 arg5 harg5 arg6 harg6 arg7 harg7 arg8 harg8 arg9 harg9 arg10 harg10 arg11 harg11 arg12 harg12 h0 h1 h3 h2 x0 x1 x2 x3 xs1).1) (ix2 d e) = ((stateR (fade (logFade x)) (scaled k) v 2048 d e : ℝ) : EReal) := fun d e => by
  dsimp only [runC]
  refine (congrFun (View.read_writes_full _ _ _ _ _) _).trans ?_
  show chState (runC.sl.r_1 c i arg3 harg3 h3 x0) (runC.sl.v44 c i arg3 harg3 arg11 h3 x0) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runC.sl.v569 c i arg3 harg3 arg4 harg4 arg8 arg11 h3 x0 x1) (ix2 d e) = _
  exact fwdState harg4 1792 1792 hr (by omega) (C_lg c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_kd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s7 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) d e

theorem C_dm' (f : arg10.view.ty.Contents (Elt Ideal)) : ∀ a b : Fin 256, arg10.view.read (Elt Ideal) (arg10.view.writes (Elt Ideal) f (runC (F := Ideal) c i arg3 harg3 arg4 harg4 arg5 harg5 arg6 harg6 arg7 harg7 arg8 harg8 arg9 harg9 arg10 harg10 arg11 harg11 arg12 harg12 h0 h1 h3 h2 x0 x1 x2 x3 xs1).2.1) (ix2 a b) = (((if b.val ≤ a.val then fade (logFade x) ^ (a.val - b.val) else 0) * (1 / 16) : ℝ) : EReal) := fun i1 j1 => by
  dsimp only [runC]
  refine (congrFun (View.read_writes_full _ _ _ _ _) _).trans ?_
  show k0_pay70 (F := Ideal) (runC.sl.r c i arg3 harg3 h3 x0) (ix2 i1 j1) = _
  rw [hx]; exact decF_dm x i1 j1

theorem C_kd' (f : arg11.view.ty.Contents (Elt Ideal)) : ∀ (a : Fin 256) (b : Fin 128), arg11.view.read (Elt Ideal) (arg11.view.writes (Elt Ideal) f (runC (F := Ideal) c i arg3 harg3 arg4 harg4 arg5 harg5 arg6 harg6 arg7 harg7 arg8 harg8 arg9 harg9 arg10 harg10 arg11 harg11 arg12 harg12 h0 h1 h3 h2 x0 x1 x2 x3 xs1).2.2.1) (ix2 a b) = ((fade (logFade x) ^ (255 - a.val) * (1 / 16) : ℝ) : EReal) := fun i1 j1 => by
  dsimp only [runC]
  refine (congrFun (View.read_writes_full _ _ _ _ _) _).trans ?_
  show k0_pay71 (F := Ideal) (runC.sl.r c i arg3 harg3 h3 x0) (ix2 i1 j1) = _
  rw [hx]; exact decF_kd x i1 j1

theorem C_qd' (f : arg12.view.ty.Contents (Elt Ideal)) : ∀ (a : Fin 256) (b : Fin 128), arg12.view.read (Elt Ideal) (arg12.view.writes (Elt Ideal) f (runC (F := Ideal) c i arg3 harg3 arg4 harg4 arg5 harg5 arg6 harg6 arg7 harg7 arg8 harg8 arg9 harg9 arg10 harg10 arg11 harg11 arg12 harg12 h0 h1 h3 h2 x0 x1 x2 x3 xs1).2.2.2.1) (ix2 a b) = ((fade (logFade x) ^ (a.val + 1) : ℝ) : EReal) := fun i1 j1 => by
  dsimp only [runC]
  refine (congrFun (View.read_writes_full _ _ _ _ _) _).trans ?_
  show k0_pay72 (F := Ideal) (runC.sl.r c i arg3 harg3 h3 x0) (ix2 i1 j1) = _
  rw [hx]; exact decF_qd x i1 j1

theorem C_p0 (n : Fin 256) (e : Fin 512) {inbj : ∀ a : Fin 2, k0_off4 i 1792#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 1792, 0] S1x256x256.size inb_S1x2048x1024_S1x256x256_0_1792_0).toLoadRect (harg4.unread x1)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runC.sl.v569 c i arg3 harg3 arg4 harg4 arg8 arg11 h3 x0 x1)) (View.readAt (Elt Ideal) arg9.view (Rect.unit (s := S4096x512) (k0_off4 i 1792#32) S256x512.size inbj).toLoadRect (harg9.unread xs1)) (View.readAt (Elt Ideal) arg5.view (Rect.unit (s := S1x2048x512) ![0, 1792, 0] S1x256x512.size inb_S1x2048x512_S1x256x512_0_1792_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (1792 + n.val)) j : ℝ) : EReal) + Tb (0 + (1792 + n.val)) j) (G (1792 + n.val) e) (Gn e) e := by
  refine fin_rows (b := 0) (r0 := 1792) (Yf := fun n e => ((outR 0 (fade (logFade x)) q (scaled k) v n e : ℝ) : EReal)) (Yb := Tb) (G := G) (Gn := Gn) (fun n e => ?_) (fun n e => ?_) (fun n e => load_gate harg5 x2 hg 1792 n e) (fun e => by rw [load_full]; exact hgn e) n e
  · exact fwdOut harg4 1792 1792 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s7 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p1 (n : Fin 256) (e : Fin 512) {inbj : ∀ a : Fin 2, k0_off4 i 1536#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 1536, 0] S1x256x256.size inb_S1x2048x1024_S1x256x256_0_1536_0).toLoadRect (harg4.unread x1)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runC.sl.v495 c i arg3 harg3 arg4 harg4 arg8 arg11 h3 x0 x1)) (View.readAt (Elt Ideal) arg9.view (Rect.unit (s := S4096x512) (k0_off4 i 1536#32) S256x512.size inbj).toLoadRect (harg9.unread xs1)) (View.readAt (Elt Ideal) arg5.view (Rect.unit (s := S1x2048x512) ![0, 1536, 0] S1x256x512.size inb_S1x2048x512_S1x256x512_0_1536_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (1536 + n.val)) j : ℝ) : EReal) + Tb (0 + (1536 + n.val)) j) (G (1536 + n.val) e) (Gn e) e := by
  refine fin_rows (b := 0) (r0 := 1536) (Yf := fun n e => ((outR 0 (fade (logFade x)) q (scaled k) v n e : ℝ) : EReal)) (Yb := Tb) (G := G) (Gn := Gn) (fun n e => ?_) (fun n e => ?_) (fun n e => load_gate harg5 x2 hg 1536 n e) (fun e => by rw [load_full]; exact hgn e) n e
  · exact fwdOut harg4 1536 1536 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s6 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p2 (n : Fin 256) (e : Fin 512) {inbj : ∀ a : Fin 2, k0_off4 i 1280#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 1280, 0] S1x256x256.size inb_S1x2048x1024_S1x256x256_0_1280_0).toLoadRect (harg4.unread x1)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runC.sl.v421 c i arg3 harg3 arg4 harg4 arg8 arg11 h3 x0 x1)) (View.readAt (Elt Ideal) arg9.view (Rect.unit (s := S4096x512) (k0_off4 i 1280#32) S256x512.size inbj).toLoadRect (harg9.unread xs1)) (View.readAt (Elt Ideal) arg5.view (Rect.unit (s := S1x2048x512) ![0, 1280, 0] S1x256x512.size inb_S1x2048x512_S1x256x512_0_1280_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (1280 + n.val)) j : ℝ) : EReal) + Tb (0 + (1280 + n.val)) j) (G (1280 + n.val) e) (Gn e) e := by
  refine fin_rows (b := 0) (r0 := 1280) (Yf := fun n e => ((outR 0 (fade (logFade x)) q (scaled k) v n e : ℝ) : EReal)) (Yb := Tb) (G := G) (Gn := Gn) (fun n e => ?_) (fun n e => ?_) (fun n e => load_gate harg5 x2 hg 1280 n e) (fun e => by rw [load_full]; exact hgn e) n e
  · exact fwdOut harg4 1280 1280 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s5 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p3 (n : Fin 256) (e : Fin 512) {inbj : ∀ a : Fin 2, k0_off4 i 1024#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 1024, 0] S1x256x256.size inb_S1x2048x1024_S1x256x256_0_1024_0).toLoadRect (harg4.unread x1)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runC.sl.v347 c i arg3 harg3 arg4 harg4 arg8 arg11 h3 x0 x1)) (View.readAt (Elt Ideal) arg9.view (Rect.unit (s := S4096x512) (k0_off4 i 1024#32) S256x512.size inbj).toLoadRect (harg9.unread xs1)) (View.readAt (Elt Ideal) arg5.view (Rect.unit (s := S1x2048x512) ![0, 1024, 0] S1x256x512.size inb_S1x2048x512_S1x256x512_0_1024_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (1024 + n.val)) j : ℝ) : EReal) + Tb (0 + (1024 + n.val)) j) (G (1024 + n.val) e) (Gn e) e := by
  refine fin_rows (b := 0) (r0 := 1024) (Yf := fun n e => ((outR 0 (fade (logFade x)) q (scaled k) v n e : ℝ) : EReal)) (Yb := Tb) (G := G) (Gn := Gn) (fun n e => ?_) (fun n e => ?_) (fun n e => load_gate harg5 x2 hg 1024 n e) (fun e => by rw [load_full]; exact hgn e) n e
  · exact fwdOut harg4 1024 1024 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s4 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p4 (n : Fin 256) (e : Fin 512) {inbj : ∀ a : Fin 2, k0_off4 i 768#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 768, 0] S1x256x256.size inb_S1x2048x1024_S1x256x256_0_768_0).toLoadRect (harg4.unread x1)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runC.sl.v273 c i arg3 harg3 arg4 harg4 arg8 arg11 h3 x0 x1)) (View.readAt (Elt Ideal) arg9.view (Rect.unit (s := S4096x512) (k0_off4 i 768#32) S256x512.size inbj).toLoadRect (harg9.unread xs1)) (View.readAt (Elt Ideal) arg5.view (Rect.unit (s := S1x2048x512) ![0, 768, 0] S1x256x512.size inb_S1x2048x512_S1x256x512_0_768_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (768 + n.val)) j : ℝ) : EReal) + Tb (0 + (768 + n.val)) j) (G (768 + n.val) e) (Gn e) e := by
  refine fin_rows (b := 0) (r0 := 768) (Yf := fun n e => ((outR 0 (fade (logFade x)) q (scaled k) v n e : ℝ) : EReal)) (Yb := Tb) (G := G) (Gn := Gn) (fun n e => ?_) (fun n e => ?_) (fun n e => load_gate harg5 x2 hg 768 n e) (fun e => by rw [load_full]; exact hgn e) n e
  · exact fwdOut harg4 768 768 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s3 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p5 (n : Fin 256) (e : Fin 512) {inbj : ∀ a : Fin 2, k0_off4 i 512#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 512, 0] S1x256x256.size inb_S1x2048x1024_S1x256x256_0_512_0).toLoadRect (harg4.unread x1)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runC.sl.v199 c i arg3 harg3 arg4 harg4 arg8 arg11 h3 x0 x1)) (View.readAt (Elt Ideal) arg9.view (Rect.unit (s := S4096x512) (k0_off4 i 512#32) S256x512.size inbj).toLoadRect (harg9.unread xs1)) (View.readAt (Elt Ideal) arg5.view (Rect.unit (s := S1x2048x512) ![0, 512, 0] S1x256x512.size inb_S1x2048x512_S1x256x512_0_512_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (512 + n.val)) j : ℝ) : EReal) + Tb (0 + (512 + n.val)) j) (G (512 + n.val) e) (Gn e) e := by
  refine fin_rows (b := 0) (r0 := 512) (Yf := fun n e => ((outR 0 (fade (logFade x)) q (scaled k) v n e : ℝ) : EReal)) (Yb := Tb) (G := G) (Gn := Gn) (fun n e => ?_) (fun n e => ?_) (fun n e => load_gate harg5 x2 hg 512 n e) (fun e => by rw [load_full]; exact hgn e) n e
  · exact fwdOut harg4 512 512 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s2 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p6 (n : Fin 256) (e : Fin 512) {inbj : ∀ a : Fin 2, k0_off4 i 256#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 256, 0] S1x256x256.size inb_S1x2048x1024_S1x256x256_0_256_0).toLoadRect (harg4.unread x1)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runC.sl.v125 c i arg3 harg3 arg4 harg4 arg8 arg11 h3 x0 x1)) (View.readAt (Elt Ideal) arg9.view (Rect.unit (s := S4096x512) (k0_off4 i 256#32) S256x512.size inbj).toLoadRect (harg9.unread xs1)) (View.readAt (Elt Ideal) arg5.view (Rect.unit (s := S1x2048x512) ![0, 256, 0] S1x256x512.size inb_S1x2048x512_S1x256x512_0_256_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (256 + n.val)) j : ℝ) : EReal) + Tb (0 + (256 + n.val)) j) (G (256 + n.val) e) (Gn e) e := by
  refine fin_rows (b := 0) (r0 := 256) (Yf := fun n e => ((outR 0 (fade (logFade x)) q (scaled k) v n e : ℝ) : EReal)) (Yb := Tb) (G := G) (Gn := Gn) (fun n e => ?_) (fun n e => ?_) (fun n e => load_gate harg5 x2 hg 256 n e) (fun e => by rw [load_full]; exact hgn e) n e
  · exact fwdOut harg4 256 256 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s1 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_p7 (n : Fin 256) (e : Fin 512) {inbj : ∀ a : Fin 2, k0_off4 i 0#32 a + S256x512.size a ≤ S4096x512.size a} : chFin (F := Ideal) (chOut (F := Ideal) (runC.sl.v39 c i arg3 harg3 arg10 h3 x0) (runC.sl.v49 c i arg3 harg3 arg12 h3 x0) (View.readAt (Elt Ideal) arg4.view (Rect.unit (s := S1x2048x1024) ![0, 0, 0] S1x256x256.size inb_S1x2048x1024_S1x256x256_0_0_0).toLoadRect (harg4.unread x1)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (runC.sl.v51 (F := Ideal) c arg8)) (View.readAt (Elt Ideal) arg9.view (Rect.unit (s := S4096x512) (k0_off4 i 0#32) S256x512.size inbj).toLoadRect (harg9.unread xs1)) (View.readAt (Elt Ideal) arg5.view (Rect.unit (s := S1x2048x512) ![0, 0, 0] S1x256x512.size inb_S1x2048x512_S1x256x512_0_0_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (0 + (0 + n.val)) j : ℝ) : EReal) + Tb (0 + (0 + n.val)) j) (G (0 + n.val) e) (Gn e) e := by
  refine fin_rows (b := 0) (r0 := 0) (Yf := fun n e => ((outR 0 (fade (logFade x)) q (scaled k) v n e : ℝ) : EReal)) (Yb := Tb) (G := G) (Gn := Gn) (fun n e => ?_) (fun n e => ?_) (fun n e => load_gate harg5 x2 hg 0 n e) (fun e => by rw [load_full]; exact hgn e) n e
  · exact fwdOut harg4 0 0 hr (by omega) (C_dm c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_qd c i arg3 harg3 arg4 harg4 arg5 harg5 arg6 harg6 arg7 harg7 arg8 harg8 arg9 harg9 arg10 harg10 arg11 harg11 arg12 harg12 h0 h1 h3 h2 x0 x1 x2 x3 xs1 hr hx hb hg hgn hi) (C_s0 c i arg3 harg3 arg4 harg4 arg5 harg5 arg6 harg6 arg7 harg7 arg8 harg8 arg9 harg9 arg10 harg10 arg11 harg11 arg12 harg12 h0 h1 h3 h2 x0 x1 x2 x3 xs1 hr hx hb hg hgn hi) n e
  · exact load_rows harg9 xs1 hb (by simp only [k0_off4, hi]; rfl) n e

theorem C_rows : BlockOf (fun r e => finAt (fun j => ((outR 0 (fade (logFade x)) q (scaled k) v (0 + r) j : ℝ) : EReal) + Tb (0 + r) j) (G r e) (Gn e) e) (runC (F := Ideal) c i arg3 harg3 arg4 harg4 arg5 harg5 arg6 harg6 arg7 harg7 arg8 harg8 arg9 harg9 arg10 harg10 arg11 harg11 arg12 harg12 h0 h1 h3 h2 x0 x1 x2 x3 xs1).2.2.2.2.1 [1792, 1536, 1280, 1024, 768, 512, 256, 0] := by
  dsimp only [runC]
  exact BlockOf.cons (o := 1792) (fun n e => C_p0 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 1536) (fun n e => C_p1 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 1280) (fun n e => C_p2 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 1024) (fun n e => C_p3 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 768) (fun n e => C_p4 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 512) (fun n e => C_p5 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 256) (fun n e => C_p6 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.cons (o := 0) (fun n e => C_p7 c i arg3 harg3 arg4 harg4 arg5 harg5 arg6 harg6 arg7 harg7 arg8 harg8 arg9 harg9 arg10 harg10 arg11 harg11 arg12 harg12 h0 h1 h3 h2 x0 x1 x2 x3 xs1 hr hx hb hg hgn hi n e)
    (BlockOf.nil _))))))))

end

end Cert.KernelIdeal.Ret

end
-- ==== Proof.ValD.lean ====
module

public import proofs.«01_k».proof.Proof.ValBase

@[expose] public section

set_option maxRecDepth 16384

noncomputable section

/-! The last point of a head: the upper half of the rows, passed forward, added to the rows passed backward, and finished. -/
namespace Cert.KernelIdeal.Ret

open Idealize.ShloMosaic Idealize.ShloMosaic.TcCoe Idealize.ShloMosaic.Tactic
open Cert.KernelIdeal.Gen Cert.Retention

section
variable (c : Dev nD) (i : grid0.Coords) (arg3 : Memref sig .tc .smem S8 .f32) (harg3 : arg3.IsWhole) (arg4 : Memref sig .tc .vmem S1x2048x1024 .bf16) (harg4 : arg4.IsWhole) (arg5 : Memref sig .tc .vmem S1x2048x512 .bf16) (harg5 : arg5.IsWhole) (arg6 : Memref sig .tc .vmem S1x512 .f32) (harg6 : arg6.IsWhole) (arg7 : Memref sig .tc .vmem S1x2048x512 .bf16) (harg7 : arg7.IsWhole) (arg8 : Memref sig .tc .vmem S256x512 .f32) (harg8 : arg8.IsWhole) (arg9 : Memref sig .tc .vmem S4096x512 .f32) (harg9 : arg9.IsWhole) (arg10 : Memref sig .tc .vmem S256x256 .f32) (harg10 : arg10.IsWhole) (arg11 : Memref sig .tc .vmem S256x128 .f32) (harg11 : arg11.IsWhole) (arg12 : Memref sig .tc .vmem S256x128 .f32) (harg12 : arg12.IsWhole)
variable (h0 : ¬ isReset i) (h1 : ¬ k0_cond2 i = 1#1) (h3 : k0_cond4 i = 1#1) (h2 : ¬ isTurn i)
variable (x0 : Vec Ideal S8 .f32) (x1 : Vec Ideal S1x2048x1024 .bf16) (x2 : Vec Ideal S1x2048x512 .bf16) (x3 : Vec Ideal S1x512 .f32)
  (xs0 : Vec Ideal S256x512 .f32) (xs2 : Vec Ideal S256x256 .f32) (xs3 : Vec Ideal S256x128 .f32) (xs4 : Vec Ideal S256x128 .f32) (xs1 : Vec Ideal S4096x512 .f32)
variable {q k v : ℕ → ℕ → ℝ} {x : EReal}
  (hr : Reads x1 q k v (fun r => 2048 + r)) (hx : (runD.sl.r c i arg3 harg3 h3 x0) = x)
  (hdm : ∀ i j : Fin 256, xs2 (ix2 i j) = (((if j.val ≤ i.val then fade (logFade x) ^ (i.val - j.val) else 0) * (1 / 16) : ℝ) : EReal))
  (hkd : ∀ (i : Fin 256) (j : Fin 128), xs3 (ix2 i j) = ((fade (logFade x) ^ (255 - i.val) * (1 / 16) : ℝ) : EReal))
  (hqd : ∀ (i : Fin 256) (j : Fin 128), xs4 (ix2 i j) = ((fade (logFade x) ^ (i.val + 1) : ℝ) : EReal))
  (hs : ∀ (d : Fin 256) (e : Fin 512), xs0 (ix2 d e) = ((stateR (fade (logFade x)) (scaled k) v 2048 d e : ℝ) : EReal))
  {Tb G : ℕ → ℕ → EReal} {Gn : ℕ → EReal} (hb : ∀ (r : Fin 4096) (e : Fin 512), xs1 (ix2 r e) = Tb r e) (hg : ∀ (r : Fin 2048) (e : Fin 512), x2 (ix3 (0 : Fin 1) r e) = G r e)
  (hgn : ∀ e : Fin 512, x3 (ix2 (0 : Fin 1) e) = Gn e)
  (hi : (i 2).val = 3)

include c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hi hb hg hgn

theorem D_lg : (runD.sl.r_1 c i arg3 harg3 h3 x0) (ix2 0 0) = logFade x := (pay68_apply _ _ _).trans (congrArg logFade hx)

theorem D_dm : ∀ i j : Fin 256, (View.readAt (Elt Ideal) arg10.view (Rect.unit (s := S256x256) ![0, 0] S256x256.size inb_S256x256_S256x256_0_0).toLoadRect (harg10.unread xs2)) (ix2 i j) = (((if j.val ≤ i.val then fade (logFade x) ^ (i.val - j.val) else 0) * (1 / 16) : ℝ) : EReal) := fun i1 j1 => by rw [load_full]; exact hdm i1 j1

theorem D_kd : ∀ (i : Fin 256) (j : Fin 128), (View.readAt (Elt Ideal) arg11.view (Rect.unit (s := S256x128) ![0, 0] S256x128.size inb_S256x128_S256x128_0_0).toLoadRect (harg11.unread xs3)) (ix2 i j) = ((fade (logFade x) ^ (255 - i.val) * (1 / 16) : ℝ) : EReal) := fun i1 j1 => by rw [load_full]; exact hkd i1 j1

theorem D_qd : ∀ (i : Fin 256) (j : Fin 128), (View.readAt (Elt Ideal) arg12.view (Rect.unit (s := S256x128) ![0, 0] S256x128.size inb_S256x128_S256x128_0_0).toLoadRect (harg12.unread xs4)) (ix2 i j) = ((fade (logFade x) ^ (i.val + 1) : ℝ) : EReal) := fun i1 j1 => by rw [load_full]; exact hqd i1 j1

theorem D_s0 : ∀ (d : Fin 256) (e : Fin 512), (View.readAt (Elt Ideal) arg8.view (Rect.unit (s := S256x512) ![0, 0] S256x512.size inb_S256x512_S256x512_0_0).toLoadRect (harg8.unread xs0)) (ix2 d e) = ((stateR (fade (logFade x)) (scaled k) v 2048 d e : ℝ) : EReal) := fun d e => by rw [load_full]; exact hs d e

theorem D_s1 : ∀ (d : Fin 256) (e : Fin 512), (runD.sl.v125 c i arg3 harg3 arg4 harg4 arg8 harg8 arg11 harg11 h3 x0 x1 xs0 xs3) (ix2 d e) = ((stateR (fade (logFade x)) (scaled k) v 2304 d e : ℝ) : EReal) := fun d e =>
  (congrFun (show (runD.sl.v125 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (View.readAt (Elt Ideal) arg8.view (Rect.unit (s := S256x512) ![0, 0] S256x512.size inb_S256x512_S256x512_0_0).toLoadRect (harg8.unread xs0)) from View.readCov_full _ _ _ _ _) _).trans
    (fwdState harg4 0 2048 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s0 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s2 : ∀ (d : Fin 256) (e : Fin 512), (runD.sl.v199 c i arg3 harg3 arg4 harg4 arg8 harg8 arg11 harg11 h3 x0 x1 xs0 xs3) (ix2 d e) = ((stateR (fade (logFade x)) (scaled k) v 2560 d e : ℝ) : EReal) := fun d e =>
  (congrFun (show (runD.sl.v199 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runD.sl.v125 c i arg3 harg3 arg4 harg4 arg8 harg8 arg11 harg11 h3 x0 x1 xs0 xs3) from View.readCov_full _ _ _ _ _) _).trans
    (fwdState harg4 256 2304 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s1 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s3 : ∀ (d : Fin 256) (e : Fin 512), (runD.sl.v273 c i arg3 harg3 arg4 harg4 arg8 harg8 arg11 harg11 h3 x0 x1 xs0 xs3) (ix2 d e) = ((stateR (fade (logFade x)) (scaled k) v 2816 d e : ℝ) : EReal) := fun d e =>
  (congrFun (show (runD.sl.v273 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runD.sl.v199 c i arg3 harg3 arg4 harg4 arg8 harg8 arg11 harg11 h3 x0 x1 xs0 xs3) from View.readCov_full _ _ _ _ _) _).trans
    (fwdState harg4 512 2560 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s2 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s4 : ∀ (d : Fin 256) (e : Fin 512), (runD.sl.v347 c i arg3 harg3 arg4 harg4 arg8 harg8 arg11 harg11 h3 x0 x1 xs0 xs3) (ix2 d e) = ((stateR (fade (logFade x)) (scaled k) v 3072 d e : ℝ) : EReal) := fun d e =>
  (congrFun (show (runD.sl.v347 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runD.sl.v273 c i arg3 harg3 arg4 harg4 arg8 harg8 arg11 harg11 h3 x0 x1 xs0 xs3) from View.readCov_full _ _ _ _ _) _).trans
    (fwdState harg4 768 2816 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s3 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s5 : ∀ (d : Fin 256) (e : Fin 512), (runD.sl.v421 c i arg3 harg3 arg4 harg4 arg8 harg8 arg11 harg11 h3 x0 x1 xs0 xs3) (ix2 d e) = ((stateR (fade (logFade x)) (scaled k) v 3328 d e : ℝ) : EReal) := fun d e =>
  (congrFun (show (runD.sl.v421 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runD.sl.v347 c i arg3 harg3 arg4 harg4 arg8 harg8 arg11 harg11 h3 x0 x1 xs0 xs3) from View.readCov_full _ _ _ _ _) _).trans
    (fwdState harg4 1024 3072 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s4 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s6 : ∀ (d : Fin 256) (e : Fin 512), (runD.sl.v495 c i arg3 harg3 arg4 harg4 arg8 harg8 arg11 harg11 h3 x0 x1 xs0 xs3) (ix2 d e) = ((stateR (fade (logFade x)) (scaled k) v 3584 d e : ℝ) : EReal) := fun d e =>
  (congrFun (show (runD.sl.v495 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runD.sl.v421 c i arg3 harg3 arg4 harg4 arg8 harg8 arg11 harg11 h3 x0 x1 xs0 xs3) from View.readCov_full _ _ _ _ _) _).trans
    (fwdState harg4 1280 3328 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s5 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_s7 : ∀ (d : Fin 256) (e : Fin 512), (runD.sl.v569 c i arg3 harg3 arg4 harg4 arg8 harg8 arg11 harg11 h3 x0 x1 xs0 xs3) (ix2 d e) = ((stateR (fade (logFade x)) (scaled k) v 3840 d e : ℝ) : EReal) := fun d e =>
  (congrFun (show (runD.sl.v569 c i arg3 harg3 arg4 harg4 arg8 harg8 arg11 harg11 h3 x0 x1 xs0 xs3) = chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runD.sl.v495 c i arg3 harg3 arg4 harg4 arg8 harg8 arg11 harg11 h3 x0 x1 xs0 xs3) from View.readCov_full _ _ _ _ _) _).trans
    (fwdState harg4 1536 3584 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s6 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e)

theorem D_state (f : arg8.view.ty.Contents (Elt Ideal)) : ∀ (d : Fin 256) (e : Fin 512), arg8.view.read (Elt Ideal) (arg8.view.writes (Elt Ideal) f (runD (F := Ideal) c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1).1) (ix2 d e) = ((stateR (fade (logFade x)) (scaled k) v 4096 d e : ℝ) : EReal) := fun d e => by
  dsimp only [runD]
  refine (congrFun (View.read_writes_full _ _ _ _ _) _).trans ?_
  show chState (runD.sl.r_1 c i arg3 harg3 h3 x0) (View.readAt (Elt Ideal) arg11.view (Rect.unit (s := S256x128) ![0, 0] S256x128.size inb_S256x128_S256x128_0_0).toLoadRect (harg11.unread xs3)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runD.sl.v569 c i arg3 harg3 arg4 harg4 arg8 harg8 arg11 harg11 h3 x0 x1 xs0 xs3) (ix2 d e) = _
  exact fwdState harg4 1792 3840 hr (by omega) (D_lg c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_kd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s7 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) d e

theorem D_p0 (n : Fin 256) (e : Fin 512) {inbj : ∀ a : Fin 2, k0_off4 i 1792#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1792, 0] S1x256x256.size inb_S1x2048x1024_S1x256x256_0_1792_0).toLoadRect (harg4.unread x1)) (View.readAt (Elt Ideal) arg4.view (Rect.unit (s := S1x2048x1024) ![0, 1792, 256] S1x256x256.size inb_S1x2048x1024_S1x256x256_0_1792_256).toLoadRect (harg4.unread x1)) (View.readAt (Elt Ideal) arg4.view (Rect.unit (s := S1x2048x1024) ![0, 1792, 512] S1x256x512.size inb_S1x2048x1024_S1x256x512_0_1792_512).toLoadRect (harg4.unread x1)) (runD.sl.v569 c i arg3 harg3 arg4 harg4 arg8 harg8 arg11 harg11 h3 x0 x1 xs0 xs3)) (View.readAt (Elt Ideal) arg9.view (Rect.unit (s := S4096x512) (k0_off4 i 1792#32) S256x512.size inbj).toLoadRect (harg9.unread xs1)) (View.readAt (Elt Ideal) arg5.view (Rect.unit (s := S1x2048x512) ![0, 1792, 0] S1x256x512.size inb_S1x2048x512_S1x256x512_0_1792_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (1792 + n.val)) j : ℝ) : EReal) + Tb (2048 + (1792 + n.val)) j) (G (1792 + n.val) e) (Gn e) e := by
  refine fin_rows (b := 2048) (r0 := 1792) (Yf := fun n e => ((outR 0 (fade (logFade x)) q (scaled k) v n e : ℝ) : EReal)) (Yb := Tb) (G := G) (Gn := Gn) (fun n e => ?_) (fun n e => ?_) (fun n e => load_gate harg5 x2 hg 1792 n e) (fun e => by rw [load_full]; exact hgn e) n e
  · exact fwdOut harg4 1792 3840 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s7 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p1 (n : Fin 256) (e : Fin 512) {inbj : ∀ a : Fin 2, k0_off4 i 1536#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1536, 0] S1x256x256.size inb_S1x2048x1024_S1x256x256_0_1536_0).toLoadRect (harg4.unread x1)) (View.readAt (Elt Ideal) arg4.view (Rect.unit (s := S1x2048x1024) ![0, 1536, 256] S1x256x256.size inb_S1x2048x1024_S1x256x256_0_1536_256).toLoadRect (harg4.unread x1)) (View.readAt (Elt Ideal) arg4.view (Rect.unit (s := S1x2048x1024) ![0, 1536, 512] S1x256x512.size inb_S1x2048x1024_S1x256x512_0_1536_512).toLoadRect (harg4.unread x1)) (runD.sl.v495 c i arg3 harg3 arg4 harg4 arg8 harg8 arg11 harg11 h3 x0 x1 xs0 xs3)) (View.readAt (Elt Ideal) arg9.view (Rect.unit (s := S4096x512) (k0_off4 i 1536#32) S256x512.size inbj).toLoadRect (harg9.unread xs1)) (View.readAt (Elt Ideal) arg5.view (Rect.unit (s := S1x2048x512) ![0, 1536, 0] S1x256x512.size inb_S1x2048x512_S1x256x512_0_1536_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (1536 + n.val)) j : ℝ) : EReal) + Tb (2048 + (1536 + n.val)) j) (G (1536 + n.val) e) (Gn e) e := by
  refine fin_rows (b := 2048) (r0 := 1536) (Yf := fun n e => ((outR 0 (fade (logFade x)) q (scaled k) v n e : ℝ) : EReal)) (Yb := Tb) (G := G) (Gn := Gn) (fun n e => ?_) (fun n e => ?_) (fun n e => load_gate harg5 x2 hg 1536 n e) (fun e => by rw [load_full]; exact hgn e) n e
  · exact fwdOut harg4 1536 3584 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s6 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p2 (n : Fin 256) (e : Fin 512) {inbj : ∀ a : Fin 2, k0_off4 i 1280#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1280, 0] S1x256x256.size inb_S1x2048x1024_S1x256x256_0_1280_0).toLoadRect (harg4.unread x1)) (View.readAt (Elt Ideal) arg4.view (Rect.unit (s := S1x2048x1024) ![0, 1280, 256] S1x256x256.size inb_S1x2048x1024_S1x256x256_0_1280_256).toLoadRect (harg4.unread x1)) (View.readAt (Elt Ideal) arg4.view (Rect.unit (s := S1x2048x1024) ![0, 1280, 512] S1x256x512.size inb_S1x2048x1024_S1x256x512_0_1280_512).toLoadRect (harg4.unread x1)) (runD.sl.v421 c i arg3 harg3 arg4 harg4 arg8 harg8 arg11 harg11 h3 x0 x1 xs0 xs3)) (View.readAt (Elt Ideal) arg9.view (Rect.unit (s := S4096x512) (k0_off4 i 1280#32) S256x512.size inbj).toLoadRect (harg9.unread xs1)) (View.readAt (Elt Ideal) arg5.view (Rect.unit (s := S1x2048x512) ![0, 1280, 0] S1x256x512.size inb_S1x2048x512_S1x256x512_0_1280_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (1280 + n.val)) j : ℝ) : EReal) + Tb (2048 + (1280 + n.val)) j) (G (1280 + n.val) e) (Gn e) e := by
  refine fin_rows (b := 2048) (r0 := 1280) (Yf := fun n e => ((outR 0 (fade (logFade x)) q (scaled k) v n e : ℝ) : EReal)) (Yb := Tb) (G := G) (Gn := Gn) (fun n e => ?_) (fun n e => ?_) (fun n e => load_gate harg5 x2 hg 1280 n e) (fun e => by rw [load_full]; exact hgn e) n e
  · exact fwdOut harg4 1280 3328 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s5 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p3 (n : Fin 256) (e : Fin 512) {inbj : ∀ a : Fin 2, k0_off4 i 1024#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 1024, 0] S1x256x256.size inb_S1x2048x1024_S1x256x256_0_1024_0).toLoadRect (harg4.unread x1)) (View.readAt (Elt Ideal) arg4.view (Rect.unit (s := S1x2048x1024) ![0, 1024, 256] S1x256x256.size inb_S1x2048x1024_S1x256x256_0_1024_256).toLoadRect (harg4.unread x1)) (View.readAt (Elt Ideal) arg4.view (Rect.unit (s := S1x2048x1024) ![0, 1024, 512] S1x256x512.size inb_S1x2048x1024_S1x256x512_0_1024_512).toLoadRect (harg4.unread x1)) (runD.sl.v347 c i arg3 harg3 arg4 harg4 arg8 harg8 arg11 harg11 h3 x0 x1 xs0 xs3)) (View.readAt (Elt Ideal) arg9.view (Rect.unit (s := S4096x512) (k0_off4 i 1024#32) S256x512.size inbj).toLoadRect (harg9.unread xs1)) (View.readAt (Elt Ideal) arg5.view (Rect.unit (s := S1x2048x512) ![0, 1024, 0] S1x256x512.size inb_S1x2048x512_S1x256x512_0_1024_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (1024 + n.val)) j : ℝ) : EReal) + Tb (2048 + (1024 + n.val)) j) (G (1024 + n.val) e) (Gn e) e := by
  refine fin_rows (b := 2048) (r0 := 1024) (Yf := fun n e => ((outR 0 (fade (logFade x)) q (scaled k) v n e : ℝ) : EReal)) (Yb := Tb) (G := G) (Gn := Gn) (fun n e => ?_) (fun n e => ?_) (fun n e => load_gate harg5 x2 hg 1024 n e) (fun e => by rw [load_full]; exact hgn e) n e
  · exact fwdOut harg4 1024 3072 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s4 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p4 (n : Fin 256) (e : Fin 512) {inbj : ∀ a : Fin 2, k0_off4 i 768#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 768, 0] S1x256x256.size inb_S1x2048x1024_S1x256x256_0_768_0).toLoadRect (harg4.unread x1)) (View.readAt (Elt Ideal) arg4.view (Rect.unit (s := S1x2048x1024) ![0, 768, 256] S1x256x256.size inb_S1x2048x1024_S1x256x256_0_768_256).toLoadRect (harg4.unread x1)) (View.readAt (Elt Ideal) arg4.view (Rect.unit (s := S1x2048x1024) ![0, 768, 512] S1x256x512.size inb_S1x2048x1024_S1x256x512_0_768_512).toLoadRect (harg4.unread x1)) (runD.sl.v273 c i arg3 harg3 arg4 harg4 arg8 harg8 arg11 harg11 h3 x0 x1 xs0 xs3)) (View.readAt (Elt Ideal) arg9.view (Rect.unit (s := S4096x512) (k0_off4 i 768#32) S256x512.size inbj).toLoadRect (harg9.unread xs1)) (View.readAt (Elt Ideal) arg5.view (Rect.unit (s := S1x2048x512) ![0, 768, 0] S1x256x512.size inb_S1x2048x512_S1x256x512_0_768_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (768 + n.val)) j : ℝ) : EReal) + Tb (2048 + (768 + n.val)) j) (G (768 + n.val) e) (Gn e) e := by
  refine fin_rows (b := 2048) (r0 := 768) (Yf := fun n e => ((outR 0 (fade (logFade x)) q (scaled k) v n e : ℝ) : EReal)) (Yb := Tb) (G := G) (Gn := Gn) (fun n e => ?_) (fun n e => ?_) (fun n e => load_gate harg5 x2 hg 768 n e) (fun e => by rw [load_full]; exact hgn e) n e
  · exact fwdOut harg4 768 2816 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s3 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p5 (n : Fin 256) (e : Fin 512) {inbj : ∀ a : Fin 2, k0_off4 i 512#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 512, 0] S1x256x256.size inb_S1x2048x1024_S1x256x256_0_512_0).toLoadRect (harg4.unread x1)) (View.readAt (Elt Ideal) arg4.view (Rect.unit (s := S1x2048x1024) ![0, 512, 256] S1x256x256.size inb_S1x2048x1024_S1x256x256_0_512_256).toLoadRect (harg4.unread x1)) (View.readAt (Elt Ideal) arg4.view (Rect.unit (s := S1x2048x1024) ![0, 512, 512] S1x256x512.size inb_S1x2048x1024_S1x256x512_0_512_512).toLoadRect (harg4.unread x1)) (runD.sl.v199 c i arg3 harg3 arg4 harg4 arg8 harg8 arg11 harg11 h3 x0 x1 xs0 xs3)) (View.readAt (Elt Ideal) arg9.view (Rect.unit (s := S4096x512) (k0_off4 i 512#32) S256x512.size inbj).toLoadRect (harg9.unread xs1)) (View.readAt (Elt Ideal) arg5.view (Rect.unit (s := S1x2048x512) ![0, 512, 0] S1x256x512.size inb_S1x2048x512_S1x256x512_0_512_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (512 + n.val)) j : ℝ) : EReal) + Tb (2048 + (512 + n.val)) j) (G (512 + n.val) e) (Gn e) e := by
  refine fin_rows (b := 2048) (r0 := 512) (Yf := fun n e => ((outR 0 (fade (logFade x)) q (scaled k) v n e : ℝ) : EReal)) (Yb := Tb) (G := G) (Gn := Gn) (fun n e => ?_) (fun n e => ?_) (fun n e => load_gate harg5 x2 hg 512 n e) (fun e => by rw [load_full]; exact hgn e) n e
  · exact fwdOut harg4 512 2560 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s2 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p6 (n : Fin 256) (e : Fin 512) {inbj : ∀ a : Fin 2, k0_off4 i 256#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 256, 0] S1x256x256.size inb_S1x2048x1024_S1x256x256_0_256_0).toLoadRect (harg4.unread x1)) (View.readAt (Elt Ideal) arg4.view (Rect.unit (s := S1x2048x1024) ![0, 256, 256] S1x256x256.size inb_S1x2048x1024_S1x256x256_0_256_256).toLoadRect (harg4.unread x1)) (View.readAt (Elt Ideal) arg4.view (Rect.unit (s := S1x2048x1024) ![0, 256, 512] S1x256x512.size inb_S1x2048x1024_S1x256x512_0_256_512).toLoadRect (harg4.unread x1)) (runD.sl.v125 c i arg3 harg3 arg4 harg4 arg8 harg8 arg11 harg11 h3 x0 x1 xs0 xs3)) (View.readAt (Elt Ideal) arg9.view (Rect.unit (s := S4096x512) (k0_off4 i 256#32) S256x512.size inbj).toLoadRect (harg9.unread xs1)) (View.readAt (Elt Ideal) arg5.view (Rect.unit (s := S1x2048x512) ![0, 256, 0] S1x256x512.size inb_S1x2048x512_S1x256x512_0_256_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (256 + n.val)) j : ℝ) : EReal) + Tb (2048 + (256 + n.val)) j) (G (256 + n.val) e) (Gn e) e := by
  refine fin_rows (b := 2048) (r0 := 256) (Yf := fun n e => ((outR 0 (fade (logFade x)) q (scaled k) v n e : ℝ) : EReal)) (Yb := Tb) (G := G) (Gn := Gn) (fun n e => ?_) (fun n e => ?_) (fun n e => load_gate harg5 x2 hg 256 n e) (fun e => by rw [load_full]; exact hgn e) n e
  · exact fwdOut harg4 256 2304 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s1 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_p7 (n : Fin 256) (e : Fin 512) {inbj : ∀ a : Fin 2, k0_off4 i 0#32 a + S256x512.size a ≤ S4096x512.size a} : chFin (F := Ideal) (chOut (F := Ideal) (View.readAt (Elt Ideal) arg10.view (Rect.unit (s := S256x256) ![0, 0] S256x256.size inb_S256x256_S256x256_0_0).toLoadRect (harg10.unread xs2)) (View.readAt (Elt Ideal) arg12.view (Rect.unit (s := S256x128) ![0, 0] S256x128.size inb_S256x128_S256x128_0_0).toLoadRect (harg12.unread xs4)) (View.readAt (Elt Ideal) arg4.view (Rect.unit (s := S1x2048x1024) ![0, 0, 0] S1x256x256.size inb_S1x2048x1024_S1x256x256_0_0_0).toLoadRect (harg4.unread x1)) (View.readAt (Elt Ideal) arg4.view (Rect.unit (s := S1x2048x1024) ![0, 0, 256] S1x256x256.size inb_S1x2048x1024_S1x256x256_0_0_256).toLoadRect (harg4.unread x1)) (View.readAt (Elt Ideal) arg4.view (Rect.unit (s := S1x2048x1024) ![0, 0, 512] S1x256x512.size inb_S1x2048x1024_S1x256x512_0_0_512).toLoadRect (harg4.unread x1)) (View.readAt (Elt Ideal) arg8.view (Rect.unit (s := S256x512) ![0, 0] S256x512.size inb_S256x512_S256x512_0_0).toLoadRect (harg8.unread xs0))) (View.readAt (Elt Ideal) arg9.view (Rect.unit (s := S4096x512) (k0_off4 i 0#32) S256x512.size inbj).toLoadRect (harg9.unread xs1)) (View.readAt (Elt Ideal) arg5.view (Rect.unit (s := S1x2048x512) ![0, 0, 0] S1x256x512.size inb_S1x2048x512_S1x256x512_0_0_0).toLoadRect (harg5.unread x2)) (View.readAt (Elt Ideal) arg6.view (Rect.unit (s := S1x512) ![0, 0] S1x512.size inb_S1x512_S1x512_0_0).toLoadRect (harg6.unread x3)) (ix3 (0 : Fin 1) n e)
    = finAt (fun j => ((outR 0 (fade (logFade x)) q (scaled k) v (2048 + (0 + n.val)) j : ℝ) : EReal) + Tb (2048 + (0 + n.val)) j) (G (0 + n.val) e) (Gn e) e := by
  refine fin_rows (b := 2048) (r0 := 0) (Yf := fun n e => ((outR 0 (fade (logFade x)) q (scaled k) v n e : ℝ) : EReal)) (Yb := Tb) (G := G) (Gn := Gn) (fun n e => ?_) (fun n e => ?_) (fun n e => load_gate harg5 x2 hg 0 n e) (fun e => by rw [load_full]; exact hgn e) n e
  · exact fwdOut harg4 0 2048 hr (by omega) (D_dm c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_qd c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) (D_s0 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi) n e
  · exact load_rows harg9 xs1 hb (by simp only [k0_off4, hi]; rfl) n e

theorem D_rows : BlockOf (fun r e => finAt (fun j => ((outR 0 (fade (logFade x)) q (scaled k) v (2048 + r) j : ℝ) : EReal) + Tb (2048 + r) j) (G r e) (Gn e) e) (runD (F := Ideal) c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1).2.1 [1792, 1536, 1280, 1024, 768, 512, 256, 0] := by
  dsimp only [runD]
  exact BlockOf.cons (o := 1792) (fun n e => D_p0 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 1536) (fun n e => D_p1 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 1280) (fun n e => D_p2 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 1024) (fun n e => D_p3 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 768) (fun n e => D_p4 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 512) (fun n e => D_p5 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 256) (fun n e => D_p6 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.cons (o := 0) (fun n e => D_p7 c i arg3 harg3 arg4 harg4 arg5 harg5 arg6 harg6 arg7 harg7 arg8 harg8 arg9 harg9 arg10 harg10 arg11 harg11 arg12 harg12 h0 h1 h3 h2 x0 x1 x2 x3 xs0 xs2 xs3 xs4 xs1 hr hx hdm hkd hqd hs hb hg hgn hi n e)
    (BlockOf.nil _))))))))

end

end Cert.KernelIdeal.Ret

end
-- ==== Proof.KInv.lean ====
module

public import proofs.«01_k».proof.Proof.KBlocks
public import proofs.«01_k».proof.Proof.ValA
public import proofs.«01_k».proof.Proof.ValB
public import proofs.«01_k».proof.Proof.ValC
public import proofs.«01_k».proof.Proof.ValD

@[expose] public section

set_option maxRecDepth 16384

noncomputable section

/-! What the buffers hold from one grid point to the next. -/
namespace Cert.KernelIdeal.Ret

open Idealize.ShloMosaic Idealize.ShloMosaic.TcCoe Idealize.ShloMosaic.Tactic
open Idealize.SL Idealize.SL.Sem
open Cert.KernelIdeal.Gen Cert.Retention

theorem resetOf (t : Fin grid0.N) (h : t.val % 2 = 0) : isReset (grid0.coords t) := (isReset_iff t).mpr h
theorem notReset (t : Fin grid0.N) (h : t.val % 2 ≠ 0) : ¬ isReset (grid0.coords t) := fun k => h ((isReset_iff t).mp k)
theorem firstOf (t : Fin grid0.N) (h : t.val % 4 = 0) : isFirst (grid0.coords t) := (isFirst_iff t).mpr h
theorem notFirst (t : Fin grid0.N) (h : t.val % 4 ≠ 0) : ¬ isFirst (grid0.coords t) := fun k => h ((isFirst_iff t).mp k)
theorem turnOf (t : Fin grid0.N) (h : t.val % 4 = 2) : isTurn (grid0.coords t) := (isTurn_iff t).mpr h
theorem notTurn (t : Fin grid0.N) (h : t.val % 4 ≠ 2) : ¬ isTurn (grid0.coords t) := fun k => h ((isTurn_iff t).mp k)
theorem backOf (t : Fin grid0.N) (h : t.val % 4 ≤ 1) : k0_cond2 (grid0.coords t) = 1#1 := (back_iff t).mpr h
theorem notBack (t : Fin grid0.N) (h : 2 ≤ t.val % 4) : ¬ k0_cond2 (grid0.coords t) = 1#1 := fun k => by have := (back_iff t).mp k; omega
theorem forthOf (t : Fin grid0.N) (h : 2 ≤ t.val % 4) : k0_cond4 (grid0.coords t) = 1#1 := (forth_iff t).mpr h
theorem notForth (t : Fin grid0.N) (h : t.val % 4 ≤ 1) : ¬ k0_cond4 (grid0.coords t) = 1#1 := fun k => by have := (forth_iff t).mp k; omega

theorem off1 : ∀ t : Fin grid0.N, t.val % 4 ≤ 1 → k0_off1 (grid0.coords t) = ![4 + t.val / 4 % 4] := by decide +kernel
theorem off3 : ∀ t : Fin grid0.N, 2 ≤ t.val % 4 → k0_off3 (grid0.coords t) = ![t.val / 4 % 4] := by decide +kernel

theorem part_hi (r : ℕ) (h : 2048 ≤ r) (h' : r < 4096) : ∃ o ∈ [2048, 2304, 2560, 2816, 3072, 3328, 3584, 3840], o ≤ r ∧ r < o + 256 := by
  simp only [List.mem_cons, List.not_mem_nil, or_false, exists_eq_or_imp, exists_eq_left]; omega
theorem part_lo (r : ℕ) (h : r < 2048) : ∃ o ∈ [0, 256, 512, 768, 1024, 1280, 1536, 1792], o ≤ r ∧ r < o + 256 := by
  simp only [List.mem_cons, List.not_mem_nil, or_false, exists_eq_or_imp, exists_eq_left]; omega
theorem part_down (r : ℕ) (h : r < 2048) : ∃ o ∈ [1792, 1536, 1280, 1024, 768, 512, 256, 0], o ≤ r ∧ r < o + 256 := by
  simp only [List.mem_cons, List.not_mem_nil, or_false, exists_eq_or_imp, exists_eq_left]; omega

/-- After half of a backward pass: the decays and the state. -/
structure BackHalf (x : EReal) (k v : ℕ → ℕ → ℝ) (s0 : Vec Ideal S256x512 .f32) (s2 : Vec Ideal S256x256 .f32) (s3 s4 : Vec Ideal S256x128 .f32) : Prop where
  dm : ∀ i j : Fin 256, s2 (ix2 i j) = (((if 1 + i.val ≤ j.val then fade (logFade x) ^ (j.val - i.val) else 0) * (1 / 16) : ℝ) : EReal)
  kd : ∀ (i : Fin 256) (j : Fin 128), s3 (ix2 i j) = ((fade (logFade x) ^ i.val * (1 / 16) : ℝ) : EReal)
  qd : ∀ (i : Fin 256) (j : Fin 128), s4 (ix2 i j) = ((fade (logFade x) ^ (256 - i.val) : ℝ) : EReal)
  st : ∀ (d : Fin 256) (e : Fin 512), s0 (ix2 d e) = ((stateR (fade (logFade x)) (scaled k) v 2048 d e : ℝ) : EReal)

/-- After half of a forward pass: the decays and the state. -/
structure ForthHalf (x : EReal) (k v : ℕ → ℕ → ℝ) (s0 : Vec Ideal S256x512 .f32) (s2 : Vec Ideal S256x256 .f32) (s3 s4 : Vec Ideal S256x128 .f32) : Prop where
  dm : ∀ i j : Fin 256, s2 (ix2 i j) = (((if j.val ≤ i.val then fade (logFade x) ^ (i.val - j.val) else 0) * (1 / 16) : ℝ) : EReal)
  kd : ∀ (i : Fin 256) (j : Fin 128), s3 (ix2 i j) = ((fade (logFade x) ^ (255 - i.val) * (1 / 16) : ℝ) : EReal)
  qd : ∀ (i : Fin 256) (j : Fin 128), s4 (ix2 i j) = ((fade (logFade x) ^ (i.val + 1) : ℝ) : EReal)
  st : ∀ (d : Fin 256) (e : Fin 512), s0 (ix2 d e) = ((stateR (fade (logFade x)) (scaled k) v 2048 d e : ℝ) : EReal)

variable (m : (ℓ : Loc nD τ sig) → Buf (Elt Ideal) ℓ)

/-- The sequences of queries, keys and values of the head of point `n`. -/
def qAt (c : Dev nD) (n : ℕ) : ℕ → ℕ → ℝ := seqOf (acts m c) (4096 * (n / 16)) (1024 * (n / 4 % 4))
def kAt (c : Dev nD) (n : ℕ) : ℕ → ℕ → ℝ := seqOf (acts m c) (4096 * (n / 16)) (1024 * (n / 4 % 4) + 256)
def vAt (c : Dev nD) (n : ℕ) : ℕ → ℕ → ℝ := seqOf (acts m c) (4096 * (n / 16)) (1024 * (n / 4 % 4) + 512)

/-- What the rows after row `r` give row `r`. -/
def behind (c : Dev nD) (n r e : ℕ) : EReal :=
  ((outR 1 (fade (logFade (decB m c (n / 4 % 4)))) (backSeq (qAt m c n)) (scaled (backSeq (kAt m c n))) (backSeq (vAt m c n)) (4095 - r) e : ℝ) : EReal)

/-- What the scratch buffers hold before point `n`. -/
structure Inv (c : Dev nD) (n : ℕ) (s0 : Vec Ideal S256x512 .f32) (s1 : Vec Ideal S4096x512 .f32) (s2 : Vec Ideal S256x256 .f32) (s3 s4 : Vec Ideal S256x128 .f32) : Prop where
  one : n % 4 = 1 → BackHalf (decB m c (n / 4 % 4)) (backSeq (kAt m c n)) (backSeq (vAt m c n)) s0 s2 s3 s4
  upper : n % 4 = 1 → ∀ (r : Fin 4096) (e : Fin 512), 2048 ≤ r.val → s1 (ix2 r e) = behind m c n r e
  all : 2 ≤ n % 4 → ∀ (r : Fin 4096) (e : Fin 512), s1 (ix2 r e) = behind m c n r e
  three : n % 4 = 3 → ForthHalf (decF m c (n / 4 % 4)) (kAt m c n) (vAt m c n) s0 s2 s3 s4

/-- The block of the result point `t` leaves. -/
def outBlk (c : Dev nD) (t : Fin cfg0.N) : Vec Ideal S1x2048x512 .bf16 := fun y =>
  resultAt (acts m c) (decF m c) (decB m c) (gains m c) (t.val / 16) (2048 * (t.val % 4 - 2) + (y 1).val) (512 * (t.val / 4 % 4) + (y 2).val)

variable (c : Dev nD) (hfin : ∀ r k, k < 4096 → acts m c r k = ((acts m c r k).toReal : EReal)) (t : Fin cfg0.N)

/-- The gate of point `t`'s block, and the gain of its head. -/
def gateAt (r e : ℕ) : EReal := acts m c (4096 * (t.val / 16) + (2048 * (t.val % 4 - 2) + r)) (4096 + (512 * (t.val / 4 % 4) + e))
def gainAt (e : ℕ) : EReal := gains m c (512 * (t.val / 4 % 4) + e)

include hfin in
theorem reads_back (hq : t.val % 4 ≤ 1) (b0 : ℕ) (hb0 : b0 = 2048 * (t.val % 4)) :
    Reads (iblk m c 1 t) (backSeq (qAt m c t.val)) (backSeq (kAt m c t.val)) (backSeq (vAt m c t.val)) (fun r => b0 + (2047 - r)) := by
  subst hb0
  refine ⟨fun r d => ?_, fun r d => ?_, fun r d => ?_⟩ <;>
    (refine (blk1 m c t r _).trans ((hfin _ _ (by omega)).trans ?_); rw [if_pos (by omega)]; unfold backSeq; first | unfold qAt | unfold kAt | unfold vAt) <;>
    (refine congrArg (fun z : EReal => ((z.toReal : ℝ) : EReal)) (congrArg₂ (acts m c) ?_ ?_) <;> (try dsimp only) <;> omega)

include hfin in
theorem reads_forth (hq : 2 ≤ t.val % 4) (b0 : ℕ) (hb0 : b0 = 2048 * (t.val % 4 - 2)) :
    Reads (iblk m c 1 t) (qAt m c t.val) (kAt m c t.val) (vAt m c t.val) (fun r => b0 + r) := by
  subst hb0
  refine ⟨fun r d => ?_, fun r d => ?_, fun r d => ?_⟩ <;>
    (refine (blk1 m c t r _).trans ((hfin _ _ (by omega)).trans ?_); rw [if_neg (by omega)]; first | unfold qAt | unfold kAt | unfold vAt) <;>
    (refine congrArg (fun z : EReal => ((z.toReal : ℝ) : EReal)) (congrArg₂ (acts m c) ?_ ?_) <;> (try dsimp only) <;> omega)

theorem dec_back : (iblk m c 0 t : Vec Ideal S8 .f32) (ix1 (⟨4 + t.val / 4 % 4, by omega⟩ : Fin 8)) = decB m c (t.val / 4 % 4) :=
  (blk0 m c t _).trans (v2_apply m c ⟨t.val / 4 % 4, by omega⟩).2
theorem dec_forth : (iblk m c 0 t : Vec Ideal S8 .f32) (ix1 (⟨t.val / 4 % 4, by omega⟩ : Fin 8)) = decF m c (t.val / 4 % 4) :=
  (blk0 m c t _).trans (v2_apply m c ⟨t.val / 4 % 4, by omega⟩).1

set_option maxHeartbeats 1000000 in
include hfin in
theorem next_A (hq : t.val % 4 = 0) (s1 : Vec Ideal S4096x512 .f32) (f0 : (scr0).view.ty.Contents (Elt Ideal)) (f2 : (scr2).view.ty.Contents (Elt Ideal)) (f3 : (scr3).view.ty.Contents (Elt Ideal)) (f4 : (scr4).view.ty.Contents (Elt Ideal)) :
    Inv m c (t.val + 1) (scr0.view.read (Elt Ideal) (scr0.view.writes (Elt Ideal) f0 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).1))
      (scr1.view.read (Elt Ideal) (scr1.view.writes (Elt Ideal) (scrW1.unread s1) (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.2.2.1))
      (scr2.view.read (Elt Ideal) (scr2.view.writes (Elt Ideal) f2 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.1)) (scr3.view.read (Elt Ideal) (scr3.view.writes (Elt Ideal) f3 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.1)) (scr4.view.read (Elt Ideal) (scr4.view.writes (Elt Ideal) f4 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.2.1)) := by
  have e1 : (t.val + 1) / 4 % 4 = t.val / 4 % 4 := by omega
  have e2 : (t.val + 1) / 16 = t.val / 16 := by omega
  refine ⟨fun _ => ?_, fun _ r e hr => ?_, fun h => absurd h (by omega), fun h => absurd h (by omega)⟩
  · unfold kAt vAt; rw [e1, e2]
    exact ⟨A_dm' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t) (reads_back m c hfin t (by omega) 0 (by omega)) (show runA.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) ((coord2 t).trans hq) f2, A_kd' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t) (reads_back m c hfin t (by omega) 0 (by omega)) (show runA.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) ((coord2 t).trans hq) f3, A_qd' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t) (reads_back m c hfin t (by omega) 0 (by omega)) (show runA.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) ((coord2 t).trans hq) f4, A_state c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t) (reads_back m c hfin t (by omega) 0 (by omega)) (show runA.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) ((coord2 t).trans hq) f0⟩
  · unfold behind qAt kAt vAt; rw [e1, e2]
    refine (RowsOf.read _ _ r e _ _ (A_rows c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t) (reads_back m c hfin t (by omega) 0 (by omega)) (show runA.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) ((coord2 t).trans hq))).trans (if_pos ?_)
    exact part_hi r (by omega) r.isLt

include hfin in
theorem next_B (hq : t.val % 4 = 1) (s0 : Vec Ideal S256x512 .f32) (s1 : Vec Ideal S4096x512 .f32) (s2 : Vec Ideal S256x256 .f32) (s3 s4 : Vec Ideal S256x128 .f32) (hI : Inv m c t.val s0 s1 s2 s3 s4) (f0 : (scr0).view.ty.Contents (Elt Ideal)) :
    Inv m c (t.val + 1) (scr0.view.read (Elt Ideal) (scr0.view.writes (Elt Ideal) f0 (runB (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4).1))
      (scr1.view.read (Elt Ideal) (scr1.view.writes (Elt Ideal) (scrW1.unread s1) (runB (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4).2.1)) s2 s3 s4 := by
  have e1 : (t.val + 1) / 4 % 4 = t.val / 4 % 4 := by omega
  have e2 : (t.val + 1) / 16 = t.val / 16 := by omega
  refine ⟨fun h => absurd h (by omega), fun h => absurd h (by omega), fun _ r e => ?_, fun h => absurd h (by omega)⟩
  refine (RowsOf.read _ _ r e _ _ (B_rows c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4 (reads_back m c hfin t (by omega) 2048 (by omega)) (show runB.sl.r (F := Ideal) c (grid0.coords t) (stg0 t) (stgW0 t) (backOf t (by omega)) (iblk m c 0 t) = _ from (load_scalar (stgW0 t) (iblk m c 0 t) _ (⟨4 + t.val / 4 % 4, by omega⟩ : Fin 8) (off1 t (by omega)) _ _).trans (dec_back m c t)) (hI.one hq).dm (hI.one hq).kd (hI.one hq).qd (hI.one hq).st ((coord2 t).trans hq))).trans ?_
  have e3 : behind m c (t.val + 1) r e = behind m c t.val r e := by unfold behind qAt kAt vAt; rw [e1, e2]
  rw [e3]
  by_cases hlt : r.val < 2048
  · exact if_pos (part_lo r hlt)
  · refine (if_neg ?_).trans ?_
    · rintro ⟨o, ho, h1, h2⟩
      have hall : ∀ o ∈ [0, 256, 512, 768, 1024, 1280, 1536, 1792], o ≤ 1792 := by decide
      have := hall o ho
      omega
    · rw [scrW1.read_unread]
      exact hI.upper hq r e (by omega)

include hfin in
theorem next_C (hq : t.val % 4 = 2) (s0 : Vec Ideal S256x512 .f32) (s1 : Vec Ideal S4096x512 .f32) (s2 : Vec Ideal S256x256 .f32) (s3 s4 : Vec Ideal S256x128 .f32) (hI : Inv m c t.val s0 s1 s2 s3 s4) (f0 : (scr0).view.ty.Contents (Elt Ideal)) (f2 : (scr2).view.ty.Contents (Elt Ideal)) (f3 : (scr3).view.ty.Contents (Elt Ideal)) (f4 : (scr4).view.ty.Contents (Elt Ideal)) :
    Inv m c (t.val + 1) (scr0.view.read (Elt Ideal) (scr0.view.writes (Elt Ideal) f0 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).1)) s1
      (scr2.view.read (Elt Ideal) (scr2.view.writes (Elt Ideal) f2 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.1)) (scr3.view.read (Elt Ideal) (scr3.view.writes (Elt Ideal) f3 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.1)) (scr4.view.read (Elt Ideal) (scr4.view.writes (Elt Ideal) f4 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.2.1)) := by
  have e1 : (t.val + 1) / 4 % 4 = t.val / 4 % 4 := by omega
  have e2 : (t.val + 1) / 16 = t.val / 16 := by omega
  refine ⟨fun h => absurd h (by omega), fun h => absurd h (by omega), fun _ r e => ?_, fun _ => ?_⟩
  · have e3 : behind m c (t.val + 1) r e = behind m c t.val r e := by unfold behind qAt kAt vAt; rw [e1, e2]
    rw [e3]; exact hI.all (by omega) r e
  · unfold kAt vAt; rw [e1, e2]
    exact ⟨C_dm' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1 (reads_forth m c hfin t (by omega) 0 (by omega)) (show runC.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (Tb := behind m c t.val) (G := gateAt m c t) (Gn := gainAt m c t) (hI.all (by omega)) (fun r e => blk2 m c t r e) (fun e => blk3 m c t e) ((coord2 t).trans hq) f2, C_kd' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1 (reads_forth m c hfin t (by omega) 0 (by omega)) (show runC.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (Tb := behind m c t.val) (G := gateAt m c t) (Gn := gainAt m c t) (hI.all (by omega)) (fun r e => blk2 m c t r e) (fun e => blk3 m c t e) ((coord2 t).trans hq) f3, C_qd' c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1 (reads_forth m c hfin t (by omega) 0 (by omega)) (show runC.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (Tb := behind m c t.val) (G := gateAt m c t) (Gn := gainAt m c t) (hI.all (by omega)) (fun r e => blk2 m c t r e) (fun e => blk3 m c t e) ((coord2 t).trans hq) f4, C_state c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1 (reads_forth m c hfin t (by omega) 0 (by omega)) (show runC.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (Tb := behind m c t.val) (G := gateAt m c t) (Gn := gainAt m c t) (hI.all (by omega)) (fun r e => blk2 m c t r e) (fun e => blk3 m c t e) ((coord2 t).trans hq) f0⟩

theorem next_D (hq : t.val % 4 = 3) (s0 : Vec Ideal S256x512 .f32) (s1 : Vec Ideal S4096x512 .f32) (s2 : Vec Ideal S256x256 .f32) (s3 s4 : Vec Ideal S256x128 .f32) : Inv m c (t.val + 1) s0 s1 s2 s3 s4 :=
  ⟨fun h => absurd h (by omega), fun h => absurd h (by omega), fun h => absurd h (by omega), fun h => absurd h (by omega)⟩

theorem out_eq (b0 : ℕ) (hb0 : b0 = 2048 * (t.val % 4 - 2)) (r : Fin 2048) (e : Fin 512) :
    outBlk m c t (ix3 (0 : Fin 1) r e)
      = finAt (fun j => ((outR 0 (fade (logFade (decF m c (t.val / 4 % 4)))) (qAt m c t.val) (scaled (kAt m c t.val)) (vAt m c t.val) (b0 + r) j : ℝ) : EReal)
          + behind m c t.val (b0 + r) j)
        (gateAt m c t r e) (gainAt m c t e) e := by
  subst hb0
  have h1 : (512 * (t.val / 4 % 4) + e.val) / 512 = t.val / 4 % 4 := by omega
  have h2 : (512 * (t.val / 4 % 4) + e.val) % 512 = e.val := by omega
  show resultAt _ _ _ _ (t.val / 16) (2048 * (t.val % 4 - 2) + r.val) (512 * (t.val / 4 % 4) + e.val) = _
  unfold resultAt retRow; rw [h1, h2]; rfl

set_option maxHeartbeats 1000000 in
include hfin in
theorem out_C (hq : t.val % 4 = 2) (s0 : Vec Ideal S256x512 .f32) (s1 : Vec Ideal S4096x512 .f32) (s2 : Vec Ideal S256x256 .f32) (s3 s4 : Vec Ideal S256x128 .f32) (hI : Inv m c t.val s0 s1 s2 s3 s4) (f : (stg4 t).view.ty.Contents (Elt Ideal)) :
    (stg4 t).view.read (Elt Ideal) ((stg4 t).view.writes (Elt Ideal) f (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.2.2.1) = outBlk m c t := by
  funext y
  obtain ⟨r, e, rfl⟩ : ∃ (r : Fin 2048) (e : Fin 512), y = ix3 (0 : Fin 1) r e := ⟨y 1, y 2, by
    funext a; match a with
    | ⟨0, _⟩ => exact Subsingleton.elim (α := Fin 1) _ _
    | ⟨1, _⟩ => rfl
    | ⟨2, _⟩ => rfl⟩
  rw [out_eq m c t 0 (by omega)]
  refine (BlockOf.read _ _ r e _ _ (C_rows c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1 (reads_forth m c hfin t (by omega) 0 (by omega)) (show runC.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (Tb := behind m c t.val) (G := gateAt m c t) (Gn := gainAt m c t) (hI.all (by omega)) (fun r e => blk2 m c t r e) (fun e => blk3 m c t e) ((coord2 t).trans hq)) (part_down r r.isLt))

set_option maxHeartbeats 1000000 in
include hfin in
theorem out_D (hq : t.val % 4 = 3) (s0 : Vec Ideal S256x512 .f32) (s1 : Vec Ideal S4096x512 .f32) (s2 : Vec Ideal S256x256 .f32) (s3 s4 : Vec Ideal S256x128 .f32) (hI : Inv m c t.val s0 s1 s2 s3 s4) (f : (stg4 t).view.ty.Contents (Elt Ideal)) :
    (stg4 t).view.read (Elt Ideal) ((stg4 t).view.writes (Elt Ideal) f (runD (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (notBack t (by omega)) (forthOf t (by omega)) (notTurn t (by omega)) (iblk m c 0 t) (iblk m c 1 t) (iblk m c 2 t) (iblk m c 3 t) s0 s2 s3 s4 s1).2.1) = outBlk m c t := by
  funext y
  obtain ⟨r, e, rfl⟩ : ∃ (r : Fin 2048) (e : Fin 512), y = ix3 (0 : Fin 1) r e := ⟨y 1, y 2, by
    funext a; match a with
    | ⟨0, _⟩ => exact Subsingleton.elim (α := Fin 1) _ _
    | ⟨1, _⟩ => rfl
    | ⟨2, _⟩ => rfl⟩
  rw [out_eq m c t 2048 (by omega)]
  refine (BlockOf.read _ _ r e _ _ (D_rows c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (notBack t (by omega)) (forthOf t (by omega)) (notTurn t (by omega)) (iblk m c 0 t) (iblk m c 1 t) (iblk m c 2 t) (iblk m c 3 t) s0 s2 s3 s4 s1 (reads_forth m c hfin t (by omega) 2048 (by omega)) (show runD.sl.r (F := Ideal) c (grid0.coords t) (stg0 t) (stgW0 t) (forthOf t (by omega)) (iblk m c 0 t) = _ from (load_scalar (stgW0 t) (iblk m c 0 t) _ (⟨t.val / 4 % 4, by omega⟩ : Fin 8) (off3 t (by omega)) _ _).trans (dec_forth m c t)) (hI.three hq).dm (hI.three hq).kd (hI.three hq).qd (hI.three hq).st (Tb := behind m c t.val) (G := gateAt m c t) (Gn := gainAt m c t) (hI.all (by omega)) (fun r e => blk2 m c t r e) (fun e => blk3 m c t e) ((coord2 t).trans hq)) (part_down r r.isLt))

end Cert.KernelIdeal.Ret

end
-- ==== Proof.KVal.lean ====
module

public import proofs.«01_k».proof.Proof.KInv
public import Idealize.ShloMosaic.Lib.Claim

@[expose] public section

set_option maxRecDepth 16384

noncomputable section

/-! The retention's result, at any launch whose activations are real numbers. -/
namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Retention

local notation "𝕄" => MT nD τ sig Unit (Elt Ideal) ℕ (UR sig nD τ) ℕ

variable (m : (ℓ : Loc nD τ sig) → Buf (Elt Ideal) ℓ) (ρ : Dev nD → PrngReg)

/-- What the launch keeps between points: the scratch buffers as the invariant says, the generator register at some state. -/
def between (c : Dev nD) (n : ℕ) : sProp 𝕄 :=
  iprop((∃ (s0 : Vec Ideal S256x512 .f32) (s1 : Vec Ideal S4096x512 .f32) (s2 : Vec Ideal S256x256 .f32) (s3 : Vec Ideal S256x128 .f32) (s4 : Vec Ideal S256x128 .f32),
      ⌜Inv m c n s0 s1 s2 s3 s4⌝ ∗ owns (c : Thread nD τ) scr0 fullShare s0 ∗ owns (c : Thread nD τ) scr1 fullShare s1 ∗ owns (c : Thread nD τ) scr2 fullShare s2
        ∗ owns (c : Thread nD τ) scr3 fullShare s3 ∗ owns (c : Thread nD τ) scr4 fullShare s4) ∗ (∃ r, prngReg c r))

/-- What is said of each buffer: an input keeps its block, the output takes its block of the result. -/
def valDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := between m c t.val
  q w := Pipeline.shareOf spec0 w
  owed _ := 0

theorem valDats_A (c : Dev nD) (w : Fin cfg0.W) : (valDats m 0 c).A w = V m c (Pipeline.arrRef spec0 w) := by
  dsimp only [valDats]

theorem valDats_before0 (c : Dev nD) (t : Fin cfg0.N) (d) : (valDats m 0 c).before 0 t d = iblk m c 0 t :=
  before0_0_of m (valDats m 0 c) (valDats_A m c 0) (fun t => by dsimp only [valDats]) t d
theorem valDats_leaves0 (c : Dev nD) (t : Fin cfg0.N) :
    (valDats m 0 c).leavesExact 0 t = owns (c : Thread nD τ) (stg0 t) fullShare (iblk m c 0 t) := by
  unfold Dat.leavesExact; rw [show cfg0.idle 0 (grid0.coords t) = false from rfl]; rfl
theorem valDats_before1 (c : Dev nD) (t : Fin cfg0.N) (d) : (valDats m 0 c).before 1 t d = iblk m c 1 t :=
  before0_1_of m (valDats m 0 c) (valDats_A m c 1) (fun t => by dsimp only [valDats]) t d
theorem valDats_leaves1 (c : Dev nD) (t : Fin cfg0.N) :
    (valDats m 0 c).leavesExact 1 t = owns (c : Thread nD τ) (stg1 t) fullShare (iblk m c 1 t) := by
  unfold Dat.leavesExact; rw [show cfg0.idle 1 (grid0.coords t) = false from rfl]; rfl
theorem valDats_before2 (c : Dev nD) (t : Fin cfg0.N) (d) : (valDats m 0 c).before 2 t d = iblk m c 2 t :=
  before0_2_of m (valDats m 0 c) (valDats_A m c 2) (fun t => by dsimp only [valDats]) t d
theorem valDats_leaves2 (c : Dev nD) (t : Fin cfg0.N) :
    (valDats m 0 c).leavesExact 2 t = owns (c : Thread nD τ) (stg2 t) fullShare (iblk m c 2 t) := by
  unfold Dat.leavesExact; rw [show cfg0.idle 2 (grid0.coords t) = false from rfl]; rfl
theorem valDats_before3 (c : Dev nD) (t : Fin cfg0.N) (d) : (valDats m 0 c).before 3 t d = iblk m c 3 t :=
  before0_3_of m (valDats m 0 c) (valDats_A m c 3) (fun t => by dsimp only [valDats]) t d
theorem valDats_leaves3 (c : Dev nD) (t : Fin cfg0.N) :
    (valDats m 0 c).leavesExact 3 t = owns (c : Thread nD τ) (stg3 t) fullShare (iblk m c 3 t) := by
  unfold Dat.leavesExact; rw [show cfg0.idle 3 (grid0.coords t) = false from rfl]; rfl

theorem flush4 : ∀ t : Fin cfg0.N, t.val % 4 ≤ 1 → (cfg0.win 4).flush t = false := by decide +kernel
theorem idle4 : ∀ t : Fin cfg0.N, cfg0.idle 4 (grid0.coords t) = decide (t.val % 4 ≤ 1) := by decide +kernel

theorem valDats_leaves4_idle (c : Dev nD) (t : Fin cfg0.N) (h : t.val % 4 ≤ 1) :
    (valDats m 0 c).leavesExact 4 t = iprop(∃ d, owns (c : Thread nD τ) (stg4 t) fullShare ((valDats m 0 c).before 4 t d)) :=
  (valDats m 0 c).leavesExact_idle 4 t ((idle4 t).trans (decide_eq_true h)) (flush4 t h)
theorem valDats_leaves4 (c : Dev nD) (t : Fin cfg0.N) (h : ¬ t.val % 4 ≤ 1) :
    (valDats m 0 c).leavesExact 4 t = owns (c : Thread nD τ) (stg4 t) fullShare (outBlk m c t) := by
  unfold Dat.leavesExact; rw [show cfg0.idle 4 (grid0.coords t) = false from (idle4 t).trans (decide_eq_false h)]; rfl

/-- What the body takes at point `t`. -/
def valPre (c : Dev nD) (t : Fin cfg0.N) : sProp 𝕄 :=
  iprop((valDats m 0 c).Φ t.castSucc ∗ (valDats m 0 c).owesAt () t.castSucc
    ∗ (∃ d, owns (c : Thread nD τ) (stg0 t) fullShare ((valDats m 0 c).before 0 t d))
    ∗ (∃ d, owns (c : Thread nD τ) (stg1 t) fullShare ((valDats m 0 c).before 1 t d))
    ∗ (∃ d, owns (c : Thread nD τ) (stg2 t) fullShare ((valDats m 0 c).before 2 t d))
    ∗ (∃ d, owns (c : Thread nD τ) (stg3 t) fullShare ((valDats m 0 c).before 3 t d))
    ∗ (∃ d, owns (c : Thread nD τ) (stg4 t) fullShare ((valDats m 0 c).before 4 t d)))
/-- What the body gives back at point `t`. -/
def valPost (c : Dev nD) (t : Fin cfg0.N) : sProp 𝕄 :=
  iprop((valDats m 0 c).Φ t.succ ∗ (valDats m 0 c).owesAt () t.succ
    ∗ (valDats m 0 c).leavesExact 0 t
    ∗ (valDats m 0 c).leavesExact 1 t
    ∗ (valDats m 0 c).leavesExact 2 t
    ∗ (valDats m 0 c).leavesExact 3 t
    ∗ (valDats m 0 c).leavesExact 4 t)

variable (hfin : ∀ (c : Dev nD) (r k : ℕ), k < 4096 → acts m c r k = ((acts m c r k).toReal : EReal))

include hfin in
set_option maxHeartbeats 4000000 in
/-- The body at any point: one run for each place within a head. -/
theorem val_body (c : Dev nD) (t : Fin cfg0.N) :
    valPre m c t ⊢ wp frame (wpE (defs₀ (F := Ideal)) Variants.none c none) Set.univ (bodyAt0 t) (fun _ => valPost m c t) := by
  unfold valPre valPost bodyAt0
  simp only [valDats_before0, valDats_before1, valDats_before2, valDats_before3, valDats_leaves0, valDats_leaves1, valDats_leaves2, valDats_leaves3]
  rw [show (valDats m 0 c).owesAt () t.succ = (valDats m 0 c).owesAt () t.castSucc from rfl]
  rw [show (valDats m 0 c).Φ t.castSucc = between m c t.val from rfl, show (valDats m 0 c).Φ t.succ = between m c (t.val + 1) from rfl]
  unfold between
  have hq : t.val % 4 = 0 ∨ t.val % 4 = 1 ∨ t.val % 4 = 2 ∨ t.val % 4 = 3 := by omega
  iintro ⟨⟨⟨%s0, %s1, %s2, %s3, %s4, %hI, HS0, HS1, HS2, HS3, HS4⟩, Hg⟩, Ho, ⟨%d0, H0⟩, ⟨%d1, H1⟩, ⟨%d2, H2⟩, ⟨%d3, H3⟩, ⟨%d4, H4⟩⟩
  rcases hq with hq | hq | hq | hq
  · rw [valDats_leaves4_idle m c t (by omega)]
    iapply ((runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.2.2.2 ((valDats m 0 c).before 4 t d4) s1 Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, H4, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · iexists (scr0.view.read (Elt Ideal) (scr0.view.writes (Elt Ideal) e0 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).1)), (scr1.view.read (Elt Ideal) (scr1.view.writes (Elt Ideal) (scrW1.unread s1) (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.2.2.1)), (scr2.view.read (Elt Ideal) (scr2.view.writes (Elt Ideal) e2 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.1)), (scr3.view.read (Elt Ideal) (scr3.view.writes (Elt Ideal) e3 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.1)), (scr4.view.read (Elt Ideal) (scr4.view.writes (Elt Ideal) e4 (runA (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (backOf t (by omega)) (firstOf t (by omega)) (notForth t (by omega)) (iblk m c 0 t) (iblk m c 1 t) (iblk m c 2 t) (iblk m c 3 t)).2.2.2.1))
        isplitr; · ipureintro; exact next_A m c (hfin c) t hq s1 e0 e2 e3 e4
        isplitl [HS0]
        · unfold owns; iexists _; isplitr; swap; iexact HS0; ipureintro; rfl
        isplitl [HS1]
        · unfold owns; iexists _; isplitr; swap; iexact HS1; ipureintro; rfl
        isplitl [HS2]
        · unfold owns; iexists _; isplitr; swap; iexact HS2; ipureintro; rfl
        isplitl [HS3]
        · unfold owns; iexists _; isplitr; swap; iexact HS3; ipureintro; rfl
        unfold owns; iexists _; isplitr; swap; iexact HS4; ipureintro; rfl
      iexact Hg
    isplitl [Ho]; · iexact Ho
    isplitl [H0]; · iexact H0
    isplitl [H1]; · iexact H1
    isplitl [H2]; · iexact H2
    isplitl [H3]; · iexact H3
    iexists d4; iexact H4
  · rw [valDats_leaves4_idle m c t (by omega)]
    iapply ((runB (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4).2.2 ((valDats m 0 c).before 4 t d4) s1 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e0, HS0⟩, HS1, HS2, HS3, HS4⟩
    isplitl [HS0 HS1 HS2 HS3 HS4 Hg]
    · isplitl [HS0 HS1 HS2 HS3 HS4]
      · iexists (scr0.view.read (Elt Ideal) (scr0.view.writes (Elt Ideal) e0 (runB (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4).1)), (scr1.view.read (Elt Ideal) (scr1.view.writes (Elt Ideal) (scrW1.unread s1) (runB (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (backOf t (by omega)) (notFirst t (by omega)) (notForth t (by omega)) (iblk m c 0 t) (iblk m c 1 t) (iblk m c 2 t) (iblk m c 3 t) s0 s2 s3 s4).2.1)), s2, s3, s4
        isplitr; · ipureintro; exact next_B m c (hfin c) t hq s0 s1 s2 s3 s4 hI e0
        isplitl [HS0]
        · unfold owns; iexists _; isplitr; swap; iexact HS0; ipureintro; rfl
        isplitl [HS1]
        · unfold owns; iexists _; isplitr; swap; iexact HS1; ipureintro; rfl
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    iexists d4; iexact H4
  · rw [valDats_leaves4 m c t (by omega)]
    iapply ((runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.2.2.2 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexact HS1
    isplitl [HS2]; · iexists _; iexact HS2
    isplitl [HS3]; · iexists _; iexact HS3
    isplitl [HS4]; · iexists _; iexact HS4
    iintro ⟨H0, H1, H2, H3, ⟨%e, H4⟩, ⟨%e0, HS0⟩, HS1, ⟨%e2, HS2⟩, ⟨%e3, HS3⟩, ⟨%e4, HS4⟩⟩
    isplitl [HS0 HS1 HS2 HS3 HS4 Hg]
    · isplitl [HS0 HS1 HS2 HS3 HS4]
      · iexists (scr0.view.read (Elt Ideal) (scr0.view.writes (Elt Ideal) e0 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).1)), s1, (scr2.view.read (Elt Ideal) (scr2.view.writes (Elt Ideal) e2 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.1)), (scr3.view.read (Elt Ideal) (scr3.view.writes (Elt Ideal) e3 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.1)), (scr4.view.read (Elt Ideal) (scr4.view.writes (Elt Ideal) e4 (runC (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (resetOf t (by omega)) (notBack t (by omega)) (forthOf t (by omega)) (turnOf t (by omega)) (iblk m c 0 t) (iblk m c 1 t) (iblk m c 2 t) (iblk m c 3 t) s1).2.2.2.1))
        isplitr; · ipureintro; exact next_C m c (hfin c) t hq s0 s1 s2 s3 s4 hI e0 e2 e3 e4
        isplitl [HS0]
        · unfold owns; iexists _; isplitr; swap; iexact HS0; ipureintro; rfl
        isplitl [HS1]; · iexact HS1
        isplitl [HS2]
        · unfold owns; iexists _; isplitr; swap; iexact HS2; ipureintro; rfl
        isplitl [HS3]
        · unfold owns; iexists _; isplitr; swap; iexact HS3; ipureintro; rfl
        unfold owns; iexists _; isplitr; swap; iexact HS4; ipureintro; rfl
      iexact Hg
    isplitl [Ho]; · iexact Ho
    isplitl [H0]; · iexact H0
    isplitl [H1]; · iexact H1
    isplitl [H2]; · iexact H2
    isplitl [H3]; · iexact H3
    unfold owns; iexists _; isplitr; swap; iexact H4; ipureintro; exact out_C m c (hfin c) t hq s0 s1 s2 s3 s4 hI e
  · rw [valDats_leaves4 m c t (by omega)]
    iapply ((runD (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (notBack t (by omega)) (forthOf t (by omega)) (notTurn t (by omega)) (iblk m c 0 t) (iblk m c 1 t) (iblk m c 2 t) (iblk m c 3 t) s0 s2 s3 s4 s1).2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, ⟨%e, H4⟩, ⟨%e0, HS0⟩, HS1, HS2, HS3, HS4⟩
    isplitl [HS0 HS1 HS2 HS3 HS4 Hg]
    · isplitl [HS0 HS1 HS2 HS3 HS4]
      · iexists (scr0.view.read (Elt Ideal) (scr0.view.writes (Elt Ideal) e0 (runD (F := Ideal) c (grid0.coords t) (stg0 t) (stgW0 t) (stg1 t) (stgW1 t) (stg2 t) (stgW2 t) (stg3 t) (stgW3 t) (stg4 t) (stgW4 t) scr0 scrW0 scr1 scrW1 scr2 scrW2 scr3 scrW3 scr4 scrW4 (notReset t (by omega)) (notBack t (by omega)) (forthOf t (by omega)) (notTurn t (by omega)) (iblk m c 0 t) (iblk m c 1 t) (iblk m c 2 t) (iblk m c 3 t) s0 s2 s3 s4 s1).1)), s1, s2, s3, s4
        isplitr; · ipureintro; exact next_D m c t hq _ _ _ _ _
        isplitl [HS0]
        · unfold owns; iexists _; isplitr; swap; iexact HS0; ipureintro; rfl
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    unfold owns; iexists _; isplitr; swap; iexact H4; ipureintro; exact out_D m c (hfin c) t hq s0 s1 s2 s3 s4 hI e

include hfin in
theorem val_obligation (c : Dev nD) : BodyObligation (valDats m 0 c) (defs₀ (F := Ideal)) Variants.none () Set.univ := fun t => by
  rw [bigSep_W0, bigSep_W0, defs₀_row]
  exact triple_restated (val_body m hfin c t) rfl .rfl fun _ => .rfl

theorem val_in (c : Dev nD) : Pipeline.ΦA spec0 c ⊢ (valDats m 0 c).Φ 0 := by
  rw [between_eq, show (valDats m 0 c).Φ 0 = between m c 0 from rfl]
  unfold between
  iintro ⟨⟨⟨%s0, HS0⟩, ⟨%s1, HS1⟩, ⟨%s2, HS2⟩, ⟨%s3, HS3⟩, ⟨%s4, HS4⟩⟩, Hg⟩
  isplitl [HS0 HS1 HS2 HS3 HS4]
  · iexists s0, s1, s2, s3, s4
    isplitr
    · ipureintro
      exact ⟨fun h => absurd h (by omega), fun h => absurd h (by omega), fun h => absurd h (by omega), fun h => absurd h (by omega)⟩
    isplitl [HS0]; · iexact HS0
    isplitl [HS1]; · iexact HS1
    isplitl [HS2]; · iexact HS2
    isplitl [HS3]; · iexact HS3
    iexact HS4
  iexact Hg

theorem val_out (c : Dev nD) : (valDats m 0 c).Φ (Fin.last cfg0.N) ⊢ Pipeline.ΦA spec0 c := by
  rw [between_eq, show (valDats m 0 c).Φ (Fin.last cfg0.N) = between m c cfg0.N from rfl]
  unfold between
  iintro ⟨⟨%s0, %s1, %s2, %s3, %s4, %hI, HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

include hfin in
set_option backward.isDefEq.respectTransparency.types false in
theorem val_run : θ_run defs (onTc (τ := τ) (main (F := Ideal))) (s₀ m ρ) (fun r => Pipeline.FramePost cfgs (valDats m) 0 (V m) r ∧ r.2.sem = fun _ => 0) :=
  Pipeline.θ_run_frame_track_shared (Q' := _) cfgs (valDats m) (0 : Fin 1) launch₀0 defs₀ Variants.none m ρ main
    (hbody := fun c => (val_obligation m hfin c).loose) (hq := fun _ _ _ => rfl)
    (howed := fun _ _ => rfl) (V := V m) (hmain := hmain m Variants.none) (hA := valDats_A m) (hin := val_in m) (hout := val_out m)

/-- The result: every block as its point leaves it. -/
def result (c : Dev nD) : Vec Ideal S4x4096x2048 .bf16 := fun y =>
  resultAt (acts m c) (decF m c) (decB m c) (gains m c) (y 0).val (y 1).val (y 2).val

theorem result_arr (c : Dev nD) : (valDats m 0 c).arrAt 4 cfg0.N = result m c := by
  refine (valDats m 0 c).arrAt_eq_of_covers 4 _ (by decide +kernel) fun t hf y => ?_
  have h2 : 2 ≤ t.val % 4 := by
    by_contra h
    rw [flush4 t (by omega)] at hf; exact absurd hf (by decide)
  blk_simp [result, idx4 t]
  rw [Nat.mul_comm (t.val % 4 - 2) 2048, Nat.mul_comm (t.val / 4 % 4) 512]
  rfl

include hfin in
/-- The whole run: the result, the arguments unchanged. -/
theorem val_args : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (result_arr m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (val_run m ρ hfin)

end Cert.KernelIdeal.Ret

end
-- ==== Proof.RefPoint.lean ====
module

public import proofs.«01_k».proof.Proof.Chunk
public import proofs.«01_k».proof.Proof.Gen.ReferenceIdeal.Step
public import Idealize.ShloMosaic.Lib.Pointwise
public import Idealize.ShloMosaic.Lib.IdealHost

@[expose] public section

set_option maxRecDepth 16384

noncomputable section

/-! One chunk of the scan, read at an index. -/
namespace Cert.ReferenceIdeal.Trips

open Idealize.ShloMosaic Idealize.ShloMosaic.TcCoe Idealize.ShloMosaic.Tactic
open Cert.ReferenceIdeal Cert.ReferenceIdeal.Gen Cert.ReferenceIdeal.Step

variable (s : State Ideal) (t : Fin 32)

theorem start_first : (BitVec.ofNat 32 t.val).toInt = (t.val : ℤ) := Cert.KernelIdeal.Ret.toInt_small _ (by omega)

theorem start_nat : (min (t.val : ℤ) 31).toNat = t.val := by omega

theorem q_apply (b : Fin 4) (h : Fin 8) (n : Fin 128) (d : Fin 256) : b5 t.val s (ix4 b h n d) = s.main_v83_0 (ix5 t b h n d) := by
  have ht : (⟨(min (t.val : ℤ) 31).toNat, by omega⟩ : Fin 32) = t := Fin.ext (start_nat t)
  pointwise [b5, b4, b0, b1, b2, b3]
  simp [Host.clampedStart, constantI, start_first, S32x4x8x128x256, S1x4x8x128x256]
  rw [ht]

theorem k_apply (b : Fin 4) (h : Fin 8) (n : Fin 128) (d : Fin 256) : b11 t.val s (ix4 b h n d) = s.main_v83_1 (ix5 t b h n d) := by
  have ht : (⟨(min (t.val : ℤ) 31).toNat, by omega⟩ : Fin 32) = t := Fin.ext (start_nat t)
  pointwise [b11, b10, b6, b7, b8, b9]
  simp [Host.clampedStart, constantI, start_first, S32x4x8x128x256, S1x4x8x128x256]
  rw [ht]

theorem v_apply (b : Fin 4) (h : Fin 8) (n : Fin 128) (d : Fin 512) : b17 t.val s (ix4 b h n d) = s.main_v83_2 (ix5 t b h n d) := by
  have ht : (⟨(min (t.val : ℤ) 31).toNat, by omega⟩ : Fin 32) = t := Fin.ext (start_nat t)
  pointwise [b17, b16, b12, b13, b14, b15]
  simp [Host.clampedStart, constantI, start_first, S32x4x8x128x512, S1x4x8x128x512]
  rw [ht]

theorem y_apply (b : Fin 4) (h : Fin 8) (n : Fin 128) (e : Fin 512) : b26 t.val s (ix4 b h n e)
    = (∑ m : Fin 128, ((∑ d : Fin 256, b5 t.val s (ix4 b h n d) * b11 t.val s (ix4 b h m d)) * s.main_v83_3 (ix3 h n m)) * b17 t.val s (ix4 b h m e))
      + (∑ d : Fin 256, b5 t.val s (ix4 b h n d) * s.main_v83_8 (ix4 b h d e)) * s.main_v83_4 (ix4 (0 : Fin 1) h n (0 : Fin 1)) := by
  pointwise [b26, b25, b24, b23, b22, b21, b20, b19, b18]

theorem s_apply (b : Fin 4) (h : Fin 8) (d : Fin 256) (e : Fin 512) : b32 t.val s (ix4 b h d e)
    = s.main_v83_8 (ix4 b h d e) * s.main_v83_5 (ix4 (0 : Fin 1) h (0 : Fin 1) (0 : Fin 1))
      + ∑ m : Fin 128, (b11 t.val s (ix4 b h m d) * s.main_v83_6 (ix4 (0 : Fin 1) h m (0 : Fin 1))) * b17 t.val s (ix4 b h m e) := by
  pointwise [b32, b31, b30, b29, b28, b27]

theorem ys_apply (u : Fin 32) (b : Fin 4) (h : Fin 8) (n : Fin 128) (e : Fin 512) : b38 t.val s (ix5 u b h n e)
    = if u = t then b26 t.val s (ix4 b h n e) else s.main_v83_9 (ix5 u b h n e) := by
  pointwise [b38, b37, b36, b35, b34, b33]
  simp [Host.clampedStart, constantI, start_first, S32x4x8x128x512, S1x4x8x128x512]
  have : ((t ≤ u ∨ 31 ≤ u.val) ∧ u ≤ t ∧ u.val ≤ 31) ↔ u = t := by
    rw [Fin.le_def, Fin.le_def, Fin.ext_iff]; omega
  simp only [this]

end Cert.ReferenceIdeal.Trips

end
-- ==== Proof.RefSeq.lean ====
module

public import proofs.«01_k».proof.Proof.Spec
public import proofs.«01_k».proof.Proof.Gen.ReferenceIdeal.Step
public import Idealize.ShloMosaic.Lib.Pointwise
public import Idealize.ShloMosaic.Lib.IdealHost
public import Idealize.ShloMosaic.Lib.Pipeline.ValueKit

@[expose] public section

set_option maxRecDepth 16384

noncomputable section

/-! The three sequences the scan reads, of the activations. -/
namespace Cert.ReferenceIdeal.Trips

open Idealize.ShloMosaic Idealize.ShloMosaic.TcCoe Idealize.ShloMosaic.Tactic
open Cert.ReferenceIdeal Cert.ReferenceIdeal.Gen Cert.ReferenceIdeal.Step Cert.Retention

variable (a0 : Vec Ideal S16384x8192 .bf16) (a1 a2 : Vec Ideal S1x4 .f32)

/-- The activations read at any two naturals. -/
def table : ℕ → ℕ → EReal := tot fun (r : Fin 16384) (k : Fin 8192) => a0 (ix2 r k)

/-- The sequence a head of the scan reads: from the first row on, or from the last row back. -/
def seqH (A : ℕ → ℕ → EReal) (b h col : ℕ) : ℕ → ℕ → ℝ :=
  if h < 4 then seqOf A (4096 * b) (1024 * h + col) else backSeq (seqOf A (4096 * b) (1024 * (h - 4) + col))

theorem v1_apply (b : Fin 4) (n : Fin 4096) (c : Fin 8192) : A_main_v1 a0 a1 a2 (ix3 b n c) = table a0 (4096 * b + n) c := by
  have hb : b.val < 4 := b.isLt
  rw [table, tot_of _ (by omega) c.isLt]
  refine shapeCast_apply _ _ _ (ix2 (⟨4096 * b + n, by omega⟩ : Fin 16384) c) ?_
  rw [Shape.rowMajor_val_two, Shape.rowMajor_val_three]
  show (4096 * b.val + n.val) * 8192 + c.val = (b.val * 4096 + n.val) * 8192 + c.val
  omega

theorem v3_apply (b : Fin 4) (n : Fin 4096) (h : Fin 4) (j : Fin 1024) : A_main_v3 a0 a1 a2 (ix4 b n h j) = table a0 (4096 * b + n) (1024 * h + j) := by
  have hh : h.val < 4 := h.isLt
  have e : A_main_v3 a0 a1 a2 (ix4 b n h j) = A_main_v2 a0 a1 a2 (ix3 b n (⟨1024 * h + j, by omega⟩ : Fin 4096)) := by
    refine shapeCast_apply _ _ _ _ ?_
    rw [Shape.rowMajor_val_three, Shape.rowMajor_val_four]
    show (b.val * 4096 + n.val) * 4096 + (1024 * h.val + j.val) = ((b.val * 4096 + n.val) * 4 + h.val) * 1024 + j.val
    omega
  rw [e]
  pointwise [A_main_v2]
  exact v1_apply a0 a1 a2 b n ⟨1024 * h + j, by omega⟩

theorem chunk_transpose256 (X : Vec Ideal S4x8x32x128x256 .f32) (t : Fin 32) (b : Fin 4) (h : Fin 8) (n : Fin 128) (d : Fin 256) :
    transpose S32x4x8x128x256 [2, 0, 1, 3, 4] X transposes_S4x8x32x128x256_S32x4x8x128x256_2_0_1_3_4 (ix5 t b h n d) = X (ix5 b h t n d) := by
  pointwise

theorem chunk_transpose512 (X : Vec Ideal S4x8x32x128x512 .f32) (t : Fin 32) (b : Fin 4) (h : Fin 8) (n : Fin 128) (d : Fin 512) :
    transpose S32x4x8x128x512 [2, 0, 1, 3, 4] X transposes_S4x8x32x128x512_S32x4x8x128x512_2_0_1_3_4 (ix5 t b h n d) = X (ix5 b h t n d) := by
  pointwise

theorem v11_apply (b h : Fin 4) (n : Fin 4096) (d : Fin 256) : A_main_v11 a0 a1 a2 (ix4 b h n d) = table a0 (4096 * b + n) (1024 * h + d) := by
  pointwise [A_main_v11, A_main_v10, A_main_v5, A_main_v4]
  exact v3_apply a0 a1 a2 b n h ⟨d, by omega⟩

theorem v15_apply (b h : Fin 4) (n : Fin 4096) (d : Fin 256) : A_main_v15 a0 a1 a2 (ix4 b h n d) = table a0 (4096 * b + n) (1024 * h + 256 + d) * ((1 / 16 : ℝ) : EReal) := by
  pointwise [A_main_v15, A_main_v13, A_main_v12, A_main_v7, A_main_v6, K_main_v14, K_main_cst]
  rw [Nat.add_assoc]
  rw [v3_apply, Cert.KernelIdeal.Ret.bits_sixteenth]

theorem v17_apply (b h : Fin 4) (n : Fin 4096) (d : Fin 512) : A_main_v17 a0 a1 a2 (ix4 b h n d) = table a0 (4096 * b + n) (1024 * h + 512 + d) := by
  pointwise [A_main_v17, A_main_v16, A_main_v9, A_main_v8]
  rw [Nat.add_assoc]
  rw [v3_apply]

theorem v28_apply (b : Fin 4) (h : Fin 8) (n : Fin 4096) (d : Fin 256) : A_main_v28 a0 a1 a2 (ix4 b h n d)
    = if h.val < 4 then table a0 (4096 * b + n) (1024 * h + d) else table a0 (4096 * b + (4095 - n)) (1024 * (h - 4) + d) := by
  pointwise [A_main_v28, A_main_v27]
  have e : (n.rev : Fin 4096).val = 4095 - n.val := by rw [Fin.val_rev]; omega
  split
  · rw [v11_apply]
  · refine (v11_apply a0 a1 a2 b ⟨h - 4, by omega⟩ n.rev d).trans ?_
    rw [e]

theorem v30_apply (b : Fin 4) (h : Fin 8) (n : Fin 4096) (d : Fin 256) : A_main_v30 a0 a1 a2 (ix4 b h n d)
    = if h.val < 4 then table a0 (4096 * b + n) (1024 * h + 256 + d) * ((1 / 16 : ℝ) : EReal) else table a0 (4096 * b + (4095 - n)) (1024 * (h - 4) + 256 + d) * ((1 / 16 : ℝ) : EReal) := by
  pointwise [A_main_v30, A_main_v29]
  have e : (n.rev : Fin 4096).val = 4095 - n.val := by rw [Fin.val_rev]; omega
  split
  · rw [v15_apply]
  · refine (v15_apply a0 a1 a2 b ⟨h - 4, by omega⟩ n.rev d).trans ?_
    rw [e]

theorem v32_apply (b : Fin 4) (h : Fin 8) (n : Fin 4096) (d : Fin 512) : A_main_v32 a0 a1 a2 (ix4 b h n d)
    = if h.val < 4 then table a0 (4096 * b + n) (1024 * h + 512 + d) else table a0 (4096 * b + (4095 - n)) (1024 * (h - 4) + 512 + d) := by
  pointwise [A_main_v32, A_main_v31]
  have e : (n.rev : Fin 4096).val = 4095 - n.val := by rw [Fin.val_rev]; omega
  split
  · rw [v17_apply]
  · refine (v17_apply a0 a1 a2 b ⟨h - 4, by omega⟩ n.rev d).trans ?_
    rw [e]

theorem v77_apply (t : Fin 32) (b : Fin 4) (h : Fin 8) (n : Fin 128) (d : Fin 256) : A_main_v77 a0 a1 a2 (ix5 t b h n d)
    = A_main_v28 a0 a1 a2 (ix4 b h (⟨128 * t + n, by omega⟩ : Fin 4096) d) := by
  rw [A_main_v77, chunk_transpose256]
  refine shapeCast_apply _ _ _ _ ?_
  rw [Shape.rowMajor_val_five, Shape.rowMajor_val_four]
  show ((b.val * 8 + h.val) * 4096 + (128 * t.val + n.val)) * 256 + d.val = (((b.val * 8 + h.val) * 32 + t.val) * 128 + n.val) * 256 + d.val
  omega

theorem v79_apply (t : Fin 32) (b : Fin 4) (h : Fin 8) (n : Fin 128) (d : Fin 256) : A_main_v79 a0 a1 a2 (ix5 t b h n d)
    = A_main_v30 a0 a1 a2 (ix4 b h (⟨128 * t + n, by omega⟩ : Fin 4096) d) := by
  rw [A_main_v79, chunk_transpose256]
  refine shapeCast_apply _ _ _ _ ?_
  rw [Shape.rowMajor_val_five, Shape.rowMajor_val_four]
  show ((b.val * 8 + h.val) * 4096 + (128 * t.val + n.val)) * 256 + d.val = (((b.val * 8 + h.val) * 32 + t.val) * 128 + n.val) * 256 + d.val
  omega

theorem v81_apply (t : Fin 32) (b : Fin 4) (h : Fin 8) (n : Fin 128) (d : Fin 512) : A_main_v81 a0 a1 a2 (ix5 t b h n d)
    = A_main_v32 a0 a1 a2 (ix4 b h (⟨128 * t + n, by omega⟩ : Fin 4096) d) := by
  rw [A_main_v81, chunk_transpose512]
  refine shapeCast_apply _ _ _ _ ?_
  rw [Shape.rowMajor_val_five, Shape.rowMajor_val_four]
  show ((b.val * 8 + h.val) * 4096 + (128 * t.val + n.val)) * 512 + d.val = (((b.val * 8 + h.val) * 32 + t.val) * 128 + n.val) * 512 + d.val
  omega

end Cert.ReferenceIdeal.Trips

end
-- ==== Proof.RefDecay.lean ====
module

public import proofs.«01_k».proof.Proof.Spec
public import proofs.«01_k».proof.Proof.Gen.ReferenceIdeal.Step
public import Idealize.ShloMosaic.Lib.Pointwise
public import Idealize.ShloMosaic.Lib.IdealHost
public import Idealize.ShloMosaic.Lib.Pipeline.ValueKit

@[expose] public section

set_option maxRecDepth 16384

noncomputable section

/-! The decays the scan reads, of the table of decays. -/
namespace Cert.ReferenceIdeal.Trips

open Idealize.ShloMosaic Idealize.ShloMosaic.TcCoe Idealize.ShloMosaic.Tactic
open Cert.ReferenceIdeal Cert.ReferenceIdeal.Gen Cert.ReferenceIdeal.Step Cert.Retention
open Cert.KernelIdeal.Ret (logFade logFade_ne_top sitofp_ofNat)

variable (a0 : Vec Ideal S16384x8192 .bf16) (a1 a2 : Vec Ideal S1x4 .f32)

/-- The decay a head of the scan reads. -/
def decayH (a1 a2 : Vec Ideal S1x4 .f32) (h : Fin 8) : EReal :=
  if h' : h.val < 4 then a1 (ix2 (0 : Fin 1) ⟨h, h'⟩) else a2 (ix2 (0 : Fin 1) ⟨h - 4, by omega⟩)

theorem bits_127 : Ideal.ofBits .f32 0x42FE0000#32 = (((127 : ℕ) : ℝ) : EReal) := by
  simp [Ideal.ofBits, Ideal.ieee]; rw [← EReal.coe_mul]; norm_num

theorem bits_128 : Ideal.ofBits .f32 0x43000000#32 = (((128 : ℕ) : ℝ) : EReal) := by
  simp [Ideal.ofBits, Ideal.ieee]; rw [← EReal.coe_mul]; norm_num

theorem v20_apply (h : Fin 8) : A_main_v20 a0 a1 a2 (ix1 h) = decayH a1 a2 h := by
  unfold decayH
  pointwise [A_main_v20, A_main_v18, A_main_v19]

theorem exp_abs (x : EReal) : ∃ r : ℝ, 0 ≤ r ∧ Ideal.exp (-FloatOps.absf (F := Ideal) (φ := .f32) x) = (r : EReal) := by
  have h0 : (0 : EReal) ≤ FloatOps.absf (F := Ideal) (φ := .f32) x := by
    rw [Ideal.absf_def]
    rcases le_total 0 x with h | h
    · exact h.trans (le_max_left _ _)
    · exact (EReal.neg_nonneg.2 h).trans (le_max_right _ _)
  have key : ∀ a : EReal, 0 ≤ a → ∃ r : ℝ, 0 ≤ r ∧ Ideal.exp (-a) = (r : EReal) := by
    intro a ha
    induction a with
    | top => exact ⟨0, le_refl _, rfl⟩
    | bot => simp at ha
    | coe r => exact ⟨Real.exp (-r), (Real.exp_pos _).le, by rw [← EReal.coe_neg, Ideal.exp_coe]⟩
  exact key _ h0

theorem log_fade (x : EReal) : -(max (-x) 0 + Ideal.log1p (Ideal.exp (-FloatOps.absf (F := Ideal) (φ := .f32) (-x)))) = logFade x := by
  unfold logFade
  have ha : FloatOps.absf (F := Ideal) (φ := .f32) (-x) = FloatOps.absf (F := Ideal) (φ := .f32) x := by
    rw [Ideal.absf_def, Ideal.absf_def, neg_neg, max_comm]
  obtain ⟨r, hr, he⟩ := exp_abs x
  have hl : Ideal.log (1 + (r : EReal)) = ((Real.log (1 + r) : ℝ) : EReal) := by
    rw [show (1 : EReal) + (r : EReal) = ((1 + r : ℝ) : EReal) by rw [EReal.coe_add]; rfl]
    show (if 1 + r ≤ 0 then (⊥ : EReal) else ((Real.log (1 + r) : ℝ) : EReal)) = _
    rw [if_neg (by linarith)]
  rw [ha, zero_sub, he, Ideal.log1p, hl]
  have hm : min x 0 = -max (-x) 0 := by
    rcases le_total x 0 with h | h
    · rw [min_eq_left h, max_eq_left (EReal.neg_nonneg.2 h), neg_neg]
    · rw [min_eq_right h, max_eq_right (by simpa using EReal.neg_le_neg_iff.2 h), neg_zero]
  rw [hm, EReal.neg_add (Or.inr (EReal.coe_ne_top _)) (Or.inr (EReal.coe_ne_bot _))]

theorem v23_apply (h : Fin 8) : A_main_v23 a0 a1 a2 (ix1 h) = logFade (decayH a1 a2 h) := by
  rw [← v20_apply a0, ← log_fade]
  pointwise [A_main_v23, A_main_v22, A_main_call0_v11, A_main_call0_v10, A_main_call0_v9, A_main_call0_v8, A_main_call0_v7, A_main_call0_v6, A_main_call0_v4,
    A_main_call0_v3, A_main_call0_v1, A_main_v21, K_main_call0_v0, K_main_call0_v2, K_main_call0_v5, K_main_call0_cst]
  generalize A_main_v20 a0 a1 a2 (ix1 h) = x
  rw [if_neg (fun h => h rfl)]

theorem diff_cast (n m : ℕ) : ((n : ℝ) : EReal) - ((m : ℝ) : EReal) = (((n : ℝ) - (m : ℝ) : ℝ) : EReal) := (EReal.coe_sub _ _).symm

theorem dm_apply (h : Fin 8) (n m : Fin 128) : A_main_v52 a0 a1 a2 (ix3 h n m)
    = (((if (if h.val < 4 then 0 else 1) + m.val ≤ n.val then fade (logFade (decayH a1 a2 h)) ^ (n.val - m.val) else 0 : ℝ)) : EReal) := by
  pointwise [A_main_v52, A_main_v51, A_main_v50, A_main_v48, A_main_v44, K_main_v43, K_main_v42, K_main_v41, K_main_v40, K_main_v39, K_main_v38, K_main_v37, K_main_v36, K_main_v35, K_main_v34, K_main_v33,
    K_main_v26, K_main_v25, K_main_v24, K_main_cst_0, K_main_cst_1, K_main_v45, K_main_v46, K_main_v47, K_main_v49, K_main_cst_2, K_main_cst_3, K_main_call4_v0, K_main_call4_v1]
  rw [sitofp_ofNat _ (by omega), sitofp_ofNat _ (by omega), diff_cast, v23_apply]
  have hc : ((if h : h.val < 4 then (0 : EReal) else 1) ≤ (((n.val : ℝ) - (m.val : ℝ) : ℝ) : EReal)) ↔ (if h.val < 4 then 0 else 1) + m.val ≤ n.val := by
    have e : (if h : h.val < 4 then (0 : EReal) else 1) = (((if h.val < 4 then 0 else 1 : ℕ) : ℝ) : EReal) := by split <;> simp
    rw [e, EReal.coe_le_coe_iff, le_sub_iff_add_le, ← Nat.cast_add, Nat.cast_le]
  by_cases hh : (if h.val < 4 then 0 else 1) + m.val ≤ n.val
  · rw [if_pos (hc.2 hh), if_pos hh]
    have hmn : m.val ≤ n.val := by omega
    rw [← Nat.cast_sub hmn, max_eq_left (EReal.coe_nonneg.2 (Nat.cast_nonneg _)), exp_mul_nat _ (logFade_ne_top _)]
  · rw [if_neg (mt hc.1 hh), if_neg hh]
    show Ideal.ofBits .f32 0#32 = _
    simp

theorem kd_apply (h : Fin 8) (n : Fin 128) : A_main_v61 a0 a1 a2 (ix4 (0 : Fin 1) h n (0 : Fin 1)) = ((fade (logFade (decayH a1 a2 h)) ^ (127 - n.val) : ℝ) : EReal) := by
  pointwise [A_main_v61, A_main_v60, A_main_v59, A_main_v57, A_main_v53, K_main_v58, K_main_v56, K_main_v55, K_main_v54, K_main_cst_4, K_main_v33]
  have hn := n.isLt
  rw [sitofp_ofNat _ (by omega), v23_apply, bits_127, diff_cast, ← Nat.cast_sub (by omega), exp_mul_nat _ (logFade_ne_top _)]

theorem qd_apply (h : Fin 8) (n : Fin 128) : A_main_v70 a0 a1 a2 (ix4 (0 : Fin 1) h n (0 : Fin 1)) = ((fade (logFade (decayH a1 a2 h)) ^ (n.val + 1) : ℝ) : EReal) := by
  pointwise [A_main_v70, A_main_v69, A_main_v68, A_main_v66, A_main_v62, K_main_v67, K_main_v65, K_main_v64, K_main_v63, K_main_cst_5, K_main_v33]
  rw [sitofp_ofNat _ (by omega), v23_apply, show ((n.val : ℝ) : EReal) + 1 = (((n.val + 1 : ℕ) : ℝ) : EReal) by rw [Nat.cast_add, EReal.coe_add]; simp, exp_mul_nat _ (logFade_ne_top _)]

theorem cd_apply (h : Fin 8) : A_main_v74 a0 a1 a2 (ix4 (0 : Fin 1) h (0 : Fin 1) (0 : Fin 1)) = ((fade (logFade (decayH a1 a2 h)) ^ 128 : ℝ) : EReal) := by
  pointwise [A_main_v74, A_main_v73, A_main_v72, K_main_v71, K_main_cst_6]
  rw [v23_apply, bits_128, exp_mul_nat _ (logFade_ne_top _)]

end Cert.ReferenceIdeal.Trips

end
-- ==== Proof.RefTail.lean ====
module

public import proofs.«01_k».proof.Proof.Spec
public import proofs.«01_k».proof.Proof.Gen.ReferenceIdeal.Step
public import Idealize.ShloMosaic.Lib.Pointwise
public import Idealize.ShloMosaic.Lib.IdealHost
public import Idealize.ShloMosaic.Lib.Pipeline.ValueKit

@[expose] public section

set_option maxRecDepth 16384

noncomputable section

/-! What follows the scan: the two directions added, normalised, scaled and gated. -/
namespace Cert.ReferenceIdeal.Trips

open Idealize.ShloMosaic Idealize.ShloMosaic.TcCoe Idealize.ShloMosaic.Tactic
open Cert.ReferenceIdeal Cert.ReferenceIdeal.Gen Cert.ReferenceIdeal.Step Cert.Retention
open Cert.KernelIdeal.Ret (finAt normAt)

section
variable {F : FTy → Type} [FloatOps F]

/-- The scan's rows, one sequence per head. -/
def rowsT (T : Vec F S32x4x8x128x512 .f32) : Vec F S4x8x4096x512 .f32 :=
  shapeCast _ (transpose S4x8x32x128x512 [1, 2, 0, 3, 4] T transposes_S32x4x8x128x512_S4x8x32x128x512_1_2_0_3_4) shapeCasts_S4x8x32x128x512_S4x8x4096x512

/-- The two directions of a head added. -/
def bothT (T : Vec F S32x4x8x128x512 .f32) : FVec F S4x4x4096x512 .f32 :=
  addf (extractStridedSlice S4x4x4096x512 ![0, 0, 0, 0] (rowsT T) slices_S4x8x4096x512_S4x4x4096x512_0_0_0_0)
    (Host.reverse [2] (extractStridedSlice S4x4x4096x512 ![0, 4, 0, 0] (rowsT T) slices_S4x8x4096x512_S4x4x4096x512_0_4_0_0))

/-- Each row less its mean. -/
def lessMean (Y : FVec F S4x4x4096x512 .f32) : FVec F S4x4x4096x512 .f32 :=
  subf Y (broadcastInDim S4x4x4096x512 ![0, 1, 2, 3] bcast_S4x4x4096x1_S4x4x4096x512_0_1_2_3 (Host.divf (broadcastInDim S4x4x4096x1 ![0, 1, 2] bcast_S4x4x4096_S4x4x4096x1_0_1_2
    (Host.reduceAdd Y (constant S_ .f32 0x00000000#32) reducesTo_S4x4x4096x512_S4x4x4096_d3 h_S_)) (broadcastInDim S4x4x4096x1 ![] bcast_S_S4x4x4096x1 (constant S_ .f32 0x44000000#32))))

/-- Each row normalised. -/
def normed (Z : FVec F S4x4x4096x512 .f32) : FVec F S4x4x4096x512 .f32 :=
  mulf Z (broadcastInDim S4x4x4096x512 ![0, 1, 2, 3] bcast_S4x4x4096x1_S4x4x4096x512_0_1_2_3 (Host.rsqrt (addf (Host.divf (broadcastInDim S4x4x4096x1 ![0, 1, 2] bcast_S4x4x4096_S4x4x4096x1_0_1_2
    (Host.reduceAdd (mulf Z Z) (constant S_ .f32 0x00000000#32) reducesTo_S4x4x4096x512_S4x4x4096_d3 h_S_)) (broadcastInDim S4x4x4096x1 ![] bcast_S_S4x4x4096x1 (constant S_ .f32 0x44000000#32)))
    (broadcastInDim S4x4x4096x1 ![] bcast_S_S4x4x4096x1 (constant S_ .f32 0x3727C5AC#32)))))

/-- The gate's columns. -/
def gateT (a0 : Vec F S16384x8192 .bf16) : FVec F S4x4096x2048 .f32 :=
  extractStridedSlice S4x4096x2048 ![0, 0, 4096] (shapeCast S4x4096x8192 (extf .f32 a0 bitsLt_bf16_f32) shapeCasts_S16384x8192_S4x4096x8192) slices_S4x4096x8192_S4x4096x2048_0_0_4096

/-- The result of the normalised rows. -/
def gated (N : FVec F S4x4x4096x512 .f32) (G : FVec F S4x4096x2048 .f32) (a3 : Vec F S1x2048 .f32) : Vec F S4x4096x2048 .bf16 :=
  truncf .bf16 (mulf (mulf G (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf G)))))
    (mulf (shapeCast _ (transpose S4x4096x4x512 [0, 2, 1, 3] N transposes_S4x4x4096x512_S4x4096x4x512_0_2_1_3) shapeCasts_S4x4096x4x512_S4x4096x2048)
      (broadcastInDim S4x4096x2048 ![0, 1, 2] bcast_S1x1x2048_S4x4096x2048_0_1_2 (broadcastInDim S1x1x2048 ![2] bcast_S2048_S1x1x2048_2 (shapeCast _ a3 shapeCasts_S1x2048_S2048))))) bitsLt_bf16_f32

theorem R_eq (s : State F) (a0 : Vec F S16384x8192 .bf16) (a3 : Vec F S1x2048 .f32) :
    R_main_v119 s a0 a3 = gated (normed (lessMean (bothT s.main_v83_9))) (gateT a0) a3 := rfl

end

theorem rowsT_apply (T : Vec Ideal S32x4x8x128x512 .f32) (b : Fin 4) (h : Fin 8) (t : Fin 32) (i : Fin 128) (e : Fin 512) (n : Fin 4096) (hn : n.val = 128 * t + i) :
    rowsT T (ix4 b h n e) = T (ix5 t b h i e) := by
  have e1 : rowsT T (ix4 b h n e) = transpose S4x8x32x128x512 [1, 2, 0, 3, 4] T transposes_S32x4x8x128x512_S4x8x32x128x512_1_2_0_3_4 (ix5 b h t i e) := by
    refine shapeCast_apply _ _ _ _ ?_
    rw [Shape.rowMajor_val_five, Shape.rowMajor_val_four]
    show (((b.val * 8 + h.val) * 32 + t.val) * 128 + i.val) * 512 + e.val = ((b.val * 8 + h.val) * 4096 + n.val) * 512 + e.val
    omega
  rw [e1]
  pointwise

theorem bothT_apply (T : Vec Ideal S32x4x8x128x512 .f32) (b h : Fin 4) (n : Fin 4096) (e : Fin 512) :
    bothT T (ix4 b h n e) = rowsT T (ix4 b (⟨h, by omega⟩ : Fin 8) n e) + rowsT T (ix4 b (⟨4 + h, by omega⟩ : Fin 8) (⟨4095 - n, by omega⟩ : Fin 4096) e) := by
  have e' : (n.rev : Fin 4096) = ⟨4095 - n, by omega⟩ := Fin.ext (by rw [Fin.val_rev]; show 4096 - (n.val + 1) = 4095 - n.val; omega)
  pointwise [bothT]
  rw [← e']
  rfl

theorem normed_apply (Y : FVec Ideal S4x4x4096x512 .f32) (b h : Fin 4) (n : Fin 4096) (e : Fin 512) :
    normed (lessMean Y) (ix4 b h n e) = normAt (fun j => Y (ix4 b h n j)) (Y (ix4 b h n e)) := by
  simp only [normAt]
  pointwise [normed, lessMean]

theorem gateT_apply (a0 : Vec Ideal S16384x8192 .bf16) (b : Fin 4) (n : Fin 4096) (c : Fin 2048) : gateT a0 (ix3 b n c)
    = tot (fun (r : Fin 16384) (k : Fin 8192) => a0 (ix2 r k)) (4096 * b + n) (4096 + c) := by
  have hb : b.val < 4 := b.isLt
  rw [tot_of _ (by omega) (by omega)]
  have e : (⟨b.val * 4096 + n.val, by omega⟩ : Fin 16384) = ⟨4096 * b + n, by omega⟩ := Fin.ext (by show b.val * 4096 + n.val = 4096 * b.val + n.val; omega)
  pointwise [gateT]
  rw [e]

theorem gated_apply (N : FVec Ideal S4x4x4096x512 .f32) (G : FVec Ideal S4x4096x2048 .f32) (a3 : Vec Ideal S1x2048 .f32) (b : Fin 4) (n : Fin 4096) (c : Fin 2048) :
    gated N G a3 (ix3 b n c) = G (ix3 b n c) * Ideal.div 1 (1 + Ideal.exp (0 - G (ix3 b n c)))
      * (N (ix4 b (⟨c / 512, by omega⟩ : Fin 4) n (⟨c % 512, by omega⟩ : Fin 512)) * a3 (ix2 (0 : Fin 1) c)) := by
  pointwise [gated]
  rw [zero_sub]

end Cert.ReferenceIdeal.Trips

end
-- ==== Proof.RefStep.lean ====
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v83_8) = s.main_v83_8
  f_9 : V0 (Proc.devRef .tc main_v83_9) = s.main_v83_9
  f_0 : V0 (Proc.devRef .tc main_v83_0) = s.main_v83_0
  f_1 : V0 (Proc.devRef .tc main_v83_1) = s.main_v83_1
  f_2 : V0 (Proc.devRef .tc main_v83_2) = s.main_v83_2
  f_3 : V0 (Proc.devRef .tc main_v83_3) = s.main_v83_3
  f_4 : V0 (Proc.devRef .tc main_v83_4) = s.main_v83_4
  f_5 : V0 (Proc.devRef .tc main_v83_5) = s.main_v83_5
  f_6 : V0 (Proc.devRef .tc main_v83_6) = s.main_v83_6
  n_7 : V0 (Proc.devRef .tc main_v83_7) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call5_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x8x128x256 (V0 (Proc.devRef .tc main_v83_0)) (fun k => (((![V0 (Proc.devRef .tc main_v83_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x128x256_S1x4x8x128x256 : (Proc.devRef .tc main_while0b_call5_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v120 V0 : (Proc.devRef .tc main_while0b_v120 : DevRef τ sig).ty.Contents (Elt F)) = Cert.ReferenceIdeal.Step.b5 j s := by
  unfold res_main_while0b_v120 Cert.ReferenceIdeal.Step.b5
  rw [← al_4 h]
  try rfl
set_option maxRecDepth 8192 in
theorem al_6 (h : Holds V0 s j) : (constantI S_ 32 0#32 : (Proc.devRef .tc main_while0b_call6_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call6_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call6_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x8x128x256 (V0 (Proc.devRef .tc main_v83_1)) (fun k => (((![V0 (Proc.devRef .tc main_v83_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x128x256_S1x4x8x128x256 : (Proc.devRef .tc main_while0b_call6_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v121 V0 : (Proc.devRef .tc main_while0b_v121 : DevRef τ sig).ty.Contents (Elt F)) = Cert.ReferenceIdeal.Step.b11 j s := by
  unfold res_main_while0b_v121 Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call7_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x8x128x512 (V0 (Proc.devRef .tc main_v83_2)) (fun k => (((![V0 (Proc.devRef .tc main_v83_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x8x128x512_S1x4x8x128x512 : (Proc.devRef .tc main_while0b_call7_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v122 V0 : (Proc.devRef .tc main_while0b_v122 : DevRef τ sig).ty.Contents (Elt F)) = Cert.ReferenceIdeal.Step.b17 j s := by
  unfold res_main_while0b_v122 Cert.ReferenceIdeal.Step.b17
  rw [← al_16 h]
  try rfl
set_option maxRecDepth 8192 in
theorem al_18 (h : Holds V0 s j) : (Host.dotGeneral dot_S4x8x128x256_S4x8x128x256_S4x8x128x128_3_3_2_2_01_01 none (res_main_while0b_v120 V0) (res_main_while0b_v121 V0) : (Proc.devRef .tc main_while0b_v123 : DevRef τ sig).ty.Contents (Elt F)) = Cert.ReferenceIdeal.Step.b18 j s := by
  unfold Cert.ReferenceIdeal.Step.b18
  rw [← al_5 h, ← al_11 h]
  try rfl
set_option maxRecDepth 8192 in
theorem al_19 (h : Holds V0 s j) : (broadcastInDim S1x8x128x128 ![1, 2, 3] bcast_S8x128x128_S1x8x128x128_1_2_3 (V0 (Proc.devRef .tc main_v83_3)) : (Proc.devRef .tc main_while0b_v124 : DevRef τ sig).ty.Contents (Elt F)) = Cert.ReferenceIdeal.Step.b19 j s := by
  unfold Cert.ReferenceIdeal.Step.b19
  rw [h.f_3]
  try rfl
set_option maxRecDepth 8192 in
theorem al_20 (h : Holds V0 s j) : (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3))) : (Proc.devRef .tc main_while0b_v125 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (mulf (Host.dotGeneral dot_S4x8x128x256_S4x8x128x256_S4x8x128x128_3_3_2_2_01_01 none (res_main_while0b_v120 V0) (res_main_while0b_v121 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3)))) : (Proc.devRef .tc main_while0b_v126 : DevRef τ sig).ty.Contents (Elt F)) = Cert.ReferenceIdeal.Step.b21 j s := by
  unfold Cert.ReferenceIdeal.Step.b21
  rw [← al_18 h, ← al_20 h]
  try rfl
set_option maxRecDepth 8192 in
theorem al_22 (h : Holds V0 s j) : (Host.dotGeneral dot_S4x8x128x128_S4x8x128x512_S4x8x128x512_3_2_2_3_01_01 none (mulf (Host.dotGeneral dot_S4x8x128x256_S4x8x128x256_S4x8x128x128_3_3_2_2_01_01 none (res_main_while0b_v120 V0) (res_main_while0b_v121 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3))))) (res_main_while0b_v122 V0) : (Proc.devRef .tc main_while0b_v127 : DevRef τ sig).ty.Contents (Elt F)) = Cert.ReferenceIdeal.Step.b22 j s := by
  unfold Cert.ReferenceIdeal.Step.b22
  rw [← al_21 h, ← al_17 h]
  try rfl
set_option maxRecDepth 8192 in
theorem al_23 (h : Holds V0 s j) : (Host.dotGeneral dot_S4x8x128x256_S4x8x256x512_S4x8x128x512_3_2_2_3_01_01 none (res_main_while0b_v120 V0) (V0 (Proc.devRef .tc main_v83_8)) : (Proc.devRef .tc main_while0b_v128 : DevRef τ sig).ty.Contents (Elt F)) = Cert.ReferenceIdeal.Step.b23 j s := by
  unfold Cert.ReferenceIdeal.Step.b23
  rw [← al_5 h, h.f_8]
  try rfl
set_option maxRecDepth 8192 in
theorem al_24 (h : Holds V0 s j) : (broadcastInDim S4x8x128x512 ![0, 1, 2, 3] bcast_S1x8x128x1_S4x8x128x512_0_1_2_3 (V0 (Proc.devRef .tc main_v83_4)) : (Proc.devRef .tc main_while0b_v129 : DevRef τ sig).ty.Contents (Elt F)) = Cert.ReferenceIdeal.Step.b24 j s := by
  unfold Cert.ReferenceIdeal.Step.b24
  rw [h.f_4]
  try rfl
set_option maxRecDepth 8192 in
theorem al_25 (h : Holds V0 s j) : (mulf (Host.dotGeneral dot_S4x8x128x256_S4x8x256x512_S4x8x128x512_3_2_2_3_01_01 none (res_main_while0b_v120 V0) (V0 (Proc.devRef .tc main_v83_8))) (broadcastInDim S4x8x128x512 ![0, 1, 2, 3] bcast_S1x8x128x1_S4x8x128x512_0_1_2_3 (V0 (Proc.devRef .tc main_v83_4))) : (Proc.devRef .tc main_while0b_v130 : DevRef τ sig).ty.Contents (Elt F)) = Cert.ReferenceIdeal.Step.b25 j s := by
  unfold Cert.ReferenceIdeal.Step.b25
  rw [← al_23 h, ← al_24 h]
  try rfl
set_option maxRecDepth 8192 in
theorem al_26 (h : Holds V0 s j) : (addf (Host.dotGeneral dot_S4x8x128x128_S4x8x128x512_S4x8x128x512_3_2_2_3_01_01 none (mulf (Host.dotGeneral dot_S4x8x128x256_S4x8x128x256_S4x8x128x128_3_3_2_2_01_01 none (res_main_while0b_v120 V0) (res_main_while0b_v121 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3))))) (res_main_while0b_v122 V0)) (mulf (Host.dotGeneral dot_S4x8x128x256_S4x8x256x512_S4x8x128x512_3_2_2_3_01_01 none (res_main_while0b_v120 V0) (V0 (Proc.devRef .tc main_v83_8))) (broadcastInDim S4x8x128x512 ![0, 1, 2, 3] bcast_S1x8x128x1_S4x8x128x512_0_1_2_3 (V0 (Proc.devRef .tc main_v83_4)))) : (Proc.devRef .tc main_while0b_v131 : DevRef τ sig).ty.Contents (Elt F)) = Cert.ReferenceIdeal.Step.b26 j s := by
  unfold Cert.ReferenceIdeal.Step.b26
  rw [← al_22 h, ← al_25 h]
  try rfl
set_option maxRecDepth 8192 in
theorem al_27 (h : Holds V0 s j) : (broadcastInDim S4x8x256x512 ![0, 1, 2, 3] bcast_S1x8x1x1_S4x8x256x512_0_1_2_3 (V0 (Proc.devRef .tc main_v83_5)) : (Proc.devRef .tc main_while0b_v132 : DevRef τ sig).ty.Contents (Elt F)) = Cert.ReferenceIdeal.Step.b27 j s := by
  unfold Cert.ReferenceIdeal.Step.b27
  rw [h.f_5]
  try rfl
set_option maxRecDepth 8192 in
theorem al_28 (h : Holds V0 s j) : (mulf (V0 (Proc.devRef .tc main_v83_8)) (broadcastInDim S4x8x256x512 ![0, 1, 2, 3] bcast_S1x8x1x1_S4x8x256x512_0_1_2_3 (V0 (Proc.devRef .tc main_v83_5))) : (Proc.devRef .tc main_while0b_v133 : DevRef τ sig).ty.Contents (Elt F)) = Cert.ReferenceIdeal.Step.b28 j s := by
  unfold Cert.ReferenceIdeal.Step.b28
  rw [← al_27 h, h.f_8]
  try rfl
set_option maxRecDepth 8192 in
theorem al_29 (h : Holds V0 s j) : (broadcastInDim S4x8x128x256 ![0, 1, 2, 3] bcast_S1x8x128x1_S4x8x128x256_0_1_2_3 (V0 (Proc.devRef .tc main_v83_6)) : (Proc.devRef .tc main_while0b_v134 : DevRef τ sig).ty.Contents (Elt F)) = Cert.ReferenceIdeal.Step.b29 j s := by
  unfold Cert.ReferenceIdeal.Step.b29
  rw [h.f_6]
  try rfl
set_option maxRecDepth 8192 in
theorem al_30 (h : Holds V0 s j) : (mulf (res_main_while0b_v121 V0) (broadcastInDim S4x8x128x256 ![0, 1, 2, 3] bcast_S1x8x128x1_S4x8x128x256_0_1_2_3 (V0 (Proc.devRef .tc main_v83_6))) : (Proc.devRef .tc main_while0b_v135 : DevRef τ sig).ty.Contents (Elt F)) = Cert.ReferenceIdeal.Step.b30 j s := by
  unfold Cert.ReferenceIdeal.Step.b30
  rw [← al_11 h, ← al_29 h]
  try rfl
set_option maxRecDepth 8192 in
theorem al_31 (h : Holds V0 s j) : (Host.dotGeneral dot_S4x8x128x256_S4x8x128x512_S4x8x256x512_2_2_3_3_01_01 none (mulf (res_main_while0b_v121 V0) (broadcastInDim S4x8x128x256 ![0, 1, 2, 3] bcast_S1x8x128x1_S4x8x128x256_0_1_2_3 (V0 (Proc.devRef .tc main_v83_6)))) (res_main_while0b_v122 V0) : (Proc.devRef .tc main_while0b_v136 : DevRef τ sig).ty.Contents (Elt F)) = Cert.ReferenceIdeal.Step.b31 j s := by
  unfold Cert.ReferenceIdeal.Step.b31
  rw [← al_30 h, ← al_17 h]
  try rfl
set_option maxRecDepth 8192 in
theorem al_32 (h : Holds V0 s j) : (addf (mulf (V0 (Proc.devRef .tc main_v83_8)) (broadcastInDim S4x8x256x512 ![0, 1, 2, 3] bcast_S1x8x1x1_S4x8x256x512_0_1_2_3 (V0 (Proc.devRef .tc main_v83_5)))) (Host.dotGeneral dot_S4x8x128x256_S4x8x128x512_S4x8x256x512_2_2_3_3_01_01 none (mulf (res_main_while0b_v121 V0) (broadcastInDim S4x8x128x256 ![0, 1, 2, 3] bcast_S1x8x128x1_S4x8x128x256_0_1_2_3 (V0 (Proc.devRef .tc main_v83_6)))) (res_main_while0b_v122 V0)) : (Proc.devRef .tc main_while0b_v137 : DevRef τ sig).ty.Contents (Elt F)) = Cert.ReferenceIdeal.Step.b32 j s := by
  unfold Cert.ReferenceIdeal.Step.b32
  rw [← al_28 h, ← al_31 h]
  try rfl
set_option maxRecDepth 8192 in
theorem al_33 (h : Holds V0 s j) : (broadcastInDim S1x4x8x128x512 ![1, 2, 3, 4] bcast_S4x8x128x512_S1x4x8x128x512_1_2_3_4 (addf (Host.dotGeneral dot_S4x8x128x128_S4x8x128x512_S4x8x128x512_3_2_2_3_01_01 none (mulf (Host.dotGeneral dot_S4x8x128x256_S4x8x128x256_S4x8x128x128_3_3_2_2_01_01 none (res_main_while0b_v120 V0) (res_main_while0b_v121 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3))))) (res_main_while0b_v122 V0)) (mulf (Host.dotGeneral dot_S4x8x128x256_S4x8x256x512_S4x8x128x512_3_2_2_3_01_01 none (res_main_while0b_v120 V0) (V0 (Proc.devRef .tc main_v83_8))) (broadcastInDim S4x8x128x512 ![0, 1, 2, 3] bcast_S1x8x128x1_S4x8x128x512_0_1_2_3 (V0 (Proc.devRef .tc main_v83_4))))) : (Proc.devRef .tc main_while0b_call8_v0 : DevRef τ sig).ty.Contents (Elt F)) = Cert.ReferenceIdeal.Step.b33 j s := by
  unfold Cert.ReferenceIdeal.Step.b33
  rw [← al_26 h]
  try rfl
set_option maxRecDepth 8192 in
theorem al_34 (h : Holds V0 s j) : (constantI S_ 32 0#32 : (Proc.devRef .tc main_while0b_call8_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call8_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call8_c_1 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call8_c_2 : DevRef τ sig).ty.Contents (Elt F)) = Cert.ReferenceIdeal.Step.b37 j s := by
  unfold Cert.ReferenceIdeal.Step.b37
  rfl
set_option maxRecDepth 8192 in
theorem al_38 (h : Holds V0 s j) : (Host.dynamicUpdateSlice (V0 (Proc.devRef .tc main_v83_9)) (broadcastInDim S1x4x8x128x512 ![1, 2, 3, 4] bcast_S4x8x128x512_S1x4x8x128x512_1_2_3_4 (addf (Host.dotGeneral dot_S4x8x128x128_S4x8x128x512_S4x8x128x512_3_2_2_3_01_01 none (mulf (Host.dotGeneral dot_S4x8x128x256_S4x8x128x256_S4x8x128x128_3_3_2_2_01_01 none (res_main_while0b_v120 V0) (res_main_while0b_v121 V0)) (broadcastInDim S4x8x128x128 ![0, 1, 2, 3] bcast_S1x8x128x128_S4x8x128x128_0_1_2_3 (broadcastInDim S1x8x128x128 ![1, 2, 3] bcast_S8x128x128_S1x8x128x128_1_2_3 (V0 (Proc.devRef .tc main_v83_3))))) (res_main_while0b_v122 V0)) (mulf (Host.dotGeneral dot_S4x8x128x256_S4x8x256x512_S4x8x128x512_3_2_2_3_01_01 none (res_main_while0b_v120 V0) (V0 (Proc.devRef .tc main_v83_8))) (broadcastInDim S4x8x128x512 ![0, 1, 2, 3] bcast_S1x8x128x1_S4x8x128x512_0_1_2_3 (V0 (Proc.devRef .tc main_v83_4)))))) (fun k => (((![V0 (Proc.devRef .tc main_v83_7), constantI S_ 32 0#32, constantI S_ 32 0#32, constantI S_ 32 0#32, constantI S_ 32 0#32] : Fin 5 → (⟨S_, .i32⟩ : BufTy).Contents (Elt F))) k (Shape.Idx.first h_S_)).toInt) updateFits_S32x4x8x128x512_S1x4x8x128x512 : (Proc.devRef .tc main_while0b_v138 : DevRef τ sig).ty.Contents (Elt F)) = Cert.ReferenceIdeal.Step.b38 j s := by
  unfold Cert.ReferenceIdeal.Step.b38
  rw [← al_33 h, ← al_34 h, ← al_35 h, ← al_36 h, ← al_37 h, h.f_9, h.n_7]
  try rfl

/-! One trip's step of the carried values is `step`, field by field; a counter steps to the next number. -/

theorem step_8 (h : Holds V0 s j) : step_main_v83_8 V0 = (step j s).main_v83_8 := by
  unfold step_main_v83_8 Cert.ReferenceIdeal.Step.step
  show id (addf (mulf (V0 (Proc.devRef .tc main_v83_8)) (broadcastInDim S4x8x256x512 ![0, 1, 2, 3] bcast_S1x8x1x1_S4x8x256x512_0_1_2_3 (V0 (Proc.devRef .tc main_v83_5)))) (Host.dotGeneral dot_S4x8x128x256_S4x8x128x512_S4x8x256x512_2_2_3_3_01_01 none (mulf (res_main_while0b_v121 V0) (broadcastInDim S4x8x128x256 ![0, 1, 2, 3] bcast_S1x8x128x1_S4x8x128x256_0_1_2_3 (V0 (Proc.devRef .tc main_v83_6)))) (res_main_while0b_v122 V0))) = _
  rw [al_32 h]
  try rfl
theorem step_9 (h : Holds V0 s j) : step_main_v83_9 V0 = (step j s).main_v83_9 := by
  refine Eq.trans ?_ (al_38 h)
  rfl
theorem step_7 (h : Holds V0 s j) : step_main_v83_7 V0 = constantI S_ 32 (BitVec.ofNat 32 (j + 1)) := by
  unfold step_main_v83_7
  rw [h.n_7]
  funext i
  show BitVec.ofNat 32 j + 1#32 = BitVec.ofNat 32 (j + 1)
  simp only [BitVec.ofNat_add]

set_option maxRecDepth 8192 in
theorem out_main_v119_holds (h : Holds V0 s j) {x_main_arg0 : (⟨S16384x8192, .bf16⟩ : BufTy).Contents (Elt F)} (h_main_arg0 : V0 (Proc.devRef .tc main_arg0) = x_main_arg0) {x_main_arg3 : (⟨S1x2048, .f32⟩ : BufTy).Contents (Elt F)} (h_main_arg3 : V0 (Proc.devRef .tc main_arg3) = x_main_arg3) : out_main_v119 V0 = Cert.ReferenceIdeal.Step.R_main_v119 s x_main_arg0 x_main_arg3 := by
  unfold out_main_v119 Cert.ReferenceIdeal.Step.R_main_v119
  rw [h.f_9, h_main_arg0, h_main_arg3]
  try rfl

/-- One trip keeps the valuation holding: `step` of the state, the same set-up values, the next number. -/
theorem holds_step (h : Holds V0 s j) : Holds (STEP V0) (step j s) (j + 1) where
  f_8 := (STEP_main_v83_8 V0).trans (step_8 h)
  f_9 := (STEP_main_v83_9 V0).trans (step_9 h)
  n_7 := (STEP_main_v83_7 V0).trans (step_7 h)
  f_0 := (STEP_main_v83_0 V0).trans h.f_0
  f_1 := (STEP_main_v83_1 V0).trans h.f_1
  f_2 := (STEP_main_v83_2 V0).trans h.f_2
  f_3 := (STEP_main_v83_3 V0).trans h.f_3
  f_4 := (STEP_main_v83_4 V0).trans h.f_4
  f_5 := (STEP_main_v83_5 V0).trans h.f_5
  f_6 := (STEP_main_v83_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v119) = Cert.ReferenceIdeal.Step.R_main_v119 (it c 32) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v119_holds hk (iter_main_arg0 m c 32) (iter_main_arg3 m c 32)), (h c).2.1, (h c).2.2.1, (h c).2.2.2.1, (h c).2.2.2.2⟩) (Value.run m ρ)

end Cert.ReferenceIdeal.Trips

end
-- ==== Proof.RefVal.lean ====
module

public import proofs.«01_k».proof.Proof.RefPoint
public import proofs.«01_k».proof.Proof.RefSeq
public import proofs.«01_k».proof.Proof.RefDecay
public import proofs.«01_k».proof.Proof.RefTail
public import proofs.«01_k».proof.Proof.RefStep

@[expose] public section

set_option maxRecDepth 16384

noncomputable section

/-! The scan over the reals, and the reference's result. -/
namespace Cert.ReferenceIdeal.Trips

open Idealize.ShloMosaic Idealize.ShloMosaic.TcCoe Idealize.ShloMosaic.Tactic
open Idealize.SL Idealize.SL.Sem
open Cert.ReferenceIdeal Cert.ReferenceIdeal.Gen Cert.ReferenceIdeal.Step Cert.Retention
open Cert.KernelIdeal.Ret (logFade scaled finAt)

section Scan
variable (a0 : Vec Ideal S16384x8192 .bf16) (a1 a2 : Vec Ideal S1x4 .f32)

/-- The fading of a head. -/
def fadeH (a1 a2 : Vec Ideal S1x4 .f32) (h : Fin 8) : ℝ := fade (logFade (decayH a1 a2 h))

/-- The least distance a head looks back over. -/
def gapH (h : ℕ) : ℕ := if h < 4 then 0 else 1

theorem gapH_le (h : ℕ) : gapH h ≤ 1 := by unfold gapH; split <;> omega

variable (hfin : ∀ r k : ℕ, k < 4096 → table a0 r k = ((table a0 r k).toReal : EReal))

include hfin in
theorem q_real (t : Fin 32) (b : Fin 4) (h : Fin 8) (n : Fin 128) (d : Fin 256) :
    A_main_v77 a0 a1 a2 (ix5 t b h n d) = ((seqH (table a0) b h 0 (128 * t + n) d : ℝ) : EReal) := by
  rw [v77_apply, v28_apply, seqH]
  split
  · exact hfin _ _ (by omega)
  · exact hfin _ _ (by omega)

include hfin in
theorem k_real (t : Fin 32) (b : Fin 4) (h : Fin 8) (n : Fin 128) (d : Fin 256) :
    A_main_v79 a0 a1 a2 (ix5 t b h n d) = ((scaled (seqH (table a0) b h 256) (128 * t + n) d : ℝ) : EReal) := by
  rw [v79_apply, v30_apply, scaled, seqH, EReal.coe_mul]
  split
  · exact congrArg (· * _) (hfin _ _ (by omega))
  · exact congrArg (· * _) (hfin _ _ (by omega))

include hfin in
theorem v_real (t : Fin 32) (b : Fin 4) (h : Fin 8) (n : Fin 128) (e : Fin 512) :
    A_main_v81 a0 a1 a2 (ix5 t b h n e) = ((seqH (table a0) b h 512 (128 * t + n) e : ℝ) : EReal) := by
  rw [v81_apply, v32_apply, seqH]
  split
  · exact hfin _ _ (by omega)
  · exact hfin _ _ (by omega)

/-- The state of a head after `N` rows, and its output at a row. -/
def stH (b h N d e : ℕ) (g : ℝ) : ℝ := stateR g (scaled (seqH (table a0) b h 256)) (seqH (table a0) b h 512) N d e
def outH (b h n e : ℕ) (g : ℝ) : ℝ := outR (gapH h) g (seqH (table a0) b h 0) (scaled (seqH (table a0) b h 256)) (seqH (table a0) b h 512) n e

/-- What a trip finds: the sequences and the decays, the state after the chunks before it, and the rows those chunks gave. -/
structure ScanInv (j : ℕ) (s : State Ideal) : Prop where
  q : s.main_v83_0 = A_main_v77 a0 a1 a2
  k : s.main_v83_1 = A_main_v79 a0 a1 a2
  v : s.main_v83_2 = A_main_v81 a0 a1 a2
  dm : s.main_v83_3 = A_main_v52 a0 a1 a2
  qd : s.main_v83_4 = A_main_v70 a0 a1 a2
  cd : s.main_v83_5 = A_main_v74 a0 a1 a2
  kd : s.main_v83_6 = A_main_v61 a0 a1 a2
  state : ∀ (b : Fin 4) (h : Fin 8) (d : Fin 256) (e : Fin 512), s.main_v83_8 (ix4 b h d e) = ((stH a0 b h (128 * j) d e (fadeH a1 a2 h) : ℝ) : EReal)
  rows : ∀ (u : Fin 32) (b : Fin 4) (h : Fin 8) (n : Fin 128) (e : Fin 512), u.val < j →
    s.main_v83_9 (ix5 u b h n e) = ((outH a0 b h (128 * u + n) e (fadeH a1 a2 h) : ℝ) : EReal)

theorem scan_init : ScanInv a0 a1 a2 0 (init a0 a1 a2) where
  q := rfl
  k := rfl
  v := rfl
  dm := rfl
  qd := rfl
  cd := rfl
  kd := rfl
  state b h d e := by
    have e0 : (init a0 a1 a2).main_v83_8 (ix4 b h d e) = (0 : EReal) := by
      show K_main_v75 (F := Ideal) (ix4 b h d e) = _
      pointwise [K_main_v75, K_main_cst_7]
    rw [e0, stH, Nat.mul_zero, stateR_zero, EReal.coe_zero]
  rows u b h n e hu := absurd hu (Nat.not_lt_zero _)

variable {a0 a1 a2} {s : State Ideal} (t : Fin 32)

include hfin in
theorem scan_state (hI : ScanInv a0 a1 a2 t s) (b : Fin 4) (h : Fin 8) (d : Fin 256) (e : Fin 512) :
    b32 t.val s (ix4 b h d e) = ((stH a0 b h (128 * (t + 1)) d e (fadeH a1 a2 h) : ℝ) : EReal) := by
  rw [s_apply, hI.state, hI.cd, hI.kd, stH, stH, Nat.mul_add, Nat.mul_one, stateR_step, Finset.sum_range, EReal.coe_add, coe_sum_fin, EReal.coe_mul, cd_apply]
  simp only [k_apply, v_apply, hI.k, hI.v, k_real a0 a1 a2 hfin, v_real a0 a1 a2 hfin, kd_apply, ← EReal.coe_mul]
  rfl

include hfin in
theorem scan_rows (hI : ScanInv a0 a1 a2 t s) (b : Fin 4) (h : Fin 8) (n : Fin 128) (e : Fin 512) :
    b26 t.val s (ix4 b h n e) = ((outH a0 b h (128 * t + n) e (fadeH a1 a2 h) : ℝ) : EReal) := by
  rw [y_apply, hI.dm, hI.qd, outH, outR_step _ (gapH_le h) _ _ _ _ _ 128 n e n.isLt]
  simp only [q_apply, k_apply, v_apply, hI.q, hI.k, hI.v, q_real a0 a1 a2 hfin, k_real a0 a1 a2 hfin, v_real a0 a1 a2 hfin, dm_apply, qd_apply, hI.state,
    Finset.sum_range, EReal.coe_add, coe_sum_fin, EReal.coe_mul]
  rfl

include hfin in
theorem scan_step (hI : ScanInv a0 a1 a2 t s) : ScanInv a0 a1 a2 (t + 1) (step t.val s) where
  q := hI.q
  k := hI.k
  v := hI.v
  dm := hI.dm
  qd := hI.qd
  cd := hI.cd
  kd := hI.kd
  state b h d e := by rw [step_main_v83_8]; exact scan_state hfin t hI b h d e
  rows u b h n e hu := by
    rw [step_main_v83_9, ys_apply]
    by_cases hut : u = t
    · subst hut; rw [if_pos rfl]; exact scan_rows hfin u hI b h n e
    · rw [if_neg hut]
      exact hI.rows u b h n e (by have : u.val ≠ t.val := fun hh => hut (Fin.ext hh); omega)

include hfin in
theorem scan_inv (it : ℕ → State Ideal) (h0 : it 0 = init a0 a1 a2) (hs : ∀ n, it (n + 1) = step n (it n)) :
    ∀ j, j ≤ 32 → ScanInv a0 a1 a2 j (it j)
  | 0, _ => h0 ▸ scan_init a0 a1 a2
  | j + 1, hj => hs j ▸ scan_step hfin ⟨j, hj⟩ (scan_inv it h0 hs j (by omega))

theorem all_rows (hI : ScanInv a0 a1 a2 32 s) (b : Fin 4) (h : Fin 8) (n : Fin 4096) (e : Fin 512) :
    rowsT s.main_v83_9 (ix4 b h n e) = ((outH a0 b h n e (fadeH a1 a2 h) : ℝ) : EReal) := by
  rw [rowsT_apply _ b h (⟨n / 128, by omega⟩ : Fin 32) (⟨n % 128, by omega⟩ : Fin 128) e n (Nat.div_add_mod _ _).symm, hI.rows _ _ _ _ _ (by show n.val / 128 < 32; omega)]
  show ((outH a0 b h (128 * (n.val / 128) + n.val % 128) e (fadeH a1 a2 h) : ℝ) : EReal) = _
  rw [Nat.div_add_mod]

/-- A row of decays or gains read at any natural. -/
def rowOf {k : ℕ} (x : Fin k → EReal) : ℕ → EReal := tot (fun (_ : Fin 1) => x) 0

theorem both_rows (hI : ScanInv a0 a1 a2 32 s) (b h : Fin 4) (n : Fin 4096) (e : Fin 512) :
    bothT s.main_v83_9 (ix4 b h n e)
      = retRow (table a0) (rowOf (fun k : Fin 4 => a1 (ix2 (0 : Fin 1) k)) h) (rowOf (fun k : Fin 4 => a2 (ix2 (0 : Fin 1) k)) h) b h n e := by
  have hh : h.val < 4 := h.isLt
  rw [bothT_apply, all_rows hI, all_rows hI, retRow, rowOf, rowOf, tot_of _ (by omega) hh, tot_of _ (by omega) hh]
  have d1 : decayH a1 a2 (⟨h.val, by omega⟩ : Fin 8) = a1 (ix2 (0 : Fin 1) h) := by unfold decayH; rw [dif_pos hh]
  have d2 : decayH a1 a2 (⟨4 + h.val, by omega⟩ : Fin 8) = a2 (ix2 (0 : Fin 1) h) := by
    unfold decayH
    rw [dif_neg (by show ¬ 4 + h.val < 4; omega)]
    exact congrArg (fun i => a2 (ix2 (0 : Fin 1) i)) (Fin.ext (show 4 + h.val - 4 = h.val by omega))
  have s1 : ∀ col, seqH (table a0) b h.val col = seqOf (table a0) (4096 * b) (1024 * h + col) := fun col => by rw [seqH, if_pos hh]
  have s2 : ∀ col, seqH (table a0) b (4 + h.val) col = backSeq (seqOf (table a0) (4096 * b) (1024 * h + col)) := fun col => by
    rw [seqH, if_neg (by omega), Nat.add_sub_cancel_left]
  have g1 : gapH h.val = 0 := if_pos hh
  have g2 : gapH (4 + h.val) = 1 := if_neg (by omega)
  simp only [outH, fadeH, d1, d2, s1, s2, g1, g2]
  rfl

theorem result_at (hI : ScanInv a0 a1 a2 32 s) (a3 : Vec Ideal S1x2048 .f32) (b : Fin 4) (n : Fin 4096) (c : Fin 2048) :
    R_main_v119 s a0 a3 (ix3 b n c) = resultAt (table a0) (rowOf fun k : Fin 4 => a1 (ix2 (0 : Fin 1) k)) (rowOf fun k : Fin 4 => a2 (ix2 (0 : Fin 1) k))
      (rowOf fun k : Fin 2048 => a3 (ix2 (0 : Fin 1) k)) b n c := by
  rw [R_eq, gated_apply, normed_apply, gateT_apply, resultAt, finAt]
  simp only [both_rows hI]
  have e3 : rowOf (fun k : Fin 2048 => a3 (ix2 (0 : Fin 1) k)) c = a3 (ix2 (0 : Fin 1) c) := by rw [rowOf, tot_of _ (by omega) c.isLt]
  rw [e3]
  rfl

end Scan

variable (m : (ℓ : Loc nD τ sig) → Buf (Elt Ideal) ℓ) (ρ : Dev nD → PrngReg)

/-- The reference's arguments. -/
abbrev arg0 (c : Dev nD) : Vec Ideal S16384x8192 .bf16 := m ((c.tc : Thread nD τ).loc main_arg0)
abbrev arg1 (c : Dev nD) : Vec Ideal S1x4 .f32 := m ((c.tc : Thread nD τ).loc main_arg1)
abbrev arg2 (c : Dev nD) : Vec Ideal S1x4 .f32 := m ((c.tc : Thread nD τ).loc main_arg2)
abbrev arg3 (c : Dev nD) : Vec Ideal S1x2048 .f32 := m ((c.tc : Thread nD τ).loc main_arg3)

/-- The trips' states. -/
def trips (c : Dev nD) : ℕ → State Ideal
  | 0 => initState m c
  | n + 1 => step n (trips c n)

/-- The reference's result. -/
def result (c : Dev nD) : Vec Ideal S4x4096x2048 .bf16 := fun y =>
  resultAt (table (arg0 m c)) (rowOf fun k : Fin 4 => arg1 m c (ix2 (0 : Fin 1) k)) (rowOf fun k : Fin 4 => arg2 m c (ix2 (0 : Fin 1) k))
    (rowOf fun k : Fin 2048 => arg3 m c (ix2 (0 : Fin 1) k)) (y 0).val (y 1).val (y 2).val

/-- The whole run: the result, the arguments unchanged. -/
theorem ref_args (hfin : ∀ (c : Dev nD) (r k : ℕ), k < 4096 → table (arg0 m c) r k = ((table (arg0 m c) r k).toReal : EReal)) :
    θ_run (defs (F := Ideal)) (onTc (τ := τ) (main (F := Ideal))) ⟨m, fun _ => 0, ρ⟩ (fun r => ∀ c : Dev nD,
      r.2.mem ((c.tc : Thread nD τ).loc main_v119) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2⟩) (run_iter m ρ (trips m) (fun _ => rfl) (fun _ _ => rfl))
  have hI := scan_inv (hfin c) (trips m c) rfl (fun _ => rfl) 32 (le_refl _)
  refine funext fun y => ?_
  have ey : y = ix3 (y 0) (y 1) (y 2) := by funext a; fin_cases a <;> rfl
  rw [ey]
  exact result_at hI (arg3 m c) (y 0) (y 1) (y 2)

end Cert.ReferenceIdeal.Trips

end
-- ==== Proof.Finite.lean ====
module

public import proofs.«01_k».proof.Pre_finite_activations
public import proofs.«01_k».proof.Proof.KBlocks
public import Idealize.ShloMosaic.Lib.Pointwise

@[expose] public section

set_option maxRecDepth 16384

noncomputable section

/-! What the precondition says: every query, key and value is a real number. -/
namespace Cert.Retention

open Idealize.ShloMosaic Idealize.ShloMosaic.TcCoe Idealize.ShloMosaic.Tactic
open Cert.KernelIdeal.Gen

theorem pre_facts : Cert.Pre_finite_activations.Facts where
  bitsLt_bf16_f32 := by decide
  slices_S16384x8192_S16384x4096_0_0 := by decide
  bcast_S_S16384x4096 := by decide

theorem bits_inf : Ideal.ofBits .f32 0x7F800000#32 = (⊤ : EReal) := by
  simp [Ideal.ofBits, Ideal.ieee]

theorem real_of_lt (x : EReal) (h : max x (-x) < ⊤) : x = ((x.toReal : ℝ) : EReal) := by
  refine (EReal.coe_toReal (fun e => ?_) (fun e => ?_)).symm
  · subst e; simp at h
  · subst e; simp at h

section
variable [Cert.Pre_finite_activations.Facts]

theorem pre_apply (x : Vec Ideal ⟨2, ![16384, 8192]⟩ .bf16) (y z : Vec Ideal ⟨2, ![1, 4]⟩ .f32) (w : Vec Ideal ⟨2, ![1, 2048]⟩ .f32)
    (h : Cert.Pre_finite_activations.fn (F := Ideal) x y z w = fun _ => 1#1) (r : Fin 16384) (k : Fin 8192) (hk : k.val < 4096) :
    x (ix2 r k) = (((x (ix2 r k)).toReal : ℝ) : EReal) := by
  have h1 := congrFun h (ix2 r (⟨k.val, hk⟩ : Fin 4096))
  have h2 : Cert.Pre_finite_activations.fn (F := Ideal) x y z w (ix2 r (⟨k.val, hk⟩ : Fin 4096))
      = BitVec.ofBool (decide (FloatOps.absf (F := Ideal) (φ := .f32) (x (ix2 r k)) < Ideal.ofBits .f32 0x7F800000#32)) := by
    pointwise [Cert.Pre_finite_activations.fn]
  rw [h2, bits_inf] at h1
  exact real_of_lt _ ((Cert.KernelIdeal.Ret.ofBool_eq_one _).1 h1)

theorem table_real (x : Vec Ideal ⟨2, ![16384, 8192]⟩ .bf16) (y z : Vec Ideal ⟨2, ![1, 4]⟩ .f32) (w : Vec Ideal ⟨2, ![1, 2048]⟩ .f32)
    (h : Cert.Pre_finite_activations.fn (F := Ideal) x y z w = fun _ => 1#1) (r k : ℕ) (hk : k < 4096) :
    tot (fun (r : Fin 16384) (k : Fin 8192) => (x (ix2 r k) : EReal)) r k = (((tot (fun (r : Fin 16384) (k : Fin 8192) => (x (ix2 r k) : EReal)) r k).toReal : ℝ) : EReal) := by
  unfold tot
  split
  · exact pre_apply x y z w h _ _ hk
  · simp

end

end Cert.Retention

end
-- ==== Proof.Proj.lean ====
module

public import proofs.«01_k».proof.Proof.Spec
public import proofs.«01_k».proof.Proof.Gen.Kernel2Ideal.Value
public import Idealize.ShloMosaic.Lib.Pipeline.ValueKit
public import Idealize.ShloMosaic.Lib.Pointwise
public import Idealize.ShloMosaic.Lib.IdealHost

@[expose] public section

set_option maxRecDepth 16384

noncomputable section

/-! The projection: its columns in the order the retention reads them, and what the kernel leaves of it. -/
namespace Cert.Projection

open Idealize.ShloMosaic Idealize.ShloMosaic.TcCoe Idealize.ShloMosaic.Tactic

/-- The weight column of column `c` of the result: of each of the four heads its queries, keys and values together,
    then the columns after them as they come. -/
def colOf (c : ℕ) : ℕ :=
  if c < 4096 then
    if c % 1024 < 256 then 4608 + 256 * (c / 1024) + c % 1024
    else if c % 1024 < 512 then 5632 + 256 * (c / 1024) + (c % 1024 - 256)
    else 6656 + 512 * (c / 1024) + (c % 1024 - 512)
  else 8704 + (c - 4096)

/-- A row of activations against a column of weights. -/
def dotAt (u w : ℕ → ℕ → EReal) (r c : ℕ) : EReal := ∑ k : Fin 1024, u r k * w k c

end Cert.Projection

namespace Cert.Kernel2Ideal.Prj

open Idealize.ShloMosaic Idealize.ShloMosaic.TcCoe Idealize.ShloMosaic.Tactic
open Idealize.SL Idealize.SL.Sem
open Cert.Kernel2Ideal Cert.Kernel2Ideal.Gen Cert.Retention Cert.Projection

variable (m : (ℓ : Loc nD τ sig) → Buf (Elt Ideal) ℓ)

/-- The activations and the weights a launch finds. -/
def acts (c : Dev nD) : ℕ → ℕ → EReal := tot fun (r : Fin 16384) (k : Fin 1024) => (m ((c : Thread nD τ).loc main_arg0) : Vec Ideal S16384x1024 .bf16) (ix2 r k)
def wts (c : Dev nD) : ℕ → ℕ → EReal := tot fun (k : Fin 1024) (n : Fin 12800) => (m ((c : Thread nD τ).loc main_arg1) : Vec Ideal S1x1024x12800 .f32) (ix3 (0 : Fin 1) k n)

theorem idx0 : ∀ t : Fin grid0.N, win0_0.index t = ![t.val % 8, 0] := by decide +kernel
theorem idx1 : ∀ t : Fin grid0.N, win0_1.index t = ![0, 18 + min (t.val / 8) 3] := by decide +kernel
theorem idx2 : ∀ t : Fin grid0.N, win0_2.index t = ![0, 22 + min (t.val / 8) 3] := by decide +kernel
theorem idx3 : ∀ t : Fin grid0.N, win0_3.index t = ![0, 13 + min (t.val / 8) 3] := by decide +kernel
theorem idx4 : ∀ t : Fin grid0.N, win0_4.index t = ![0, 17 + 2 * (t.val / 8 - 4)] := by decide +kernel
theorem idx5 : ∀ t : Fin grid0.N, win0_5.index t = ![0, 18 + 2 * (t.val / 8 - 4)] := by decide +kernel
theorem idx6 : ∀ t : Fin grid0.N, win0_6.index t = ![t.val % 8, t.val / 8] := by decide +kernel

theorem V_v1 (c : Dev nD) : (V m c main_v1 : Vec Ideal S1024x12800 .bf16) = truncf (F := Ideal) .bf16 (shapeCast S1024x12800 (m ((c : Thread nD τ).loc main_arg1) : Vec Ideal S1x1024x12800 .f32) shapeCasts_S1x1024x12800_S1024x12800) bitsLt_bf16_f32 := rfl

theorem v1_apply (c : Dev nD) (k : Fin 1024) (n : Fin 12800) : (V m c main_v1 : Vec Ideal S1024x12800 .bf16) (ix2 k n) = wts m c k n := by
  rw [V_v1, wts, tot_of _ k.isLt n.isLt]
  show shapeCast S1024x12800 (m ((c : Thread nD τ).loc main_arg1) : Vec Ideal S1x1024x12800 .f32) shapeCasts_S1x1024x12800_S1024x12800 (ix2 k n) = _
  refine shapeCast_apply _ _ _ (ix3 (0 : Fin 1) k n) ?_
  rw [Shape.rowMajor_val_two, Shape.rowMajor_val_three]
  show (0 * 1024 + k.val) * 12800 + n.val = k.val * 12800 + n.val
  omega

theorem arg0_apply (c : Dev nD) (r : Fin 16384) (k : Fin 1024) : (V m c main_arg0 : Vec Ideal S16384x1024 .bf16) (ix2 r k) = acts m c r k := by
  rw [V_main_arg0, acts, tot_of _ r.isLt k.isLt]

theorem blk0 (c : Dev nD) (t : Fin cfg0.N) (r : Fin 2048) (k : Fin 1024) :
    (iblk m c 0 t : Vec Ideal S2048x1024 .bf16) (ix2 r k) = acts m c (2048 * (t.val % 8) + r) k := by
  have h := arg0_apply m c ⟨2048 * (t.val % 8) + r, by omega⟩ k
  refine Eq.trans ?_ h
  blk_simp [iblk]
  refine congrArg (V m c main_arg0) ?_
  blk_ext [idx0 t]

theorem blk1 (c : Dev nD) (t : Fin cfg0.N) (k : Fin 1024) (e : Fin 256) :
    (iblk m c 1 t : Vec Ideal S1024x256 .bf16) (ix2 k e) = wts m c k (256 * (18 + min (t.val / 8) 3) + e) := by
  have h := v1_apply m c k ⟨256 * (18 + min (t.val / 8) 3) + e, by omega⟩
  refine Eq.trans ?_ h
  blk_simp [iblk]
  refine congrArg (V m c main_v1) ?_
  blk_ext [idx1 t]

theorem blk2 (c : Dev nD) (t : Fin cfg0.N) (k : Fin 1024) (e : Fin 256) :
    (iblk m c 2 t : Vec Ideal S1024x256 .bf16) (ix2 k e) = wts m c k (256 * (22 + min (t.val / 8) 3) + e) := by
  have h := v1_apply m c k ⟨256 * (22 + min (t.val / 8) 3) + e, by omega⟩
  refine Eq.trans ?_ h
  blk_simp [iblk]
  refine congrArg (V m c main_v1) ?_
  blk_ext [idx2 t]

theorem blk3 (c : Dev nD) (t : Fin cfg0.N) (k : Fin 1024) (e : Fin 512) :
    (iblk m c 3 t : Vec Ideal S1024x512 .bf16) (ix2 k e) = wts m c k (512 * (13 + min (t.val / 8) 3) + e) := by
  have h := v1_apply m c k ⟨512 * (13 + min (t.val / 8) 3) + e, by omega⟩
  refine Eq.trans ?_ h
  blk_simp [iblk]
  refine congrArg (V m c main_v1) ?_
  blk_ext [idx3 t]

theorem blk4 (c : Dev nD) (t : Fin cfg0.N) (k : Fin 1024) (e : Fin 512) :
    (iblk m c 4 t : Vec Ideal S1024x512 .bf16) (ix2 k e) = wts m c k (512 * (17 + 2 * (t.val / 8 - 4)) + e) := by
  have ht : t.val < 64 := t.isLt
  have h := v1_apply m c k ⟨512 * (17 + 2 * (t.val / 8 - 4)) + e, by omega⟩
  refine Eq.trans ?_ h
  blk_simp [iblk]
  refine congrArg (V m c main_v1) ?_
  blk_ext [idx4 t]

theorem blk5 (c : Dev nD) (t : Fin cfg0.N) (k : Fin 1024) (e : Fin 512) :
    (iblk m c 5 t : Vec Ideal S1024x512 .bf16) (ix2 k e) = wts m c k (512 * (18 + 2 * (t.val / 8 - 4)) + e) := by
  have ht : t.val < 64 := t.isLt
  have h := v1_apply m c k ⟨512 * (18 + 2 * (t.val / 8 - 4)) + e, by omega⟩
  refine Eq.trans ?_ h
  blk_simp [iblk]
  refine congrArg (V m c main_v1) ?_
  blk_ext [idx5 t]

theorem pay1_apply (u : FVec Ideal S2048x1024 .bf16) (w : FVec Ideal S1024x256 .bf16) (r : Fin 2048) (e : Fin 256) :
    k0_pay1 (F := Ideal) u w (ix2 r e) = ∑ k : Fin 1024, u (ix2 r k) * w (ix2 k e) := by
  simp only [k0_pay1]; pointwise

theorem pay4_apply (u : FVec Ideal S2048x1024 .bf16) (w : FVec Ideal S1024x512 .bf16) (r : Fin 2048) (e : Fin 512) :
    k0_pay4 (F := Ideal) u w (ix2 r e) = ∑ k : Fin 1024, u (ix2 r k) * w (ix2 k e) := by
  simp only [k0_pay4]; pointwise

theorem pay2_eq (u : FVec Ideal S2048x1024 .bf16) (w : FVec Ideal S1024x256 .bf16) : k0_pay2 (F := Ideal) u w = k0_pay1 u w := rfl
theorem pay3_eq (u : FVec Ideal S2048x1024 .bf16) (w : FVec Ideal S1024x512 .bf16) : k0_pay3 (F := Ideal) u w = k0_pay4 u w := rfl
theorem pay5_eq (u : FVec Ideal S2048x1024 .bf16) (w : FVec Ideal S1024x512 .bf16) : k0_pay5 (F := Ideal) u w = k0_pay4 u w := rfl

/-- A block of 256 columns of weights, at the columns those weights are. -/
theorem dot256 (c : Dev nD) (t : Fin cfg0.N) (w : FVec Ideal S1024x256 .bf16) (o : ℕ) (hw : ∀ (k : Fin 1024) (e : Fin 256), w (ix2 k e) = wts m c k (o + e))
    (x : S2048x256.Idx) (r col : ℕ) (hr : r = (x 0).val) (hcol : o + (x 1).val = col) :
    k0_pay1 (F := Ideal) (iblk m c 0 t) w x = dotAt (acts m c) (wts m c) (2048 * (t.val % 8) + r) col := by
  subst hr hcol
  refine (congrArg (k0_pay1 (F := Ideal) (iblk m c 0 t) w) (eq_ix2 x)).trans ((pay1_apply _ _ (x 0) (x 1)).trans ?_)
  exact Finset.sum_congr rfl fun k _ => congrArg₂ (fun a b : EReal => a * b) (blk0 m c t (x 0) k) (hw k (x 1))

/-- A block of 512. -/
theorem dot512 (c : Dev nD) (t : Fin cfg0.N) (w : FVec Ideal S1024x512 .bf16) (o : ℕ) (hw : ∀ (k : Fin 1024) (e : Fin 512), w (ix2 k e) = wts m c k (o + e))
    (x : S2048x512.Idx) (r col : ℕ) (hr : r = (x 0).val) (hcol : o + (x 1).val = col) :
    k0_pay4 (F := Ideal) (iblk m c 0 t) w x = dotAt (acts m c) (wts m c) (2048 * (t.val % 8) + r) col := by
  subst hr hcol
  refine (congrArg (k0_pay4 (F := Ideal) (iblk m c 0 t) w) (eq_ix2 x)).trans ((pay4_apply _ _ (x 0) (x 1)).trans ?_)
  exact Finset.sum_congr rfl fun k _ => congrArg₂ (fun a b : EReal => a * b) (blk0 m c t (x 0) k) (hw k (x 1))

theorem outA (c : Dev nD) (t : Fin cfg0.N) (h0 : t.val < 32) (h1 : ¬32 ≤ t.val) (r : Fin 2048) (e : Fin 1024) :
    outsAt0 m c t.val t.isLt (ix2 r e) = dotAt (acts m c) (wts m c) (2048 * (t.val % 8) + r) (colOf (1024 * (t.val / 8) + e)) := by
  have he := e.isLt
  have ht := Nat.div_mul_le_self t.val 8
  have hcol : colOf (1024 * (t.val / 8) + e) = if e.val < 256 then 4608 + 256 * (t.val / 8) + e else if e.val < 512 then 5632 + 256 * (t.val / 8) + (e - 256)
      else 6656 + 512 * (t.val / 8) + (e - 512) := by
    rw [colOf, if_pos (by omega), show (1024 * (t.val / 8) + e.val) % 1024 = e.val by omega, show (1024 * (t.val / 8) + e.val) / 1024 = t.val / 8 by omega]
  rw [outsAt0_A m c t h0 h1, hcol]
  frame_out
  canon_tiles x h using View.cover_of_tiledBy _ ![2048, 256] (by sl_kernel_rfl) _
  · have ex : e.val = 512 + (x 1).val := h1
    rw [if_neg (by omega), if_neg (by omega), pay3_eq]
    exact dot512 m c t _ _ (blk3 m c t) x _ _ h0 (by omega)
  · have ex : e.val = 256 + (x 1).val := h1
    rw [if_neg (by omega), if_pos (by omega), pay2_eq]
    exact dot256 m c t _ _ (blk2 m c t) x _ _ h0 (by omega)
  · have ex : e.val = (x 1).val := h1
    rw [if_pos (by omega)]
    exact dot256 m c t _ _ (blk1 m c t) x _ _ h0 (by omega)

theorem outB (c : Dev nD) (t : Fin cfg0.N) (h0 : ¬t.val < 32) (h1 : 32 ≤ t.val) (r : Fin 2048) (e : Fin 1024) :
    outsAt0 m c t.val t.isLt (ix2 r e) = dotAt (acts m c) (wts m c) (2048 * (t.val % 8) + r) (colOf (1024 * (t.val / 8) + e)) := by
  have hcol : colOf (1024 * (t.val / 8) + e) = 8704 + (1024 * (t.val / 8 - 4) + e) := by
    have := e.isLt
    rw [colOf, if_neg (by omega)]; omega
  rw [outsAt0_B m c t h0 h1, hcol]
  frame_out
  canon_tiles x h
  · have ex : e.val = 512 + (x 1).val := h1
    rw [pay5_eq]
    exact dot512 m c t _ _ (blk5 m c t) x _ _ h0 (by omega)
  · have ex : e.val = (x 1).val := h1
    exact dot512 m c t _ _ (blk4 m c t) x _ _ h0 (by omega)

/-- The result: every column of the projection, in the order the retention reads them. -/
def result (c : Dev nD) : Vec Ideal S16384x8192 .bf16 := fun y => dotAt (acts m c) (wts m c) (y 0).val (colOf (y 1).val)

theorem out_eq (c : Dev nD) (t : Fin cfg0.N) (r : Fin 2048) (e : Fin 1024) :
    outsAt0 m c t.val t.isLt (ix2 r e) = dotAt (acts m c) (wts m c) (2048 * (t.val % 8) + r) (colOf (1024 * (t.val / 8) + e)) := by
  by_cases h : t.val < 32
  · exact outA m c t h (by omega) r e
  · exact outB m c t h (by omega) r e

theorem result_arr (c : Dev nD) : (dats m 0 c).arrAt 6 cfg0.N = result m c := by
  refine (dats m 0 c).arrAt_eq_of_covers 6 _ (by decide +kernel) fun t hf y => ?_
  blk_simp [result, idx6 t]
  rw [after0_6]
  refine (congrArg (outsAt0 m c t.val t.isLt) (eq_ix2 y)).trans ?_
  refine (out_eq m c t (y 0) (y 1)).trans ?_
  rw [Nat.mul_comm (t.val % 8) 2048, Nat.mul_comm (t.val / 8) 1024]

theorem run_args (ρ : Dev nD → PrngReg) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_arr m c), (h c).2⟩) (Value.run_blocks (F := Ideal) m ρ)

end Cert.Kernel2Ideal.Prj

end
-- ==== Proof.ProjRef.lean ====
module

public import proofs.«01_k».proof.Proof.Proj
public import proofs.«01_k».proof.Proof.Gen.Reference2Ideal.Run
public import Idealize.ShloMosaic.Lib.Pointwise
public import Idealize.ShloMosaic.Lib.IdealHost
public import Idealize.ShloMosaic.Lib.Pipeline.ValueKit

@[expose] public section

set_option maxRecDepth 16384

noncomputable section

/-! What the reference of the projection computes: the same table of products. -/
namespace Cert.Reference2Ideal.Prj

open Idealize.ShloMosaic Idealize.ShloMosaic.TcCoe Idealize.ShloMosaic.Tactic
open Idealize.SL Idealize.SL.Sem
open Cert.Reference2Ideal Cert.Reference2Ideal.Gen Cert.Retention Cert.Projection

section
variable {F : FTy → Type} [FloatOps F]

/-- The projection. -/
def proj (a0 : Vec F S16384x1024 .bf16) (a1 : Vec F S1x1024x12800 .f32) : FVec F S16384x12800 .f32 :=
  Host.dotGeneral dot_S16384x1024_S1024x12800_S16384x12800_1_0_0_1_n_n none (extf .f32 a0 bitsLt_bf16_f32) (shapeCast _ a1 shapeCasts_S1x1024x12800_S1024x12800)

/-- The queries, the keys and the values of the heads, and each head's together. -/
def rqT (P : FVec F S16384x12800 .f32) : FVec F S16384x4x256 .f32 := shapeCast _ (extractStridedSlice S16384x1024 ![0, 4608] P slices_S16384x12800_S16384x1024_0_4608) shapeCasts_S16384x1024_S16384x4x256
def rkT (P : FVec F S16384x12800 .f32) : FVec F S16384x4x256 .f32 := shapeCast _ (extractStridedSlice S16384x1024 ![0, 5632] P slices_S16384x12800_S16384x1024_0_5632) shapeCasts_S16384x1024_S16384x4x256
def rvT (P : FVec F S16384x12800 .f32) : FVec F S16384x4x512 .f32 := shapeCast _ (extractStridedSlice S16384x2048 ![0, 6656] P slices_S16384x12800_S16384x2048_0_6656) shapeCasts_S16384x2048_S16384x4x512
def headsT (q k : FVec F S16384x4x256 .f32) (v : FVec F S16384x4x512 .f32) : FVec F S16384x4x1024 .f32 :=
  concatenate S16384x4x1024 2 [⟨S16384x4x256, q⟩, ⟨S16384x4x256, k⟩, ⟨S16384x4x512, v⟩] concatenates_S16384x4x256_S16384x4x256_S16384x4x512_S16384x4x1024_d2

/-- The heads, then the columns after them. -/
def restT (H : FVec F S16384x4x1024 .f32) (P : FVec F S16384x12800 .f32) : FVec F S16384x8192 .bf16 :=
  truncf .bf16 (concatenate S16384x8192 1 [⟨S16384x4096, shapeCast _ H shapeCasts_S16384x4x1024_S16384x4096⟩,
    ⟨S16384x4096, extractStridedSlice S16384x4096 ![0, 8704] P slices_S16384x12800_S16384x4096_0_8704⟩] concatenates_S16384x4096_S16384x4096_S16384x8192_d1) bitsLt_bf16_f32

theorem run_rest (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = (fun P => restT (headsT (rqT P) (rkT P) (rvT P)) P) (proj (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end

theorem proj_apply (a0 : Vec Ideal S16384x1024 .bf16) (a1 : Vec Ideal S1x1024x12800 .f32) (r : Fin 16384) (n : Fin 12800) :
    proj a0 a1 (ix2 r n) = ∑ k : Fin 1024, a0 (ix2 r k) * a1 (ix3 (0 : Fin 1) k n) := by
  have h : ∀ k : Fin 1024, shapeCast S1024x12800 a1 shapeCasts_S1x1024x12800_S1024x12800 (ix2 k n) = a1 (ix3 (0 : Fin 1) k n) := fun k => by
    refine shapeCast_apply _ _ _ (ix3 (0 : Fin 1) k n) ?_
    rw [Shape.rowMajor_val_two, Shape.rowMajor_val_three]
    show (0 * 1024 + k.val) * 12800 + n.val = k.val * 12800 + n.val
    omega
  unfold proj
  generalize shapeCast S1024x12800 a1 shapeCasts_S1x1024x12800_S1024x12800 = W at h ⊢
  simp only [← h]
  pointwise

theorem rqT_apply (P : FVec Ideal S16384x12800 .f32) (r : Fin 16384) (h : Fin 4) (d : Fin 256) : rqT P (ix3 r h d) = P (ix2 r (⟨4608 + (256 * h + d), by omega⟩ : Fin 12800)) := by
  refine (shapeCast_apply _ _ _ (ix2 r (⟨256 * h + d, by omega⟩ : Fin 1024)) ?_).trans ?_
  · rw [Shape.rowMajor_val_two, Shape.rowMajor_val_three]
    show r.val * 1024 + (256 * h.val + d.val) = (r.val * 4 + h.val) * 256 + d.val
    omega
  · pointwise

theorem rkT_apply (P : FVec Ideal S16384x12800 .f32) (r : Fin 16384) (h : Fin 4) (d : Fin 256) : rkT P (ix3 r h d) = P (ix2 r (⟨5632 + (256 * h + d), by omega⟩ : Fin 12800)) := by
  refine (shapeCast_apply _ _ _ (ix2 r (⟨256 * h + d, by omega⟩ : Fin 1024)) ?_).trans ?_
  · rw [Shape.rowMajor_val_two, Shape.rowMajor_val_three]
    show r.val * 1024 + (256 * h.val + d.val) = (r.val * 4 + h.val) * 256 + d.val
    omega
  · pointwise

theorem rvT_apply (P : FVec Ideal S16384x12800 .f32) (r : Fin 16384) (h : Fin 4) (d : Fin 512) : rvT P (ix3 r h d) = P (ix2 r (⟨6656 + (512 * h + d), by omega⟩ : Fin 12800)) := by
  refine (shapeCast_apply _ _ _ (ix2 r (⟨512 * h + d, by omega⟩ : Fin 2048)) ?_).trans ?_
  · rw [Shape.rowMajor_val_two, Shape.rowMajor_val_three]
    show r.val * 2048 + (512 * h.val + d.val) = (r.val * 4 + h.val) * 512 + d.val
    omega
  · pointwise

theorem headsT_apply (q k : FVec Ideal S16384x4x256 .f32) (v : FVec Ideal S16384x4x512 .f32) (r : Fin 16384) (h : Fin 4) (o : Fin 1024) :
    headsT q k v (ix3 r h o) = if h1 : o.val < 256 then q (ix3 r h (⟨o, h1⟩ : Fin 256)) else if h2 : o.val < 512 then k (ix3 r h (⟨o - 256, by omega⟩ : Fin 256))
      else v (ix3 r h (⟨o - 512, by omega⟩ : Fin 512)) := by
  pointwise [headsT]
  by_cases h1 : o.val < 256
  · rw [dif_pos h1, dif_pos h1]
  · rw [dif_neg h1, dif_neg h1]
    by_cases h2 : o.val < 512
    · rw [dif_pos (by omega), dif_pos h2]
    · rw [dif_neg (by omega), dif_neg h2]
      exact congrArg v (congrArg (ix3 r h) (Fin.ext (by show o.val - 256 - 256 = o.val - 512; omega)))

theorem restT_apply (H : FVec Ideal S16384x4x1024 .f32) (P : FVec Ideal S16384x12800 .f32) (r : Fin 16384) (n : Fin 8192) :
    restT H P (ix2 r n) = if h : n.val < 4096 then H (ix3 r (⟨n.val / 1024, by omega⟩ : Fin 4) (⟨n.val % 1024, by omega⟩ : Fin 1024))
      else P (ix2 r (⟨8704 + (n - 4096), by omega⟩ : Fin 12800)) := by
  have e : ∀ h : n.val < 4096, shapeCast S16384x4096 H shapeCasts_S16384x4x1024_S16384x4096 (ix2 r (⟨n, h⟩ : Fin 4096))
      = H (ix3 r (⟨n.val / 1024, by omega⟩ : Fin 4) (⟨n.val % 1024, by omega⟩ : Fin 1024)) := fun h => by
    refine shapeCast_apply _ _ _ _ ?_
    rw [Shape.rowMajor_val_two, Shape.rowMajor_val_three]
    show (r.val * 4 + n.val / 1024) * 1024 + n.val % 1024 = r.val * 4096 + n.val
    omega
  unfold restT
  generalize shapeCast S16384x4096 H shapeCasts_S16384x4x1024_S16384x4096 = X at e ⊢
  refine Eq.trans (b := if h : n.val < 4096 then X (ix2 r (⟨n, h⟩ : Fin 4096)) else P (ix2 r (⟨8704 + (n - 4096), by omega⟩ : Fin 12800))) ?_ ?_
  · pointwise
  · by_cases h : n.val < 4096
    · rw [dif_pos h, dif_pos h, e h]
    · rw [dif_neg h, dif_neg h]

theorem rest_apply (P : FVec Ideal S16384x12800 .f32) (r : Fin 16384) (n : Fin 8192) (col : Fin 12800) (hcol : col.val = colOf n) :
    restT (headsT (rqT P) (rkT P) (rvT P)) P (ix2 r n) = P (ix2 r col) := by
  have hn := n.isLt
  rw [restT_apply]
  unfold colOf at hcol
  by_cases h : n.val < 4096
  · rw [dif_pos h, headsT_apply]
    rw [if_pos h] at hcol
    by_cases h1 : n.val % 1024 < 256
    · rw [dif_pos h1, rqT_apply]
      rw [if_pos h1] at hcol
      exact congrArg P (congrArg (ix2 r) (Fin.ext (by rw [hcol]; show 4608 + (256 * (n.val / 1024) + n.val % 1024) = _; omega)))
    · rw [dif_neg h1]
      rw [if_neg h1] at hcol
      by_cases h2 : n.val % 1024 < 512
      · rw [dif_pos h2, rkT_apply]
        rw [if_pos h2] at hcol
        exact congrArg P (congrArg (ix2 r) (Fin.ext (by rw [hcol]; show 5632 + (256 * (n.val / 1024) + (n.val % 1024 - 256)) = _; omega)))
      · rw [dif_neg h2, rvT_apply]
        rw [if_neg h2] at hcol
        exact congrArg P (congrArg (ix2 r) (Fin.ext (by rw [hcol]; show 6656 + (512 * (n.val / 1024) + (n.val % 1024 - 512)) = _; omega)))
  · rw [dif_neg h]
    rw [if_neg h] at hcol
    exact congrArg P (congrArg (ix2 r) (Fin.ext hcol.symm))

theorem colOf_lt {n : ℕ} (h : n < 8192) : colOf n < 12800 := by
  unfold colOf; split_ifs <;> omega

/-- The activations and the weights, as tables. -/
def actsOf (a0 : Vec Ideal S16384x1024 .bf16) : ℕ → ℕ → EReal := tot fun (r : Fin 16384) (k : Fin 1024) => a0 (ix2 r k)
def wtsOf (a1 : Vec Ideal S1x1024x12800 .f32) : ℕ → ℕ → EReal := tot fun (k : Fin 1024) (n : Fin 12800) => a1 (ix3 (0 : Fin 1) k n)

/-- What the reference leaves. -/
def resultOf (a0 : Vec Ideal S16384x1024 .bf16) (a1 : Vec Ideal S1x1024x12800 .f32) : Vec Ideal S16384x8192 .bf16 :=
  fun y => dotAt (actsOf a0) (wtsOf a1) (y 0).val (colOf (y 1).val)

theorem rest_eq (a0 : Vec Ideal S16384x1024 .bf16) (a1 : Vec Ideal S1x1024x12800 .f32) :
    (fun P => restT (headsT (rqT P) (rkT P) (rvT P)) P) (proj a0 a1) = resultOf a0 a1 := by
  refine funext fun y => ?_
  obtain ⟨r, n, rfl⟩ : ∃ (r : Fin 16384) (n : Fin 8192), y = ix2 r n := ⟨y 0, y 1, eq_ix2 y⟩
  refine (rest_apply (proj a0 a1) r n ⟨colOf n, colOf_lt n.isLt⟩ rfl).trans ((proj_apply a0 a1 r _).trans ?_)
  show _ = ∑ k : Fin 1024, actsOf a0 r k * wtsOf a1 k (colOf n)
  refine Finset.sum_congr rfl fun k _ => congrArg₂ (fun a b : EReal => a * b) ?_ ?_
  · rw [actsOf, tot_of _ r.isLt k.isLt]
  · rw [wtsOf, tot_of _ k.isLt (colOf_lt n.isLt)]

theorem ref_args (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (rest_eq _ _), (h c).2⟩) (run_rest (F := Ideal) m ρ)

end Cert.Reference2Ideal.Prj

end
-- ==== Proof.AttA.lean ====
module

public import proofs.«01_k».proof.Proof.Gen.Kernel3Ideal.Frame
public import proofs.«01_k».proof.Proof.Gen.Kernel3Ideal.Loops

@[expose] public section

set_option maxRecDepth 65536

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

set_option maxHeartbeats 40000000 in
/-- The body at the first point of a row block. -/
noncomputable def runA (c : Dev nD) (i : grid0.Coords) (arg2 : Memref sig .tc .vmem S1024x1024 .f32) (harg2 : arg2.IsWhole) (arg3 : Memref sig .tc .vmem S1x6x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1024 .bf16) (harg8 : arg8.IsWhole) (arg9 : Memref sig .tc .vmem S8x1024x128 .f32) (harg9 : arg9.IsWhole) (arg10 : Memref sig .tc .vmem S3x1024x1024 .bf16) (harg10 : arg10.IsWhole)
    (h1 : k0_cond1 i = 1#1)
    (x2 : Vec F S1024x1024 .f32) (x3 : Vec F S1x6x1024 .f32) (x4 : Vec F S1024x512 .bf16) (x5 : Vec F S1024x512 .bf16) (x6 : Vec F S1024x512 .bf16) (f9 : arg9.view.ty.Contents (Elt F)) (f10 : arg10.view.ty.Contents (Elt F)) :
    Σ' (L7 : List (View.Piece (Elt F) S1024x1536 .bf16)) (L8 : List (View.Piece (Elt F) S1024x1024 .bf16)) (L9 : List (View.Piece (Elt F) S8x1024x128 .f32)), { L10 : List (View.Piece (Elt F) S3x1024x1024 .bf16) //
      ∀ (f7 : arg7.view.ty.Contents (Elt F)) (f8 : arg8.view.ty.Contents (Elt F)) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} arg7.view.writes (Elt F) f7 []) ∗ (arg8.view.loc (c : Thread nD τ) ↦[arg8.view.set]{fullShare} arg8.view.writes (Elt F) f8 []) ∗ (arg9.view.loc (c : Thread nD τ) ↦[arg9.view.set]{fullShare} arg9.view.writes (Elt F) f9 []) ∗ (arg10.view.loc (c : Thread nD τ) ↦[arg10.view.set]{fullShare} arg10.view.writes (Elt F) f10 [])
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} arg7.view.writes (Elt F) f7 L7) ∗ (arg8.view.loc (c : Thread nD τ) ↦[arg8.view.set]{fullShare} arg8.view.writes (Elt F) f8 L8) ∗ (arg9.view.loc (c : Thread nD τ) ↦[arg9.view.set]{fullShare} arg9.view.writes (Elt F) f9 L9) ∗ (arg10.view.loc (c : Thread nD τ) ↦[arg10.view.set]{fullShare} arg10.view.writes (Elt F) f10 L10)) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10) K } := by
  refine ⟨?_, ?_, ?_, ?_, fun f7 f8 E K => ?run⟩
  case run =>
    simp only [cc0_inproj_attn_eq_skeleton]; unfold cc0_inproj_attn_skel
    simp only [k0_part71_eq_skeleton]; unfold k0_part71_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%fH2, %hH2, H2⟩, ⟨%fH3, %hH3, H3⟩, ⟨%fH4, %hH4, H4⟩, ⟨%fH5, %hH5, H5⟩, ⟨%fH6, %hH6, H6⟩, H7, H8, H9, H10, Hk⟩
    obtain rfl := harg2.eq_unread hH2; obtain rfl := harg3.eq_unread hH3; obtain rfl := harg4.eq_unread hH4; obtain rfl := harg5.eq_unread hH5; obtain rfl := harg6.eq_unread hH6
    simp only [View.writes_nil]
    sl_exec (disch := first | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexact H7
    isplitl [H8]
    · iexact H8
    isplitl [H9]
    · iexact H9
    iexact H10

end Cert.Kernel3Ideal.Att

end
-- ==== Proof.AttB.lean ====
module

public import proofs.«01_k».proof.Proof.Gen.Kernel3Ideal.Frame
public import proofs.«01_k».proof.Proof.Gen.Kernel3Ideal.Loops

@[expose] public section

set_option maxRecDepth 65536

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

set_option maxHeartbeats 4000000 in
/-- The body at the other points of a row block. -/
noncomputable def runB (c : Dev nD) (i : grid0.Coords) (arg2 : Memref sig .tc .vmem S1024x1024 .f32) (harg2 : arg2.IsWhole) (arg3 : Memref sig .tc .vmem S1x6x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1024 .bf16) (harg8 : arg8.IsWhole) (arg9 : Memref sig .tc .vmem S8x1024x128 .f32) (harg9 : arg9.IsWhole) (arg10 : Memref sig .tc .vmem S3x1024x1024 .bf16) (harg10 : arg10.IsWhole)
    (h1 : ¬ k0_cond1 i = 1#1)
    (x2 : Vec F S1024x1024 .f32) (x3 : Vec F S1x6x1024 .f32) (x4 : Vec F S1024x512 .bf16) (x5 : Vec F S1024x512 .bf16) (x6 : Vec F S1024x512 .bf16) (x10 : Vec F S3x1024x1024 .bf16) :
    { L7 : List (View.Piece (Elt F) S1024x1536 .bf16) //
      ∀ (x8 : Vec F S1024x1024 .bf16) (x9 : Vec F S8x1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ owns (c : Thread nD τ) arg9 fullShare x9 ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ owns (c : Thread nD τ) arg8 fullShare x8 ∗ owns (c : Thread nD τ) arg9 fullShare x9 ∗ owns (c : Thread nD τ) arg10 fullShare x10) -∗ K ⟨⟩))
          ⊢ wp frame (wpE (defs₀ (F := F)) Variants.none c none) E (cc0_inproj_attn i arg2 harg2 arg3 harg3 arg4 harg4 arg5 harg5 arg6 harg6 arg7 harg7 arg8 harg8 arg9 harg9 arg10 harg10) K } := by
  refine ⟨?_, fun x8 x9 E K => ?run⟩
  case run =>
    simp only [cc0_inproj_attn_eq_skeleton]; unfold cc0_inproj_attn_skel
    unfold owns
    iintro ⟨⟨%fH2, %hH2, H2⟩, ⟨%fH3, %hH3, H3⟩, ⟨%fH4, %hH4, H4⟩, ⟨%fH5, %hH5, H5⟩, ⟨%fH6, %hH6, H6⟩, ⟨%d7, %f7, -, H7⟩, ⟨%fH8, %hH8, H8⟩, ⟨%fH9, %hH9, H9⟩, ⟨%fH10, %hH10, H10⟩, Hk⟩
    obtain rfl := harg2.eq_unread hH2; obtain rfl := harg3.eq_unread hH3; obtain rfl := harg4.eq_unread hH4; obtain rfl := harg5.eq_unread hH5; obtain rfl := harg6.eq_unread hH6; obtain rfl := harg8.eq_unread hH8; obtain rfl := harg9.eq_unread hH9; obtain rfl := harg10.eq_unread hH10
    sl_exec (disch := first | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10

end Cert.Kernel3Ideal.Att

end
-- ==== Proof.AttFrame.lean ====
module

public import proofs.«01_k».proof.Proof.AttA
public import proofs.«01_k».proof.Proof.AttB
public import Idealize.ShloMosaic.Lib.Claim

@[expose] public section

set_option maxRecDepth 65536

noncomputable section

namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-! ## The grid points by their place within a row block -/

theorem first_iff : ∀ t : Fin grid0.N, k0_cond1 (grid0.coords t) = 1#1 ↔ t.val % 3 = 0 := by decide +kernel

/-! ## The buffers -/

/-- Window 0's staging buffer at point `t`. -/
abbrev stg0 (t : Fin cfg0.N) : Memref sig .tc .vmem S1024x1024 .f32 := win0_0.stage (cfg0.slots t 0)
/-- It is a whole buffer. -/
abbrev stgW0 (t : Fin cfg0.N) : (stg0 t).IsWhole := hstage0_0 ((cfg0.slots t 0).cast nbuf0_0)
/-- Window 1's staging buffer at point `t`. -/
abbrev stg1 (t : Fin cfg0.N) : Memref sig .tc .vmem S1x6x1024 .f32 := win0_1.stage (cfg0.slots t 1)
/-- It is a whole buffer. -/
abbrev stgW1 (t : Fin cfg0.N) : (stg1 t).IsWhole := hstage0_1 ((cfg0.slots t 1).cast nbuf0_1)
/-- Window 2's staging buffer at point `t`. -/
abbrev stg2 (t : Fin cfg0.N) : Memref sig .tc .vmem S1024x512 .bf16 := win0_2.stage (cfg0.slots t 2)
/-- It is a whole buffer. -/
abbrev stgW2 (t : Fin cfg0.N) : (stg2 t).IsWhole := hstage0_2 ((cfg0.slots t 2).cast nbuf0_2)
/-- Window 3's staging buffer at point `t`. -/
abbrev stg3 (t : Fin cfg0.N) : Memref sig .tc .vmem S1024x512 .bf16 := win0_3.stage (cfg0.slots t 3)
/-- It is a whole buffer. -/
abbrev stgW3 (t : Fin cfg0.N) : (stg3 t).IsWhole := hstage0_3 ((cfg0.slots t 3).cast nbuf0_3)
/-- Window 4's staging buffer at point `t`. -/
abbrev stg4 (t : Fin cfg0.N) : Memref sig .tc .vmem S1024x512 .bf16 := win0_4.stage (cfg0.slots t 4)
/-- It is a whole buffer. -/
abbrev stgW4 (t : Fin cfg0.N) : (stg4 t).IsWhole := hstage0_4 ((cfg0.slots t 4).cast nbuf0_4)
/-- Window 5's staging buffer at point `t`. -/
abbrev stg5 (t : Fin cfg0.N) : Memref sig .tc .vmem S1024x1536 .bf16 := win0_5.stage (cfg0.slots t 5)
/-- It is a whole buffer. -/
abbrev stgW5 (t : Fin cfg0.N) : (stg5 t).IsWhole := hstage0_5 ((cfg0.slots t 5).cast nbuf0_5)
/-- Window 6's staging buffer at point `t`. -/
abbrev stg6 (t : Fin cfg0.N) : Memref sig .tc .vmem S1024x1024 .bf16 := win0_6.stage (cfg0.slots t 6)
/-- It is a whole buffer. -/
abbrev stgW6 (t : Fin cfg0.N) : (stg6 t).IsWhole := hstage0_6 ((cfg0.slots t 6).cast nbuf0_6)
/-- Scratch buffer 0. -/
abbrev scr0 : Memref sig .tc .vmem S8x1024x128 .f32 := Memref.whole cc0_scratch0
/-- It is a whole buffer. -/
abbrev scrW0 : (scr0).IsWhole := Memref.isWhole_whole _
/-- Scratch buffer 1. -/
abbrev scr1 : Memref sig .tc .vmem S3x1024x1024 .bf16 := Memref.whole cc0_scratch1
/-- It is a whole buffer. -/
abbrev scrW1 : (scr1).IsWhole := Memref.isWhole_whole _

/-- What the launch hands the body between points: the scratch buffers at some contents, the generator register at some state. -/
theorem between_eq (c : Dev nD) :
    (Pipeline.ΦA spec0 c : sProp 𝕄) = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem defs₀_row (t : Fin cfg0.N) :
    defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- The windows of which the frame says nothing: the outputs. -/
def silent : Fin 7 → Bool := fun w => 5 ≤ w.val

/-- What the frame says of each buffer: an input's keeps its block, of the outputs and the scratch buffers nothing is said. -/
def frameDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem frameDats_A (c : Dev nD) (w : Fin cfg0.W) : (frameDats m 0 c).A w = V m c (Pipeline.arrRef spec0 w) := by
  dsimp only [frameDats]
theorem frameDats_before0 (c : Dev nD) (t : Fin cfg0.N) (d) : (frameDats m 0 c).before 0 t d = iblk m c 0 t :=
  before0_0_of m (frameDats m 0 c) (frameDats_A m c 0) (fun t => by dsimp only [frameDats]) t d
theorem frameDats_leaves0 (c : Dev nD) (t : Fin cfg0.N) :
    (frameDats m 0 c).leavesExact 0 t = owns (c : Thread nD τ) (stg0 t) fullShare (iblk m c 0 t) := by
  unfold Dat.leavesExact; rw [show cfg0.idle 0 (grid0.coords t) = false from rfl]; rfl
theorem frameDats_before1 (c : Dev nD) (t : Fin cfg0.N) (d) : (frameDats m 0 c).before 1 t d = iblk m c 1 t :=
  before0_1_of m (frameDats m 0 c) (frameDats_A m c 1) (fun t => by dsimp only [frameDats]) t d
theorem frameDats_leaves1 (c : Dev nD) (t : Fin cfg0.N) :
    (frameDats m 0 c).leavesExact 1 t = owns (c : Thread nD τ) (stg1 t) fullShare (iblk m c 1 t) := by
  unfold Dat.leavesExact; rw [show cfg0.idle 1 (grid0.coords t) = false from rfl]; rfl
theorem frameDats_before2 (c : Dev nD) (t : Fin cfg0.N) (d) : (frameDats m 0 c).before 2 t d = iblk m c 2 t :=
  before0_2_of m (frameDats m 0 c) (frameDats_A m c 2) (fun t => by dsimp only [frameDats]) t d
theorem frameDats_leaves2 (c : Dev nD) (t : Fin cfg0.N) :
    (frameDats m 0 c).leavesExact 2 t = owns (c : Thread nD τ) (stg2 t) fullShare (iblk m c 2 t) := by
  unfold Dat.leavesExact; rw [show cfg0.idle 2 (grid0.coords t) = false from rfl]; rfl
theorem frameDats_before3 (c : Dev nD) (t : Fin cfg0.N) (d) : (frameDats m 0 c).before 3 t d = iblk m c 3 t :=
  before0_3_of m (frameDats m 0 c) (frameDats_A m c 3) (fun t => by dsimp only [frameDats]) t d
theorem frameDats_leaves3 (c : Dev nD) (t : Fin cfg0.N) :
    (frameDats m 0 c).leavesExact 3 t = owns (c : Thread nD τ) (stg3 t) fullShare (iblk m c 3 t) := by
  unfold Dat.leavesExact; rw [show cfg0.idle 3 (grid0.coords t) = false from rfl]; rfl
theorem frameDats_before4 (c : Dev nD) (t : Fin cfg0.N) (d) : (frameDats m 0 c).before 4 t d = iblk m c 4 t :=
  before0_4_of m (frameDats m 0 c) (frameDats_A m c 4) (fun t => by dsimp only [frameDats]) t d
theorem frameDats_leaves4 (c : Dev nD) (t : Fin cfg0.N) :
    (frameDats m 0 c).leavesExact 4 t = owns (c : Thread nD τ) (stg4 t) fullShare (iblk m c 4 t) := by
  unfold Dat.leavesExact; rw [show cfg0.idle 4 (grid0.coords t) = false from rfl]; rfl

/-- What the body takes at point `t`. -/
def framePre (c : Dev nD) (t : Fin cfg0.N) : sProp 𝕄 :=
  iprop((frameDats m 0 c).Φ t.castSucc ∗ (frameDats m 0 c).owesAt () t.castSucc
    ∗ (∃ d, owns (c : Thread nD τ) (stg0 t) fullShare ((frameDats m 0 c).before 0 t d))
    ∗ (∃ d, owns (c : Thread nD τ) (stg1 t) fullShare ((frameDats m 0 c).before 1 t d))
    ∗ (∃ d, owns (c : Thread nD τ) (stg2 t) fullShare ((frameDats m 0 c).before 2 t d))
    ∗ (∃ d, owns (c : Thread nD τ) (stg3 t) fullShare ((frameDats m 0 c).before 3 t d))
    ∗ (∃ d, owns (c : Thread nD τ) (stg4 t) fullShare ((frameDats m 0 c).before 4 t d))
    ∗ (∃ d, owns (c : Thread nD τ) (stg5 t) fullShare d)
    ∗ (∃ d, owns (c : Thread nD τ) (stg6 t) fullShare d))

/-- What the body gives back at point `t`. -/
def framePost (c : Dev nD) (t : Fin cfg0.N) : sProp 𝕄 :=
  iprop((frameDats m 0 c).Φ t.succ ∗ (frameDats m 0 c).owesAt () t.succ
    ∗ (frameDats m 0 c).leavesExact 0 t
    ∗ (frameDats m 0 c).leavesExact 1 t
    ∗ (frameDats m 0 c).leavesExact 2 t
    ∗ (frameDats m 0 c).leavesExact 3 t
    ∗ (frameDats m 0 c).leavesExact 4 t
    ∗ (∃ d, owns (c : Thread nD τ) (stg5 t) fullShare d)
    ∗ (∃ d, owns (c : Thread nD τ) (stg6 t) fullShare d))

set_option maxHeartbeats 4000000 in
/-- The body at any point keeps what the frame says: one run for the first point of a row block, one for the others. -/
theorem frame_body (c : Dev nD) (t : Fin cfg0.N) :
    framePre m c t ⊢ wp frame (wpE (defs₀ (F := F)) Variants.none c none) Set.univ (bodyAt0 t) (fun _ => framePost m c t) := by
  unfold framePre framePost bodyAt0
  simp only [frameDats_before0, frameDats_before1, frameDats_before2, frameDats_before3, frameDats_before4, frameDats_leaves0, frameDats_leaves1, frameDats_leaves2, frameDats_leaves3, frameDats_leaves4]
  rw [show (frameDats m 0 c).owesAt () t.succ = (frameDats m 0 c).owesAt () t.castSucc from rfl]
  rw [show (frameDats m 0 c).Φ t.castSucc = Pipeline.ΦA spec0 c from rfl, show (frameDats m 0 c).Φ t.succ = Pipeline.ΦA spec0 c from rfl, between_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  by_cases hq : t.val % 3 = 0
  · unfold owns
    icases HS0 with ⟨%g0, -, HS0⟩
    icases HS1 with ⟨%g1, -, HS1⟩
    icases H5 with ⟨%g5, -, H5⟩
    icases H6 with ⟨%g6, -, H6⟩
    iapply ((runA c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) (iblk m c 2 t) (iblk m c 3 t) (iblk m c 4 t) g0 g1).2.2.2.2 g5 g6 Set.univ _)
    simp only [View.writes_nil]
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _, _; isplitr; swap; iexact HS0; ipureintro; rfl
        iexists _, _; isplitr; swap; iexact HS1; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _, _; isplitr; swap; iexact H5; ipureintro; rfl
    iexists _, _; isplitr; swap; iexact H6; ipureintro; rfl
  · iapply ((runB c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 (fun h => hq ((first_iff t).mp h)) (iblk m c 0 t) (iblk m c 1 t) (iblk m c 2 t) (iblk m c 3 t) (iblk m c 4 t) s1).2 d6 s0 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e, H5⟩, H6, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _, _; isplitr; swap; iexact H5; ipureintro; rfl
    iexists _; iexact H6

theorem frame_obligation (c : Dev nD) : BodyObligation (frameDats (F := F) m 0 c) (defs₀ (F := F)) Variants.none () Set.univ silent := fun t => by
  rw [bigSep_W0, bigSep_W0, defs₀_row]
  exact triple_restated (frame_body m c t) rfl .rfl fun _ => .rfl

set_option backward.isDefEq.respectTransparency.types false in
/-- Every run ends, the inputs unchanged and every counter at zero; nothing is said of the outputs. -/
theorem frame_run : θ_run defs (onTc (τ := τ) (main (F := F))) (s₀ m ρ) (fun r => (Pipeline.RDat.FramePost (cfgs 0) (fun c => (frameDats m 0 c).toRForget silent) (V m)) r ∧ r.2.sem = fun _ => 0) :=
  Pipeline.θ_run_frame_track_forget_shared (Q' := _) cfgs (frameDats m) (0 : Fin 1) launch₀0 defs₀ Variants.none silent m ρ main
    (hbody := fun c => (frame_obligation m c).loose) (hq := fun _ _ _ => rfl)
    (howed := fun _ _ => rfl) (V := V m) (hmain := hmain m Variants.none) (hA := frameDats_A m) (hin := fun _ => .rfl) (hout := fun _ => .rfl)

/-- The frame: the arguments end unchanged, every counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((Dat.toRForget_arrAt_iff (frameDats m 0 c) (fgt := silent) (w := (1 : Fin cfg0.W)) rfl _ _).mp ((h.1 c).1 1)).trans (((frameDats m 0 c).arrAt_in 1 rfl _).trans ((frameDats_A m c 1).trans (V_main_arg1 m c))),
      ((h.1 c).2 main_arg2 (Pipeline.mem_restRefs_of main_arg2 (by decide) (by decide))).trans (V_main_arg2 m c)⟩, h.2⟩) (frame_run m ρ)

end Cert.Kernel3Ideal.Att

end
-- ==== Proof.AttCopy.lean ====
module

public import proofs.«01_k».proof.Proof.AttA
public import proofs.«01_k».proof.Proof.Spec
public import Idealize.ShloMosaic.Lib.Pointwise
public import Idealize.ShloMosaic.Lib.IdealHost
public import Idealize.ShloMosaic.Lib.Pipeline.ValueKit

@[expose] public section

set_option maxRecDepth 65536

noncomputable section

/-! The strided copies: the rows of a tile of 512 by their residue of the dilation. -/
namespace Cert.Kernel3Ideal.Att

open Idealize.ShloMosaic Idealize.ShloMosaic.TcCoe Idealize.ShloMosaic.Tactic
open Cert.Kernel3Ideal Cert.Kernel3Ideal.Gen

/-- The row of a block that comes at row `r` of group `g`. -/
def perm (g r : ℕ) : ℕ :=
  if g = 0 then r else if g = 1 then 512 * (r / 512) + r % 512 / 128 + 4 * (r % 128) else 512 * (r / 512) + r % 512 / 32 + 16 * (r % 32)

section
variable (v : View sig .tc .vmem S8x1024x128 .f32) (W : v.ty.Contents (Elt Ideal))

theorem src4 (j : ℕ) (a : Fin 3) : (![1, 128, 128] : Fin 3 → ℕ) a = 0 ∨ (![j % 8, 512 * (j / 32 % 2) + j / 8 % 4, 0] : Fin 3 → ℕ) a + (![1, 4, 1] : Fin 3 → ℕ) a * ((![1, 128, 128] : Fin 3 → ℕ) a - 1) < S8x1024x128.size a := by
  right
  fin_cases a
  · show j % 8 + 1 * (1 - 1) < 8; omega
  · show 512 * (j / 32 % 2) + j / 8 % 4 + 4 * (128 - 1) < 1024; omega
  · show 0 + 1 * (128 - 1) < 128; omega
theorem dst4 (j : ℕ) (a : Fin 3) : (![1, 128 * (j / 8 % 8), 128 * (j % 8)] : Fin 3 → ℕ) a + (![1, 128, 128] : Fin 3 → ℕ) a ≤ S3x1024x1024.size a := by
  fin_cases a
  · show 1 + 1 ≤ 3; omega
  · show 128 * (j / 8 % 8) + 128 ≤ 1024; omega
  · show 128 * (j % 8) + 128 ≤ 1024; omega
theorem src16 (j : ℕ) (a : Fin 3) : (![1, 32, 128] : Fin 3 → ℕ) a = 0 ∨ (![j % 8, 512 * (j / 128 % 2) + j / 8 % 16, 0] : Fin 3 → ℕ) a + (![1, 16, 1] : Fin 3 → ℕ) a * ((![1, 32, 128] : Fin 3 → ℕ) a - 1) < S8x1024x128.size a := by
  right
  fin_cases a
  · show j % 8 + 1 * (1 - 1) < 8; omega
  · show 512 * (j / 128 % 2) + j / 8 % 16 + 16 * (32 - 1) < 1024; omega
  · show 0 + 1 * (128 - 1) < 128; omega
theorem dst16 (j : ℕ) (a : Fin 3) : (![2, 32 * (j / 8 % 32), 128 * (j % 8)] : Fin 3 → ℕ) a + (![1, 32, 128] : Fin 3 → ℕ) a ≤ S3x1024x1024.size a := by
  fin_cases a
  · show 2 + 1 ≤ 3; omega
  · show 32 * (j / 8 % 32) + 32 ≤ 1024; omega
  · show 128 * (j % 8) + 128 ≤ 1024; omega

/-- The `j`th copy at dilation 4. -/
def copy4 (j : ℕ) : View.Piece (Elt Ideal) S3x1024x1024 .bf16 :=
  ⟨Rect.unit ![1, 128 * (j / 8 % 8), 128 * (j % 8)] ![1, 128, 128] (dst4 j),
    k0_pay22 (F := Ideal) (v.readAt (Elt Ideal) ⟨![j % 8, 512 * (j / 32 % 2) + j / 8 % 4, 0], ![1, 128, 128], ![1, 4, 1], src4 j⟩ W)⟩
/-- The `j`th copy at dilation 16. -/
def copy16 (j : ℕ) : View.Piece (Elt Ideal) S3x1024x1024 .bf16 :=
  ⟨Rect.unit ![2, 32 * (j / 8 % 32), 128 * (j % 8)] ![1, 32, 128] (dst16 j),
    k0_pay1 (F := Ideal) (v.readAt (Elt Ideal) ⟨![j % 8, 512 * (j / 128 % 2) + j / 8 % 16, 0], ![1, 32, 128], ![1, 16, 1], src16 j⟩ W)⟩
/-- The copies before the `n`th, the last first. -/
def copies4 : ℕ → List (View.Piece (Elt Ideal) S3x1024x1024 .bf16)
  | 0 => []
  | n + 1 => copy4 v W n :: copies4 n
def copies16 : ℕ → List (View.Piece (Elt Ideal) S3x1024x1024 .bf16)
  | 0 => []
  | n + 1 => copy16 v W n :: copies16 n

theorem mem_copies4 (p) : ∀ n, p ∈ copies4 v W n ↔ ∃ j < n, p = copy4 v W j
  | 0 => by simp [copies4]
  | n + 1 => by
    rw [copies4, List.mem_cons, mem_copies4 p n]
    constructor
    · rintro (h | ⟨j, hj, h⟩)
      · exact ⟨n, by omega, h⟩
      · exact ⟨j, by omega, h⟩
    · rintro ⟨j, hj, h⟩
      rcases Nat.lt_succ_iff_lt_or_eq.mp hj with h' | h'
      · exact Or.inr ⟨j, h', h⟩
      · exact Or.inl (h' ▸ h)
theorem mem_copies16 (p) : ∀ n, p ∈ copies16 v W n ↔ ∃ j < n, p = copy16 v W j
  | 0 => by simp [copies16]
  | n + 1 => by
    rw [copies16, List.mem_cons, mem_copies16 p n]
    constructor
    · rintro (h | ⟨j, hj, h⟩)
      · exact ⟨n, by omega, h⟩
      · exact ⟨j, by omega, h⟩
    · rintro ⟨j, hj, h⟩
      rcases Nat.lt_succ_iff_lt_or_eq.mp hj with h' | h'
      · exact Or.inr ⟨j, h', h⟩
      · exact Or.inl (h' ▸ h)

theorem pay22_apply (x : Vec Ideal S1x128x128 .f32) (a b : Fin 128) : k0_pay22 (F := Ideal) x (ix3 (0 : Fin 1) a b) = x (ix3 (0 : Fin 1) a b) := by
  simp only [k0_pay22]; pointwise
theorem pay1_apply (x : Vec Ideal S1x32x128 .f32) (a : Fin 32) (b : Fin 128) : k0_pay1 (F := Ideal) x (ix3 (0 : Fin 1) a b) = x (ix3 (0 : Fin 1) a b) := by
  simp only [k0_pay1]; pointwise

/-- The rows of a block in a group's order. -/
def rowsIn (U : ℕ → ℕ → EReal) (y : S3x1024x1024.Idx) : EReal := U (perm (y 0).val (y 1).val) (y 2).val

variable {U : ℕ → ℕ → EReal} (hW : ∀ y : S8x1024x128.Idx, v.read (Elt Ideal) W y = U (y 1).val (128 * (y 0).val + (y 2).val))
include hW

theorem copy4_agrees (j : ℕ) (x : S1x128x128.Idx) : (copy4 v W j).2 x = rowsIn U ((copy4 v W j).1.emb x) := by
  obtain ⟨z, a, b, rfl⟩ : ∃ (z : Fin 1) (a : Fin 128) (b : Fin 128), x = ix3 z a b := ⟨x 0, x 1, x 2, by funext i; fin_cases i <;> rfl⟩
  obtain rfl : z = 0 := by omega
  have ha := a.isLt
  have e0 : (((copy4 v W j).1.emb (ix3 (0 : Fin 1) a b : S1x128x128.Idx)) 0).val = 1 + 1 * 0 := rfl
  have e1 : (((copy4 v W j).1.emb (ix3 (0 : Fin 1) a b : S1x128x128.Idx)) 1).val = 128 * (j / 8 % 8) + 1 * a.val := rfl
  have e2 : (((copy4 v W j).1.emb (ix3 (0 : Fin 1) a b : S1x128x128.Idx)) 2).val = 128 * (j % 8) + 1 * b.val := rfl
  unfold rowsIn
  rw [e0, e1, e2]
  have h : (copy4 v W j).2 (ix3 (0 : Fin 1) a b : S1x128x128.Idx) = v.readAt (Elt Ideal) ⟨![j % 8, 512 * (j / 32 % 2) + j / 8 % 4, 0], ![1, 128, 128], ![1, 4, 1], src4 j⟩ W (ix3 (0 : Fin 1) a b : S1x128x128.Idx) :=
    pay22_apply (v.readAt (Elt Ideal) ⟨![j % 8, 512 * (j / 32 % 2) + j / 8 % 4, 0], ![1, 128, 128], ![1, 4, 1], src4 j⟩ W) a b
  rw [h, View.readAt_apply, hW]
  have f0 : (((⟨![j % 8, 512 * (j / 32 % 2) + j / 8 % 4, 0], ![1, 128, 128], ![1, 4, 1], src4 j⟩ : LoadRect S8x1024x128).idx (ix3 (0 : Fin 1) a b : S1x128x128.Idx)) 0).val = j % 8 + 1 * 0 := rfl
  have f1 : (((⟨![j % 8, 512 * (j / 32 % 2) + j / 8 % 4, 0], ![1, 128, 128], ![1, 4, 1], src4 j⟩ : LoadRect S8x1024x128).idx (ix3 (0 : Fin 1) a b : S1x128x128.Idx)) 1).val = 512 * (j / 32 % 2) + j / 8 % 4 + 4 * a.val := rfl
  have f2 : (((⟨![j % 8, 512 * (j / 32 % 2) + j / 8 % 4, 0], ![1, 128, 128], ![1, 4, 1], src4 j⟩ : LoadRect S8x1024x128).idx (ix3 (0 : Fin 1) a b : S1x128x128.Idx)) 2).val = 0 + 1 * b.val := rfl
  rw [f0, f1, f2]
  have hp : perm (1 + 1 * 0) (128 * (j / 8 % 8) + 1 * a.val) = 512 * (j / 32 % 2) + j / 8 % 4 + 4 * a.val := by
    unfold perm; simp only [Nat.mul_zero, Nat.add_zero, Nat.one_mul, reduceIte, OfNat.ofNat_ne_zero, OfNat.ofNat_ne_one, one_ne_zero]; omega
  rw [hp]
  congr 1; omega

theorem copy16_agrees (j : ℕ) (x : S1x32x128.Idx) : (copy16 v W j).2 x = rowsIn U ((copy16 v W j).1.emb x) := by
  obtain ⟨z, a, b, rfl⟩ : ∃ (z : Fin 1) (a : Fin 32) (b : Fin 128), x = ix3 z a b := ⟨x 0, x 1, x 2, by funext i; fin_cases i <;> rfl⟩
  obtain rfl : z = 0 := by omega
  have ha := a.isLt
  have e0 : (((copy16 v W j).1.emb (ix3 (0 : Fin 1) a b : S1x32x128.Idx)) 0).val = 2 + 1 * 0 := rfl
  have e1 : (((copy16 v W j).1.emb (ix3 (0 : Fin 1) a b : S1x32x128.Idx)) 1).val = 32 * (j / 8 % 32) + 1 * a.val := rfl
  have e2 : (((copy16 v W j).1.emb (ix3 (0 : Fin 1) a b : S1x32x128.Idx)) 2).val = 128 * (j % 8) + 1 * b.val := rfl
  unfold rowsIn
  rw [e0, e1, e2]
  have h : (copy16 v W j).2 (ix3 (0 : Fin 1) a b : S1x32x128.Idx) = v.readAt (Elt Ideal) ⟨![j % 8, 512 * (j / 128 % 2) + j / 8 % 16, 0], ![1, 32, 128], ![1, 16, 1], src16 j⟩ W (ix3 (0 : Fin 1) a b : S1x32x128.Idx) :=
    pay1_apply (v.readAt (Elt Ideal) ⟨![j % 8, 512 * (j / 128 % 2) + j / 8 % 16, 0], ![1, 32, 128], ![1, 16, 1], src16 j⟩ W) a b
  rw [h, View.readAt_apply, hW]
  have f0 : (((⟨![j % 8, 512 * (j / 128 % 2) + j / 8 % 16, 0], ![1, 32, 128], ![1, 16, 1], src16 j⟩ : LoadRect S8x1024x128).idx (ix3 (0 : Fin 1) a b : S1x32x128.Idx)) 0).val = j % 8 + 1 * 0 := rfl
  have f1 : (((⟨![j % 8, 512 * (j / 128 % 2) + j / 8 % 16, 0], ![1, 32, 128], ![1, 16, 1], src16 j⟩ : LoadRect S8x1024x128).idx (ix3 (0 : Fin 1) a b : S1x32x128.Idx)) 1).val = 512 * (j / 128 % 2) + j / 8 % 16 + 16 * a.val := rfl
  have f2 : (((⟨![j % 8, 512 * (j / 128 % 2) + j / 8 % 16, 0], ![1, 32, 128], ![1, 16, 1], src16 j⟩ : LoadRect S8x1024x128).idx (ix3 (0 : Fin 1) a b : S1x32x128.Idx)) 2).val = 0 + 1 * b.val := rfl
  rw [f0, f1, f2]
  have hp : perm (2 + 1 * 0) (32 * (j / 8 % 32) + 1 * a.val) = 512 * (j / 128 % 2) + j / 8 % 16 + 16 * a.val := by
    unfold perm; simp only [Nat.mul_zero, Nat.add_zero, Nat.one_mul, reduceIte, OfNat.ofNat_ne_zero, OfNat.ofNat_ne_one, one_ne_zero]; omega
  rw [hp]
  congr 1; omega

end

section
variable (c : Dev nD) (i : grid0.Coords) (arg2 : Memref sig .tc .vmem S1024x1024 .f32) (harg2 : arg2.IsWhole) (arg3 : Memref sig .tc .vmem S1x6x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1024 .bf16) (harg8 : arg8.IsWhole) (arg9 : Memref sig .tc .vmem S8x1024x128 .f32) (harg9 : arg9.IsWhole) (arg10 : Memref sig .tc .vmem S3x1024x1024 .bf16) (harg10 : arg10.IsWhole) (h1 : k0_cond1 i = 1#1)
  (x2 : Vec Ideal S1024x1024 .f32) (x3 : Vec Ideal S1x6x1024 .f32) (x4 : Vec Ideal S1024x512 .bf16) (x5 : Vec Ideal S1024x512 .bf16) (x6 : Vec Ideal S1024x512 .bf16) (f9 : arg9.view.ty.Contents (Elt Ideal)) (f10 : arg10.view.ty.Contents (Elt Ideal))

/-- The scale and the shift as the body reads them. -/
abbrev scaleRow (arg3 : Memref sig .tc .vmem S1x6x1024 .f32) (harg3 : arg3.IsWhole) (x3 : Vec Ideal S1x6x1024 .f32) : Vec Ideal S1x1x1024 .f32 := View.readAt (Elt Ideal) arg3.view (Rect.unit (s := S1x6x1024) ![0, 1, 0] ![1, 1, 1024] inb_S1x6x1024_S1x1x1024_0_1_0).toLoadRect (harg3.unread x3)
abbrev shiftRow (arg3 : Memref sig .tc .vmem S1x6x1024 .f32) (harg3 : arg3.IsWhole) (x3 : Vec Ideal S1x6x1024 .f32) : Vec Ideal S1x1x1024 .f32 := View.readAt (Elt Ideal) arg3.view (Rect.unit (s := S1x6x1024) ![0, 0, 0] ![1, 1, 1024] inb_S1x6x1024_S1x1x1024_0_0_0).toLoadRect (harg3.unread x3)
/-- What the loop over the chunks writes. -/
def loopL := pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) (Scf.trips (0#32) (Scalar.addi 0#32 8#32) 1#32)

theorem L9_eq : (runA (F := Ideal) c i arg2 harg2 arg3 harg3 arg4 harg4 arg5 harg5 arg6 harg6 arg7 harg7 arg8 harg8 arg9 harg9 arg10 harg10 h1 x2 x3 x4 x5 x6 f9 f10).2.2.1 = (loopL c i arg2 harg2 arg3 harg3 arg4 harg4 arg5 harg5 arg6 harg6 arg7 harg7 arg8 harg8 arg9 harg9 arg10 harg10 h1 x2 x3).2.1 := by
  dsimp only [runA]; unfold loopL; rfl

set_option maxHeartbeats 4000000 in
theorem L10_eq : (runA (F := Ideal) c i arg2 harg2 arg3 harg3 arg4 harg4 arg5 harg5 arg6 harg6 arg7 harg7 arg8 harg8 arg9 harg9 arg10 harg10 h1 x2 x3 x4 x5 x6 f9 f10).2.2.2.1
    = copies16 arg9.view (arg9.view.writes (Elt Ideal) f9 (loopL c i arg2 harg2 arg3 harg3 arg4 harg4 arg5 harg5 arg6 harg6 arg7 harg7 arg8 harg8 arg9 harg9 arg10 harg10 h1 x2 x3).2.1) 256
      ++ (copies4 arg9.view (arg9.view.writes (Elt Ideal) f9 (loopL c i arg2 harg2 arg3 harg3 arg4 harg4 arg5 harg5 arg6 harg6 arg7 harg7 arg8 harg8 arg9 harg9 arg10 harg10 h1 x2 x3).2.1) 64
      ++ (loopL c i arg2 harg2 arg3 harg3 arg4 harg4 arg5 harg5 arg6 harg6 arg7 harg7 arg8 harg8 arg9 harg9 arg10 harg10 h1 x2 x3).2.2) := by
  sl_kernel_rfl
end

end Cert.Kernel3Ideal.Att

end
-- ==== Proof.AttLoop.lean ====
module

public import proofs.«01_k».proof.Proof.AttCopy

@[expose] public section

set_option maxRecDepth 16384

noncomputable section

/-! The modulated layer norm of a row. -/
namespace Cert.AttProj

open Idealize.ShloMosaic Idealize.ShloMosaic.TcCoe Idealize.ShloMosaic.Tactic

/-- The mean of a row. -/
def meanAt (x : ℕ → EReal) : EReal := Ideal.div (∑ k : Fin 1024, x k) (Ideal.ofBits .f32 0x44800000#32)
/-- Its variance. -/
def varAt (x : ℕ → EReal) : EReal := Ideal.div (∑ k : Fin 1024, (x k - meanAt x) * (x k - meanAt x)) (Ideal.ofBits .f32 0x44800000#32)
/-- Its entry at `k`, normed, scaled by one more than the scale and shifted. -/
def normAt (x sc sh : ℕ → EReal) (k : ℕ) : EReal :=
  (x k - meanAt x) * Ideal.rsqrt (varAt x + Ideal.ofBits .f32 0x3727C5AC#32) * (Ideal.ofBits .f32 0x3F800000#32 + sc k) + sh k

end Cert.AttProj

/-! The loop over the chunks of 128 rows: the normed rows, in column slabs of 128 and whole. -/
namespace Cert.Kernel3Ideal.Att

open Idealize.ShloMosaic Idealize.ShloMosaic.TcCoe Idealize.ShloMosaic.Tactic
open Cert.Kernel3Ideal Cert.Kernel3Ideal.Gen Cert.AttProj Cert.Retention

theorem pay13_apply (v : Vec Ideal S1x1x1024 .f32) (k : Fin 1024) :
    k0_pay13 (F := Ideal) v (ix2 (0 : Fin 1) k) = Ideal.ofBits .f32 0x3F800000#32 + v (ix3 (0 : Fin 1) (0 : Fin 1) k) := by
  simp only [k0_pay13]; pointwise
theorem pay14_apply (v : Vec Ideal S1x1x1024 .f32) (k : Fin 1024) :
    k0_pay14 (F := Ideal) v (ix2 (0 : Fin 1) k) = v (ix3 (0 : Fin 1) (0 : Fin 1) k) := by
  simp only [k0_pay14]; pointwise

theorem pay8_apply (g b : FVec Ideal S1x1024 .f32) (x : Vec Ideal S128x1024 .f32) (r : Fin 128) (k : Fin 1024) :
    k0_pay8 (F := Ideal) g b x (ix2 r k) =
      (x (ix2 r k) - Ideal.div (∑ j : Fin 1024, x (ix2 r j)) (Ideal.ofBits .f32 0x44800000#32))
        * Ideal.rsqrt (Ideal.div (∑ j : Fin 1024, (x (ix2 r j) - Ideal.div (∑ j : Fin 1024, x (ix2 r j)) (Ideal.ofBits .f32 0x44800000#32)) * (x (ix2 r j) - Ideal.div (∑ j : Fin 1024, x (ix2 r j)) (Ideal.ofBits .f32 0x44800000#32))) (Ideal.ofBits .f32 0x44800000#32) + Ideal.ofBits .f32 0x3727C5AC#32)
        * g (ix2 (0 : Fin 1) k) + b (ix2 (0 : Fin 1) k) := by
  simp only [k0_pay8]; pointwise

theorem pay8_norm (v u : Vec Ideal S1x1x1024 .f32) (x : Vec Ideal S128x1024 .f32) (r : Fin 128) {X sc sh : ℕ → EReal}
    (hx : ∀ j : Fin 1024, x (ix2 r j) = X j) (hs : ∀ j : Fin 1024, v (ix3 (0 : Fin 1) (0 : Fin 1) j) = sc j) (hh : ∀ j : Fin 1024, u (ix3 (0 : Fin 1) (0 : Fin 1) j) = sh j)
    (k : Fin 1024) : k0_pay8 (F := Ideal) (k0_pay13 v) (k0_pay14 u) x (ix2 r k) = normAt X sc sh k := by
  rw [pay8_apply, pay13_apply, pay14_apply, hs, hh]
  simp only [hx]
  rfl

theorem pay9_apply (g b : FVec Ideal S1x1024 .f32) (x : Vec Ideal S128x1024 .f32) (a : Fin 128) (e : Fin 128) :
    k0_pay9 (F := Ideal) g b x (ix3 (0 : Fin 1) a e) = k0_pay8 (F := Ideal) g b x (ix2 a (⟨0 + e.val, by omega⟩ : Fin 1024)) := by
  simp only [k0_pay9]; pointwise
theorem pay10_apply (g b : FVec Ideal S1x1024 .f32) (x : Vec Ideal S128x1024 .f32) (a : Fin 128) (e : Fin 128) :
    k0_pay10 (F := Ideal) g b x (ix3 (0 : Fin 1) a e) = k0_pay8 (F := Ideal) g b x (ix2 a (⟨128 + e.val, by omega⟩ : Fin 1024)) := by
  simp only [k0_pay10]; pointwise
theorem pay11_apply (g b : FVec Ideal S1x1024 .f32) (x : Vec Ideal S128x1024 .f32) (a : Fin 128) (e : Fin 128) :
    k0_pay11 (F := Ideal) g b x (ix3 (0 : Fin 1) a e) = k0_pay8 (F := Ideal) g b x (ix2 a (⟨256 + e.val, by omega⟩ : Fin 1024)) := by
  simp only [k0_pay11]; pointwise
theorem pay15_apply (g b : FVec Ideal S1x1024 .f32) (x : Vec Ideal S128x1024 .f32) (a : Fin 128) (e : Fin 128) :
    k0_pay15 (F := Ideal) (k0_pay12 g b x) (ix3 (0 : Fin 1) a e) = k0_pay8 (F := Ideal) g b x (ix2 a (⟨384 + e.val, by omega⟩ : Fin 1024)) := by
  simp only [k0_pay15, k0_pay12]; pointwise
theorem pay16_apply (x : FVec Ideal S128x1024 .f32) (a : Fin 128) (e : Fin 128) :
    k0_pay16 (F := Ideal) x (ix3 (0 : Fin 1) a e) = x (ix2 a (⟨512 + e.val, by omega⟩ : Fin 1024)) := by
  simp only [k0_pay16]; pointwise
theorem pay17_apply (x : FVec Ideal S128x1024 .f32) (a : Fin 128) (e : Fin 128) :
    k0_pay17 (F := Ideal) x (ix3 (0 : Fin 1) a e) = x (ix2 a (⟨640 + e.val, by omega⟩ : Fin 1024)) := by
  simp only [k0_pay17]; pointwise
theorem pay18_apply (x : FVec Ideal S128x1024 .f32) (a : Fin 128) (e : Fin 128) :
    k0_pay18 (F := Ideal) x (ix3 (0 : Fin 1) a e) = x (ix2 a (⟨768 + e.val, by omega⟩ : Fin 1024)) := by
  simp only [k0_pay18]; pointwise
theorem pay19_apply (x : FVec Ideal S128x1024 .f32) (a : Fin 128) (e : Fin 128) :
    k0_pay19 (F := Ideal) x (ix3 (0 : Fin 1) a e) = x (ix2 a (⟨896 + e.val, by omega⟩ : Fin 1024)) := by
  simp only [k0_pay19]; pointwise
theorem pay21_apply (x : FVec Ideal S128x1024 .f32) (a : Fin 128) (e : Fin 1024) :
    k0_pay21 (F := Ideal) x (ix3 (0 : Fin 1) a e) = x (ix2 a e) := by
  simp only [k0_pay21, k0_pay20]; pointwise

/-- The rows in column slabs of 128. -/
def slabs (U : ℕ → ℕ → EReal) (y : S8x1024x128.Idx) : EReal := U (y 1).val (128 * (y 0).val + (y 2).val)

theorem slab_agrees {U : ℕ → ℕ → EReal} (cc k : ℕ) {off : Fin 3 → ℕ} (h : ∀ a, off a + (![1, 128, 128] : Fin 3 → ℕ) a ≤ S8x1024x128.size a) (hoff : off = ![cc, 128 * k, 0])
    (P : Vec Ideal S1x128x128 .f32) (hP : ∀ a b : Fin 128, P (ix3 (0 : Fin 1) a b) = U (128 * k + a) (128 * cc + b)) (x : S1x128x128.Idx) :
    P x = slabs U ((Rect.unit (s := S8x1024x128) off ![1, 128, 128] h).emb x) := by
  subst hoff
  obtain ⟨z, a, b, rfl⟩ : ∃ (z : Fin 1) (a b : Fin 128), x = ix3 z a b := ⟨x 0, x 1, x 2, by funext i; fin_cases i <;> rfl⟩
  obtain rfl : z = 0 := by omega
  have e0 : (((Rect.unit (s := S8x1024x128) ![cc, 128 * k, 0] ![1, 128, 128] h).emb (ix3 (0 : Fin 1) a b : S1x128x128.Idx)) 0).val = cc + 1 * 0 := rfl
  have e1 : (((Rect.unit (s := S8x1024x128) ![cc, 128 * k, 0] ![1, 128, 128] h).emb (ix3 (0 : Fin 1) a b : S1x128x128.Idx)) 1).val = 128 * k + 1 * a.val := rfl
  have e2 : (((Rect.unit (s := S8x1024x128) ![cc, 128 * k, 0] ![1, 128, 128] h).emb (ix3 (0 : Fin 1) a b : S1x128x128.Idx)) 2).val = 0 + 1 * b.val := rfl
  unfold slabs
  rw [e0, e1, e2, hP]
  simp only [Nat.mul_zero, Nat.add_zero, Nat.one_mul, Nat.zero_add]

theorem slab_mem (cc k : ℕ) {off : Fin 3 → ℕ} (h : ∀ a, off a + (![1, 128, 128] : Fin 3 → ℕ) a ≤ S8x1024x128.size a) (hoff : off = ![cc, 128 * k, 0])
    (y : S8x1024x128.Idx) (h0 : (y 0).val = cc) (h1 : (y 1).val / 128 = k) : y ∈ (Rect.unit (s := S8x1024x128) off ![1, 128, 128] h).set := by
  subst hoff
  refine Rect.mem_set_unit.mpr fun a => ?_
  have h2 : (y 2).val < 128 := (y 2).isLt
  fin_cases a
  · show cc ≤ (y 0).val ∧ (y 0).val < cc + 1; omega
  · show 128 * k ≤ (y 1).val ∧ (y 1).val < 128 * k + 128; omega
  · show 0 ≤ (y 2).val ∧ (y 2).val < 0 + 128; omega

theorem block_mem {g r0 c0 n w : ℕ} {off : Fin 3 → ℕ} (h : ∀ a, off a + (![1, n, w] : Fin 3 → ℕ) a ≤ S3x1024x1024.size a) (hoff : off = ![g, r0, c0])
    (y : S3x1024x1024.Idx) (h0 : (y 0).val = g) (h1 : r0 ≤ (y 1).val ∧ (y 1).val < r0 + n) (h2 : c0 ≤ (y 2).val ∧ (y 2).val < c0 + w) :
    y ∈ (Rect.unit (s := S3x1024x1024) off ![1, n, w] h).set := by
  subst hoff
  refine Rect.mem_set_unit.mpr fun a => ?_
  fin_cases a
  · show g ≤ (y 0).val ∧ (y 0).val < g + 1; omega
  · exact h1
  · exact h2

section
variable (c : Dev nD) (i : grid0.Coords) (arg2 : Memref sig .tc .vmem S1024x1024 .f32) (harg2 : arg2.IsWhole) (arg3 : Memref sig .tc .vmem S1x6x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1024 .bf16) (harg8 : arg8.IsWhole) (arg9 : Memref sig .tc .vmem S8x1024x128 .f32) (harg9 : arg9.IsWhole) (arg10 : Memref sig .tc .vmem S3x1024x1024 .bf16) (harg10 : arg10.IsWhole) (h1 : k0_cond1 i = 1#1)
  (x2 : Vec Ideal S1024x1024 .f32) (x3 : Vec Ideal S1x6x1024 .f32)

/-- The scale, the shift and a row of activations of the block. -/
def scaleOf (x3 : Vec Ideal S1x6x1024 .f32) : ℕ → EReal := tot (fun (a : Fin 6) (b : Fin 1024) => x3 (ix3 (0 : Fin 1) a b)) 1
def shiftOf (x3 : Vec Ideal S1x6x1024 .f32) : ℕ → EReal := tot (fun (a : Fin 6) (b : Fin 1024) => x3 (ix3 (0 : Fin 1) a b)) 0
def rowOf (x2 : Vec Ideal S1024x1024 .f32) : ℕ → ℕ → EReal := tot (fun (a b : Fin 1024) => x2 (ix2 a b))
/-- The modulated rows of the block. -/
def modRows (x2 : Vec Ideal S1024x1024 .f32) (x3 : Vec Ideal S1x6x1024 .f32) (r k : ℕ) : EReal := normAt (rowOf x2 r) (scaleOf x3) (shiftOf x3) k

theorem scaleRow_apply (j : Fin 1024) : scaleRow arg3 harg3 x3 (ix3 (0 : Fin 1) (0 : Fin 1) j) = scaleOf x3 j := by
  unfold scaleRow scaleOf
  rw [View.readAt_apply, harg3.read_unread, tot_of _ (by decide) j.isLt]
  refine congrArg x3 ?_
  funext a; fin_cases a <;> first | rfl | (apply Fin.ext; show 0 + 1 * j.val = j.val; omega)
theorem shiftRow_apply (j : Fin 1024) : shiftRow arg3 harg3 x3 (ix3 (0 : Fin 1) (0 : Fin 1) j) = shiftOf x3 j := by
  unfold shiftRow shiftOf
  rw [View.readAt_apply, harg3.read_unread, tot_of _ (by decide) j.isLt]
  refine congrArg x3 ?_
  funext a; fin_cases a <;> first | rfl | (apply Fin.ext; show 0 + 1 * j.val = j.val; omega)

/-- The chunk a trip reads. -/
abbrev chunk (k : Fin k0_t1_loop.trips) : Vec Ideal S128x1024 .f32 := View.readAt (Elt Ideal) arg2.view (Rect.unit (s := S1024x1024) (k0_off1 k) ![128, 1024] (k0_off1_inb i k h1)).toLoadRect (harg2.unread x2)

theorem chunk_apply (k : Fin k0_t1_loop.trips) (a : Fin 128) (j : Fin 1024) : chunk i arg2 harg2 h1 x2 k (ix2 a j) = rowOf x2 (128 * k.val + a) j := by
  have hk : k.val < 8 := k.isLt
  unfold chunk rowOf
  rw [View.readAt_apply, harg2.read_unread, tot_of _ (by omega) j.isLt]
  refine congrArg x2 ?_
  have e := k0_off1_eq k
  funext d; fin_cases d
  · apply Fin.ext; show k0_off1 k 0 + 1 * a.val = 128 * k.val + a.val; rw [e]; show 128 * k.val + 1 * a.val = _; omega
  · apply Fin.ext; show k0_off1 k 1 + 1 * j.val = j.val; rw [e]; show 0 + 1 * j.val = _; omega

/-- A trip's rows. -/
abbrev normed (k : Fin k0_t1_loop.trips) : FVec Ideal S128x1024 .f32 :=
  k0_pay8 (F := Ideal) (k0_pay13 (scaleRow arg3 harg3 x3)) (k0_pay14 (shiftRow arg3 harg3 x3)) (chunk i arg2 harg2 h1 x2 k)

theorem normed_apply (k : Fin k0_t1_loop.trips) (a : Fin 128) (j : Fin 1024) : normed i arg2 harg2 arg3 harg3 h1 x2 x3 k (ix2 a j) = modRows x2 x3 (128 * k.val + a) j :=
  pay8_norm _ _ _ a (fun j => chunk_apply i arg2 harg2 h1 x2 k a j) (fun j => scaleRow_apply arg3 harg3 x3 j) (fun j => shiftRow_apply arg3 harg3 x3 j) j

theorem trip9_eq (k : Fin k0_t1_loop.trips) : (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.1 =
    [⟨Rect.unit (k0_off9 k) ![1, 128, 128] (k0_off9_inb i k h1), k0_pay19 (normed i arg2 harg2 arg3 harg3 h1 x2 x3 k)⟩,
      ⟨Rect.unit (k0_off8 k) ![1, 128, 128] (k0_off8_inb i k h1), k0_pay18 (normed i arg2 harg2 arg3 harg3 h1 x2 x3 k)⟩,
      ⟨Rect.unit (k0_off7 k) ![1, 128, 128] (k0_off7_inb i k h1), k0_pay17 (normed i arg2 harg2 arg3 harg3 h1 x2 x3 k)⟩,
      ⟨Rect.unit (k0_off6 k) ![1, 128, 128] (k0_off6_inb i k h1), k0_pay16 (normed i arg2 harg2 arg3 harg3 h1 x2 x3 k)⟩,
      ⟨Rect.unit (k0_off5 k) ![1, 128, 128] (k0_off5_inb i k h1), k0_pay15 (k0_pay12 (k0_pay13 (scaleRow arg3 harg3 x3)) (k0_pay14 (shiftRow arg3 harg3 x3)) (chunk i arg2 harg2 h1 x2 k))⟩,
      ⟨Rect.unit (k0_off4 k) ![1, 128, 128] (k0_off4_inb i k h1), k0_pay11 (k0_pay13 (scaleRow arg3 harg3 x3)) (k0_pay14 (shiftRow arg3 harg3 x3)) (chunk i arg2 harg2 h1 x2 k)⟩,
      ⟨Rect.unit (k0_off3 k) ![1, 128, 128] (k0_off3_inb i k h1), k0_pay10 (k0_pay13 (scaleRow arg3 harg3 x3)) (k0_pay14 (shiftRow arg3 harg3 x3)) (chunk i arg2 harg2 h1 x2 k)⟩,
      ⟨Rect.unit (k0_off2 k) ![1, 128, 128] (k0_off2_inb i k h1), k0_pay9 (k0_pay13 (scaleRow arg3 harg3 x3)) (k0_pay14 (shiftRow arg3 harg3 x3)) (chunk i arg2 harg2 h1 x2 k)⟩] := by
  sl_kernel_rfl

theorem trip10_eq (k : Fin k0_t1_loop.trips) : (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.2 =
    [⟨Rect.unit (k0_off10 k) ![1, 128, 1024] (k0_off10_inb i k h1), k0_pay21 (normed i arg2 harg2 arg3 harg3 h1 x2 x3 k)⟩] := by
  sl_kernel_rfl

theorem trip9_agrees (k : Fin k0_t1_loop.trips) (p) (hp : p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.1) : ∀ x, p.2 x = slabs (modRows x2 x3) (p.1.emb x) := by
  rw [trip9_eq] at hp
  simp only [List.mem_cons, List.not_mem_nil, or_false] at hp
  have hn := fun a j => normed_apply i arg2 harg2 arg3 harg3 h1 x2 x3 k a j
  rcases hp with rfl | rfl | rfl | rfl | rfl | rfl | rfl | rfl
  · exact slab_agrees 7 k.val (k0_off9_inb i k h1) (k0_off9_eq k) _ fun a b => (pay19_apply _ a b).trans (hn a _)
  · exact slab_agrees 6 k.val (k0_off8_inb i k h1) (k0_off8_eq k) _ fun a b => (pay18_apply _ a b).trans (hn a _)
  · exact slab_agrees 5 k.val (k0_off7_inb i k h1) (k0_off7_eq k) _ fun a b => (pay17_apply _ a b).trans (hn a _)
  · exact slab_agrees 4 k.val (k0_off6_inb i k h1) (k0_off6_eq k) _ fun a b => (pay16_apply _ a b).trans (hn a _)
  · exact slab_agrees 3 k.val (k0_off5_inb i k h1) (k0_off5_eq k) _ fun a b => (pay15_apply _ _ _ a b).trans (hn a _)
  · exact slab_agrees 2 k.val (k0_off4_inb i k h1) (k0_off4_eq k) _ fun a b => (pay11_apply _ _ _ a b).trans (hn a _)
  · exact slab_agrees 1 k.val (k0_off3_inb i k h1) (k0_off3_eq k) _ fun a b => (pay10_apply _ _ _ a b).trans (hn a _)
  · exact slab_agrees 0 k.val (k0_off2_inb i k h1) (k0_off2_eq k) _ fun a b => (pay9_apply _ _ _ a b).trans (hn a _)

theorem trip9_cover (k : Fin k0_t1_loop.trips) (y : S8x1024x128.Idx) (hy : (y 1).val / 128 = k.val) : ∃ p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.1, y ∈ p.1.set := by
  rw [trip9_eq]
  have h0 : (y 0).val < 8 := (y 0).isLt
  obtain h | h | h | h | h | h | h | h : (y 0).val = 7 ∨ (y 0).val = 6 ∨ (y 0).val = 5 ∨ (y 0).val = 4 ∨ (y 0).val = 3 ∨ (y 0).val = 2 ∨ (y 0).val = 1 ∨ (y 0).val = 0 := by omega
  · exact ⟨_, .head _, slab_mem 7 k.val (k0_off9_inb i k h1) (k0_off9_eq k) y h hy⟩
  · exact ⟨_, .tail _ (.head _), slab_mem 6 k.val (k0_off8_inb i k h1) (k0_off8_eq k) y h hy⟩
  · exact ⟨_, .tail _ (.tail _ (.head _)), slab_mem 5 k.val (k0_off7_inb i k h1) (k0_off7_eq k) y h hy⟩
  · exact ⟨_, .tail _ (.tail _ (.tail _ (.head _))), slab_mem 4 k.val (k0_off6_inb i k h1) (k0_off6_eq k) y h hy⟩
  · exact ⟨_, .tail _ (.tail _ (.tail _ (.tail _ (.head _)))), slab_mem 3 k.val (k0_off5_inb i k h1) (k0_off5_eq k) y h hy⟩
  · exact ⟨_, .tail _ (.tail _ (.tail _ (.tail _ (.tail _ (.head _))))), slab_mem 2 k.val (k0_off4_inb i k h1) (k0_off4_eq k) y h hy⟩
  · exact ⟨_, .tail _ (.tail _ (.tail _ (.tail _ (.tail _ (.tail _ (.head _)))))), slab_mem 1 k.val (k0_off3_inb i k h1) (k0_off3_eq k) y h hy⟩
  · exact ⟨_, .tail _ (.tail _ (.tail _ (.tail _ (.tail _ (.tail _ (.tail _ (.head _))))))), slab_mem 0 k.val (k0_off2_inb i k h1) (k0_off2_eq k) y h hy⟩

theorem trip10_agrees (k : Fin k0_t1_loop.trips) (p) (hp : p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.2) : ∀ x, p.2 x = rowsIn (modRows x2 x3) (p.1.emb x) := by
  rw [trip10_eq] at hp
  obtain rfl := List.mem_singleton.mp hp
  intro x
  change S1x128x1024.Idx at x
  obtain ⟨z, a, b, rfl⟩ : ∃ (z : Fin 1) (a : Fin 128) (b : Fin 1024), x = ix3 z a b := ⟨x 0, x 1, x 2, by funext i; fin_cases i <;> rfl⟩
  obtain rfl : z = 0 := by omega
  have e0 : (((Rect.unit (s := S3x1024x1024) (k0_off10 k) ![1, 128, 1024] (k0_off10_inb i k h1)).emb (ix3 (0 : Fin 1) a b : S1x128x1024.Idx)) 0).val = k0_off10 k 0 + 1 * 0 := rfl
  have e1 : (((Rect.unit (s := S3x1024x1024) (k0_off10 k) ![1, 128, 1024] (k0_off10_inb i k h1)).emb (ix3 (0 : Fin 1) a b : S1x128x1024.Idx)) 1).val = k0_off10 k 1 + 1 * a.val := rfl
  have e2 : (((Rect.unit (s := S3x1024x1024) (k0_off10 k) ![1, 128, 1024] (k0_off10_inb i k h1)).emb (ix3 (0 : Fin 1) a b : S1x128x1024.Idx)) 2).val = k0_off10 k 2 + 1 * b.val := rfl
  have hr : rowsIn (modRows x2 x3) ((Rect.unit (s := S3x1024x1024) (k0_off10 k) ![1, 128, 1024] (k0_off10_inb i k h1)).emb (ix3 (0 : Fin 1) a b : S1x128x1024.Idx)) = modRows x2 x3 (128 * k.val + a) b := by
    unfold rowsIn
    rw [e0, e1, e2, k0_off10_eq]
    have hp : perm (0 + 1 * 0) (128 * k.val + 1 * a.val) = 128 * k.val + a.val := by rw [perm, if_pos rfl]; omega
    refine (congrArg₂ (modRows x2 x3) hp (show 0 + 1 * b.val = b.val by omega))
  exact ((pay21_apply _ a b).trans (normed_apply i arg2 harg2 arg3 harg3 h1 x2 x3 k a b)).trans hr.symm

theorem trip10_cover (k : Fin k0_t1_loop.trips) (y : S3x1024x1024.Idx) (h0 : (y 0).val = 0) (hy : (y 1).val / 128 = k.val) : ∃ p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) k).2.2, y ∈ p.1.set := by
  rw [trip10_eq]
  have h2 : (y 2).val < 1024 := (y 2).isLt
  exact ⟨_, .head _, block_mem (k0_off10_inb i k h1) (k0_off10_eq k) y h0 ⟨by omega, by omega⟩ ⟨by omega, by omega⟩⟩

theorem mem_pb9 (p) : ∀ n, n ≤ k0_t1_loop.trips → (p ∈ (pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) n).2.1 ↔ ∃ j : Fin k0_t1_loop.trips, j.val < n ∧ p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) j).2.1)
  | 0, _ => by
    rw [pb_k0_t1]; simp
  | n + 1, hn => by
    rw [show (pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) (n + 1)) = _ from pb_k0_t1_succ (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) ⟨n, hn⟩]
    rw [List.mem_append, mem_pb9 p n (by omega)]
    constructor
    · rintro (h | ⟨j, hj, h⟩)
      · exact ⟨⟨n, hn⟩, Nat.lt_succ_self n, h⟩
      · exact ⟨j, Nat.lt_succ_of_lt hj, h⟩
    · rintro ⟨j, hj, h⟩
      rcases Nat.lt_succ_iff_lt_or_eq.mp hj with h' | h'
      · exact Or.inr ⟨j, h', h⟩
      · obtain rfl : j = ⟨n, hn⟩ := Fin.ext h'
        exact Or.inl h

theorem mem_pb10 (p) : ∀ n, n ≤ k0_t1_loop.trips → (p ∈ (pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) n).2.2 ↔ ∃ j : Fin k0_t1_loop.trips, j.val < n ∧ p ∈ (tripL_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) j).2.2)
  | 0, _ => by
    rw [pb_k0_t1]; simp
  | n + 1, hn => by
    rw [show (pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) (n + 1)) = _ from pb_k0_t1_succ (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) ⟨n, hn⟩]
    rw [List.mem_append, mem_pb10 p n (by omega)]
    constructor
    · rintro (h | ⟨j, hj, h⟩)
      · exact ⟨⟨n, hn⟩, Nat.lt_succ_self n, h⟩
      · exact ⟨j, Nat.lt_succ_of_lt hj, h⟩
    · rintro ⟨j, hj, h⟩
      rcases Nat.lt_succ_iff_lt_or_eq.mp hj with h' | h'
      · exact Or.inr ⟨j, h', h⟩
      · obtain rfl : j = ⟨n, hn⟩ := Fin.ext h'
        exact Or.inl h

theorem loopL_eq : loopL c i arg2 harg2 arg3 harg3 arg4 harg4 arg5 harg5 arg6 harg6 arg7 harg7 arg8 harg8 arg9 harg9 arg10 harg10 h1 x2 x3 = (pb_k0_t1 (F := Ideal) Variants.none c none i arg2 harg2 arg3 harg3 arg4 harg4 arg5 harg5 arg6 harg6 arg7 harg7 arg8 harg8 arg9 harg9 arg10 harg10 h1 (scaleRow arg3 harg3 x3) (shiftRow arg3 harg3 x3) (harg2.unread x2) 8) := by
  unfold loopL; rw [show Scf.trips (0#32) (Scalar.addi 0#32 8#32) 1#32 = 8 by decide +kernel]

variable (f9 : arg9.view.ty.Contents (Elt Ideal)) (f10 : arg10.view.ty.Contents (Elt Ideal))
  (x4 : Vec Ideal S1024x512 .bf16) (x5 : Vec Ideal S1024x512 .bf16) (x6 : Vec Ideal S1024x512 .bf16)

/-- After the loop the slabs hold the modulated rows. -/
theorem slabs_read (y : S8x1024x128.Idx) :
    arg9.view.read (Elt Ideal) (arg9.view.writes (Elt Ideal) f9 (loopL c i arg2 harg2 arg3 harg3 arg4 harg4 arg5 harg5 arg6 harg6 arg7 harg7 arg8 harg8 arg9 harg9 arg10 harg10 h1 x2 x3).2.1) y = slabs (modRows x2 x3) y := by
  rw [loopL_eq]
  have hy : (y 1).val < 1024 := (y 1).isLt
  refine View.read_writes_apply_of_pieces _ _ _ _ (fun p hp x => ?_) y ?_
  · obtain ⟨j, -, h⟩ := (mem_pb9 c i arg2 harg2 arg3 harg3 arg4 harg4 arg5 harg5 arg6 harg6 arg7 harg7 arg8 harg8 arg9 harg9 arg10 harg10 h1 x2 x3 p 8 (by decide)).mp hp
    exact trip9_agrees c i arg2 harg2 arg3 harg3 arg4 harg4 arg5 harg5 arg6 harg6 arg7 harg7 arg8 harg8 arg9 harg9 arg10 harg10 h1 x2 x3 j p h x
  · obtain ⟨p, hp, h⟩ := trip9_cover c i arg2 harg2 arg3 harg3 arg4 harg4 arg5 harg5 arg6 harg6 arg7 harg7 arg8 harg8 arg9 harg9 arg10 harg10 h1 x2 x3 ⟨(y 1).val / 128, by show _ < 8; omega⟩ y rfl
    exact ⟨p, (mem_pb9 c i arg2 harg2 arg3 harg3 arg4 harg4 arg5 harg5 arg6 harg6 arg7 harg7 arg8 harg8 arg9 harg9 arg10 harg10 h1 x2 x3 p 8 (by decide)).mpr ⟨_, by show (y 1).val / 128 < 8; omega, hp⟩, h⟩

/-- After the copies the three groups hold the modulated rows, each in its order. -/
theorem rows_read (y : S3x1024x1024.Idx) :
    arg10.view.read (Elt Ideal) (arg10.view.writes (Elt Ideal) f10 (runA (F := Ideal) c i arg2 harg2 arg3 harg3 arg4 harg4 arg5 harg5 arg6 harg6 arg7 harg7 arg8 harg8 arg9 harg9 arg10 harg10 h1 x2 x3 x4 x5 x6 f9 f10).2.2.2.1) y = rowsIn (modRows x2 x3) y := by
  rw [L10_eq]
  have hs := slabs_read c i arg2 harg2 arg3 harg3 arg4 harg4 arg5 harg5 arg6 harg6 arg7 harg7 arg8 harg8 arg9 harg9 arg10 harg10 h1 x2 x3 f9
  have h0 : (y 0).val < 3 := (y 0).isLt
  have h1' : (y 1).val < 1024 := (y 1).isLt
  have h2 : (y 2).val < 1024 := (y 2).isLt
  refine View.read_writes_apply_of_pieces _ _ _ _ (fun p hp x => ?_) y ?_
  · rcases List.mem_append.mp hp with hp | hp
    · obtain ⟨j, -, rfl⟩ := (mem_copies16 _ _ p 256).mp hp
      exact copy16_agrees arg9.view _ hs j x
    rcases List.mem_append.mp hp with hp | hp
    · obtain ⟨j, -, rfl⟩ := (mem_copies4 _ _ p 64).mp hp
      exact copy4_agrees arg9.view _ hs j x
    rw [loopL_eq] at hp
    obtain ⟨j, -, h⟩ := (mem_pb10 c i arg2 harg2 arg3 harg3 arg4 harg4 arg5 harg5 arg6 harg6 arg7 harg7 arg8 harg8 arg9 harg9 arg10 harg10 h1 x2 x3 p 8 (by decide)).mp hp
    exact trip10_agrees c i arg2 harg2 arg3 harg3 arg4 harg4 arg5 harg5 arg6 harg6 arg7 harg7 arg8 harg8 arg9 harg9 arg10 harg10 h1 x2 x3 j p h x
  · obtain h | h | h : (y 0).val = 2 ∨ (y 0).val = 1 ∨ (y 0).val = 0 := by omega
    · refine ⟨copy16 _ _ (8 * ((y 1).val / 32) + (y 2).val / 128), List.mem_append_left _ ((mem_copies16 _ _ _ 256).mpr ⟨_, by omega, rfl⟩), ?_⟩
      exact block_mem (dst16 _) rfl y h ⟨by omega, by omega⟩ ⟨by omega, by omega⟩
    · refine ⟨copy4 _ _ (8 * ((y 1).val / 128) + (y 2).val / 128), List.mem_append_right _ (List.mem_append_left _ ((mem_copies4 _ _ _ 64).mpr ⟨_, by omega, rfl⟩)), ?_⟩
      exact block_mem (dst4 _) rfl y h ⟨by omega, by omega⟩ ⟨by omega, by omega⟩
    · obtain ⟨p, hp, hm⟩ := trip10_cover c i arg2 harg2 arg3 harg3 arg4 harg4 arg5 harg5 arg6 harg6 arg7 harg7 arg8 harg8 arg9 harg9 arg10 harg10 h1 x2 x3 ⟨(y 1).val / 128, by show _ < 8; omega⟩ y h rfl
      refine ⟨p, List.mem_append_right _ (List.mem_append_right _ ?_), hm⟩
      rw [loopL_eq]
      exact (mem_pb10 c i arg2 harg2 arg3 harg3 arg4 harg4 arg5 harg5 arg6 harg6 arg7 harg7 arg8 harg8 arg9 harg9 arg10 harg10 h1 x2 x3 p 8 (by decide)).mpr ⟨_, by show (y 1).val / 128 < 8; omega, hp⟩
end

end Cert.Kernel3Ideal.Att

end
-- ==== Proof.AttDot.lean ====
module

public import proofs.«01_k».proof.Proof.AttLoop
public import proofs.«01_k».proof.Proof.AttB

@[expose] public section

set_option maxRecDepth 65536

noncomputable section

/-! The three products of a group's rows: with the weights of the queries, of the keys and of the values. -/
namespace Cert.Kernel3Ideal.Att

open Idealize.ShloMosaic Idealize.ShloMosaic.TcCoe Idealize.ShloMosaic.Tactic
open Cert.Kernel3Ideal Cert.Kernel3Ideal.Gen Cert.AttProj Cert.Retention

theorem pay5_apply (u : Vec Ideal S1x1024x1024 .bf16) (w : Vec Ideal S1024x512 .bf16) (r : Fin 1024) (e : Fin 512) :
    k0_pay5 (F := Ideal) u w (ix2 r e) = ∑ k : Fin 1024, u (ix3 (0 : Fin 1) r k) * w (ix2 k e) := by
  simp only [k0_pay5, k0_pay4]; pointwise
theorem pay6_eq (u : Vec Ideal S1x1024x1024 .bf16) (w : Vec Ideal S1024x512 .bf16) : k0_pay6 (F := Ideal) u w = k0_pay5 u w := rfl
theorem pay7_eq (u : Vec Ideal S1x1024x1024 .bf16) (w : Vec Ideal S1024x512 .bf16) : k0_pay7 (F := Ideal) u w = k0_pay5 u w := rfl

/-- The products of a group's rows with the columns of `w`. -/
def products (U : ℕ → ℕ → EReal) (g : ℕ) (w : ℕ → ℕ → EReal) (y : S1024x1536.Idx) : EReal := ∑ k : Fin 1024, U (perm g (y 0).val) k * w k (y 1).val

theorem prod_agrees {U w : ℕ → ℕ → EReal} {g o : ℕ} (h : ∀ a, (![0, o] : Fin 2 → ℕ) a + (![1024, 512] : Fin 2 → ℕ) a ≤ S1024x1536.size a)
    (u : Vec Ideal S1x1024x1024 .bf16) (v : Vec Ideal S1024x512 .bf16) (hu : ∀ r k : Fin 1024, u (ix3 (0 : Fin 1) r k) = U (perm g r) k)
    (hv : ∀ (k : Fin 1024) (e : Fin 512), v (ix2 k e) = w k (o + e)) (x : S1024x512.Idx) :
    k0_pay5 (F := Ideal) u v x = products U g w ((Rect.unit (s := S1024x1536) ![0, o] ![1024, 512] h).emb x) := by
  obtain ⟨a, b, rfl⟩ : ∃ (a : Fin 1024) (b : Fin 512), x = ix2 a b := ⟨x 0, x 1, by funext i; fin_cases i <;> rfl⟩
  have e0 : (((Rect.unit (s := S1024x1536) ![0, o] ![1024, 512] h).emb (ix2 a b : S1024x512.Idx)) 0).val = 0 + 1 * a.val := rfl
  have e1 : (((Rect.unit (s := S1024x1536) ![0, o] ![1024, 512] h).emb (ix2 a b : S1024x512.Idx)) 1).val = o + 1 * b.val := rfl
  unfold products
  rw [e0, e1, pay5_apply]
  simp only [hu, hv, Nat.zero_add, Nat.one_mul]

theorem prod_mem {o : ℕ} (h : ∀ a, (![0, o] : Fin 2 → ℕ) a + (![1024, 512] : Fin 2 → ℕ) a ≤ S1024x1536.size a) (y : S1024x1536.Idx)
    (hy : o ≤ (y 1).val ∧ (y 1).val < o + 512) : y ∈ (Rect.unit (s := S1024x1536) ![0, o] ![1024, 512] h).set := by
  refine Rect.mem_set_unit.mpr fun a => ?_
  have h0 : (y 0).val < 1024 := (y 0).isLt
  fin_cases a
  · show 0 ≤ (y 0).val ∧ (y 0).val < 0 + 1024; omega
  · exact hy

section
variable (c : Dev nD) (i : grid0.Coords) (arg2 : Memref sig .tc .vmem S1024x1024 .f32) (harg2 : arg2.IsWhole) (arg3 : Memref sig .tc .vmem S1x6x1024 .f32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1024 .bf16) (harg8 : arg8.IsWhole) (arg9 : Memref sig .tc .vmem S8x1024x128 .f32) (harg9 : arg9.IsWhole) (arg10 : Memref sig .tc .vmem S3x1024x1024 .bf16) (harg10 : arg10.IsWhole)
  (x2 : Vec Ideal S1024x1024 .f32) (x3 : Vec Ideal S1x6x1024 .f32) (x4 : Vec Ideal S1024x512 .bf16) (x5 : Vec Ideal S1024x512 .bf16) (x6 : Vec Ideal S1024x512 .bf16) (f9 : arg9.view.ty.Contents (Elt Ideal)) (f10 W : arg10.view.ty.Contents (Elt Ideal))

/-- The group's rows as the body reads them. -/
abbrev groupRows : Vec Ideal S1x1024x1024 .bf16 := View.readAt (Elt Ideal) arg10.view (Rect.unit (s := S3x1024x1024) (k0_off11 i) ![1, 1024, 1024] (k0_off11_inb i)).toLoadRect W

theorem groupRows_apply {U : ℕ → ℕ → EReal} (hW : ∀ y, arg10.view.read (Elt Ideal) W y = rowsIn U y) (r k : Fin 1024) :
    groupRows i arg10 W (ix3 (0 : Fin 1) r k) = U (perm (i 1).val r) k := by
  unfold groupRows
  rw [View.readAt_apply, hW]
  have e := k0_off11_eq i
  have e0 : (((Rect.unit (s := S3x1024x1024) (k0_off11 i) ![1, 1024, 1024] (k0_off11_inb i)).toLoadRect.idx (ix3 (0 : Fin 1) r k : S1x1024x1024.Idx)) 0).val = k0_off11 i 0 + 1 * 0 := rfl
  have e1 : (((Rect.unit (s := S3x1024x1024) (k0_off11 i) ![1, 1024, 1024] (k0_off11_inb i)).toLoadRect.idx (ix3 (0 : Fin 1) r k : S1x1024x1024.Idx)) 1).val = k0_off11 i 1 + 1 * r.val := rfl
  have e2 : (((Rect.unit (s := S3x1024x1024) (k0_off11 i) ![1, 1024, 1024] (k0_off11_inb i)).toLoadRect.idx (ix3 (0 : Fin 1) r k : S1x1024x1024.Idx)) 2).val = k0_off11 i 2 + 1 * k.val := rfl
  unfold rowsIn
  rw [e0, e1, e2, e]
  have d0 : (![(i 1).val, 0, 0] : Fin 3 → ℕ) 0 + 1 * 0 = (i 1).val := rfl
  have d1 : (![(i 1).val, 0, 0] : Fin 3 → ℕ) 1 + 1 * r.val = r.val := by show 0 + 1 * r.val = _; omega
  have d2 : (![(i 1).val, 0, 0] : Fin 3 → ℕ) 2 + 1 * k.val = k.val := by show 0 + 1 * k.val = _; omega
  rw [d0, d1, d2]

theorem weights_apply (a : Memref sig .tc .vmem S1024x512 .bf16) (ha : a.IsWhole) (x : Vec Ideal S1024x512 .bf16) (k : Fin 1024) (e : Fin 512) :
    (View.readAt (Elt Ideal) a.view (Rect.unit (s := S1024x512) ![0, 0] ![1024, 512] inb_S1024x512_S1024x512_0_0).toLoadRect (ha.unread x)) (ix2 k e : S1024x512.Idx) = x (ix2 k e) := by
  rw [View.readAt_apply, ha.read_unread]
  refine congrArg x ?_
  funext d; fin_cases d
  · apply Fin.ext; show 0 + 1 * k.val = k.val; omega
  · apply Fin.ext; show 0 + 1 * e.val = e.val; omega

/-- The writes of the result block. -/
def outL : List (View.Piece (Elt Ideal) S1024x1536 .bf16) :=
  [⟨Rect.unit ![0, 1024] ![1024, 512] inb_S1024x1536_S1024x512_0_1024, k0_pay7 (F := Ideal) (groupRows i arg10 W) (View.readAt (Elt Ideal) arg6.view (Rect.unit (s := S1024x512) ![0, 0] ![1024, 512] inb_S1024x512_S1024x512_0_0).toLoadRect (harg6.unread x6))⟩,
    ⟨Rect.unit ![0, 512] ![1024, 512] inb_S1024x1536_S1024x512_0_512, k0_pay6 (F := Ideal) (groupRows i arg10 W) (View.readAt (Elt Ideal) arg5.view (Rect.unit (s := S1024x512) ![0, 0] ![1024, 512] inb_S1024x512_S1024x512_0_0).toLoadRect (harg5.unread x5))⟩,
    ⟨Rect.unit ![0, 0] ![1024, 512] inb_S1024x1536_S1024x512_0_0, k0_pay5 (F := Ideal) (groupRows i arg10 W) (View.readAt (Elt Ideal) arg4.view (Rect.unit (s := S1024x512) ![0, 0] ![1024, 512] inb_S1024x512_S1024x512_0_0).toLoadRect (harg4.unread x4))⟩]

theorem L7A_eq (h1 : k0_cond1 i = 1#1) : (runA (F := Ideal) c i arg2 harg2 arg3 harg3 arg4 harg4 arg5 harg5 arg6 harg6 arg7 harg7 arg8 harg8 arg9 harg9 arg10 harg10 h1 x2 x3 x4 x5 x6 f9 f10).1
    = outL i arg4 harg4 arg5 harg5 arg6 harg6 arg10 x4 x5 x6 (arg10.view.writes (Elt Ideal) f10 (runA (F := Ideal) c i arg2 harg2 arg3 harg3 arg4 harg4 arg5 harg5 arg6 harg6 arg7 harg7 arg8 harg8 arg9 harg9 arg10 harg10 h1 x2 x3 x4 x5 x6 f9 f10).2.2.2.1) := by
  sl_kernel_rfl

theorem L7B_eq (h1 : ¬ k0_cond1 i = 1#1) (x10 : Vec Ideal S3x1024x1024 .bf16) : (runB (F := Ideal) c i arg2 harg2 arg3 harg3 arg4 harg4 arg5 harg5 arg6 harg6 arg7 harg7 arg8 harg8 arg9 harg9 arg10 harg10 h1 x2 x3 x4 x5 x6 x10).1
    = outL i arg4 harg4 arg5 harg5 arg6 harg6 arg10 x4 x5 x6 (harg10.unread x10) := by
  sl_kernel_rfl

theorem out_read {U w : ℕ → ℕ → EReal} (hW : ∀ y, arg10.view.read (Elt Ideal) W y = rowsIn U y)
    (h4 : ∀ (k : Fin 1024) (e : Fin 512), x4 (ix2 k e) = w k (0 + e)) (h5 : ∀ (k : Fin 1024) (e : Fin 512), x5 (ix2 k e) = w k (512 + e))
    (h6 : ∀ (k : Fin 1024) (e : Fin 512), x6 (ix2 k e) = w k (1024 + e)) (f7 : arg7.view.ty.Contents (Elt Ideal)) (y : S1024x1536.Idx) :
    arg7.view.read (Elt Ideal) (arg7.view.writes (Elt Ideal) f7 (outL i arg4 harg4 arg5 harg5 arg6 harg6 arg10 x4 x5 x6 W)) y = products U (i 1).val w y := by
  have hg := groupRows_apply i arg10 W hW
  have hy : (y 1).val < 1536 := (y 1).isLt
  refine View.read_writes_apply_of_pieces _ _ _ _ (fun p hp x => ?_) y ?_
  · unfold outL at hp
    simp only [List.mem_cons, List.not_mem_nil, or_false] at hp
    rcases hp with rfl | rfl | rfl
    · exact (congrFun (pay7_eq _ _) x).trans (prod_agrees inb_S1024x1536_S1024x512_0_1024 _ _ hg (fun k e => (weights_apply arg6 harg6 x6 k e).trans (h6 k e)) x)
    · exact (congrFun (pay6_eq _ _) x).trans (prod_agrees inb_S1024x1536_S1024x512_0_512 _ _ hg (fun k e => (weights_apply arg5 harg5 x5 k e).trans (h5 k e)) x)
    · exact prod_agrees inb_S1024x1536_S1024x512_0_0 _ _ hg (fun k e => (weights_apply arg4 harg4 x4 k e).trans (h4 k e)) x
  · unfold outL
    obtain h | h | h : 1024 ≤ (y 1).val ∨ (512 ≤ (y 1).val ∧ (y 1).val < 1024) ∨ (y 1).val < 512 := by omega
    · exact ⟨_, .head _, prod_mem inb_S1024x1536_S1024x512_0_1024 y ⟨by omega, by omega⟩⟩
    · exact ⟨_, .tail _ (.head _), prod_mem inb_S1024x1536_S1024x512_0_512 y ⟨by omega, by omega⟩⟩
    · exact ⟨_, .tail _ (.tail _ (.head _)), prod_mem inb_S1024x1536_S1024x512_0_0 y ⟨by omega, by omega⟩⟩
end

end Cert.Kernel3Ideal.Att

end
-- ==== Proof.AttVal.lean ====
module

public import proofs.«01_k».proof.Proof.AttDot
public import proofs.«01_k».proof.Proof.AttFrame
public import Idealize.ShloMosaic.Lib.Pipeline.ValueKit

@[expose] public section

set_option maxRecDepth 65536

noncomputable section

/-! The queries, keys and values of the attention at an index. -/
namespace Cert.AttProj

open Cert.Retention

/-- The weight column of column `e` of group `g`: its queries, keys and values of 512 columns each. -/
def colOf (g e : ℕ) : ℕ := 1536 * (e / 512) + 512 * g + e % 512

/-- Row `r` of the result is a row of its own tile of 512: of the group's residues one after the other. The row, normed and modulated by its sequence's scale and shift,
    against a column of the weights. -/
def attAt (X : ℕ → ℕ → EReal) (M : ℕ → ℕ → ℕ → EReal) (W : ℕ → ℕ → EReal) (r col : ℕ) : EReal :=
  ∑ k : Fin 1024, normAt (X (Cert.Kernel3Ideal.Att.perm (col / 1536) r)) (M (r / 4096) 1) (M (r / 4096) 0) k * W k (colOf (col / 1536) (col % 1536))

theorem meanAt_congr {x x' : ℕ → EReal} (h : ∀ k : Fin 1024, x k = x' k) : meanAt x = meanAt x' := by
  unfold meanAt; rw [Finset.sum_congr rfl fun k _ => h k]
theorem varAt_congr {x x' : ℕ → EReal} (h : ∀ k : Fin 1024, x k = x' k) : varAt x = varAt x' := by
  unfold varAt; rw [meanAt_congr h, Finset.sum_congr rfl fun k _ => by rw [h k]]
theorem normAt_congr {x x' s s' u u' : ℕ → EReal} (h : ∀ k : Fin 1024, x k = x' k) (hs : ∀ k : Fin 1024, s k = s' k) (hu : ∀ k : Fin 1024, u k = u' k) (k : Fin 1024) :
    normAt x s u k = normAt x' s' u' k := by
  unfold normAt; rw [meanAt_congr h, varAt_congr h, h k, hs k, hu k]

end Cert.AttProj

/-! What the kernel leaves of them. -/
namespace Cert.Kernel3Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen Cert.AttProj Cert.Retention

local notation "𝕄" => MT nD τ sig Unit (Elt Ideal) ℕ (UR sig nD τ) ℕ

variable (m : (ℓ : Loc nD τ sig) → Buf (Elt Ideal) ℓ) (ρ : Dev nD → PrngReg)

/-- The activations, the modulation and the weights a launch finds. -/
def acts (c : Dev nD) : ℕ → ℕ → EReal := tot fun (r : Fin 16384) (k : Fin 1024) =>
  (m ((c : Thread nD τ).loc main_arg0) : Vec Ideal S4x4096x1024 .f32) (ix3 (⟨r.val / 4096, by omega⟩ : Fin 4) (⟨r.val % 4096, by omega⟩ : Fin 4096) k)
def mods (c : Dev nD) (b : ℕ) : ℕ → ℕ → EReal := tot fun (j : Fin 6) (k : Fin 1024) =>
  (m ((c : Thread nD τ).loc main_arg1) : Vec Ideal S4x6x1024 .f32) (ix3 (Fin.ofNat 4 b) j k)
def wts (c : Dev nD) : ℕ → ℕ → EReal := tot fun (k : Fin 1024) (n : Fin 12800) => (m ((c : Thread nD τ).loc main_arg2) : Vec Ideal S1x1024x12800 .f32) (ix3 (0 : Fin 1) k n)

theorem idx0 : ∀ t : Fin grid0.N, win0_0.index t = ![t.val / 3, 0] := by decide +kernel
theorem idx1 : ∀ t : Fin grid0.N, win0_1.index t = ![t.val / 12, 0, 0] := by decide +kernel
theorem idx2 : ∀ t : Fin grid0.N, win0_2.index t = ![0, t.val % 3] := by decide +kernel
theorem idx3 : ∀ t : Fin grid0.N, win0_3.index t = ![0, 3 + t.val % 3] := by decide +kernel
theorem idx4 : ∀ t : Fin grid0.N, win0_4.index t = ![0, 6 + t.val % 3] := by decide +kernel
theorem idx5 : ∀ t : Fin grid0.N, win0_5.index t = ![t.val / 3, t.val % 3] := by decide +kernel
theorem group_eq : ∀ t : Fin grid0.N, ((grid0.coords t) 1).val = t.val % 3 := by decide +kernel

theorem V_v0 (c : Dev nD) : (V m c main_v0 : Vec Ideal S16384x1024 .f32) = shapeCast S16384x1024 (m ((c : Thread nD τ).loc main_arg0) : Vec Ideal S4x4096x1024 .f32) shapeCasts_S4x4096x1024_S16384x1024 := rfl
theorem V_v2 (c : Dev nD) : (V m c main_v2 : Vec Ideal S1024x12800 .bf16) = truncf (F := Ideal) .bf16 (shapeCast S1024x12800 (m ((c : Thread nD τ).loc main_arg2) : Vec Ideal S1x1024x12800 .f32) shapeCasts_S1x1024x12800_S1024x12800) bitsLt_bf16_f32 := rfl

theorem v0_apply (c : Dev nD) (r : Fin 16384) (k : Fin 1024) : (V m c main_v0 : Vec Ideal S16384x1024 .f32) (ix2 r k) = acts m c r k := by
  rw [V_v0, acts, tot_of _ r.isLt k.isLt]
  refine shapeCast_apply _ _ _ (ix3 (⟨r.val / 4096, by omega⟩ : Fin 4) (⟨r.val % 4096, by omega⟩ : Fin 4096) k) ?_
  rw [Shape.rowMajor_val_two, Shape.rowMajor_val_three]
  show (r.val / 4096 * 4096 + r.val % 4096) * 1024 + k.val = r.val * 1024 + k.val
  omega

theorem v2_apply (c : Dev nD) (k : Fin 1024) (n : Fin 12800) : (V m c main_v2 : Vec Ideal S1024x12800 .bf16) (ix2 k n) = wts m c k n := by
  rw [V_v2, wts, tot_of _ k.isLt n.isLt]
  show shapeCast S1024x12800 (m ((c : Thread nD τ).loc main_arg2) : Vec Ideal S1x1024x12800 .f32) shapeCasts_S1x1024x12800_S1024x12800 (ix2 k n) = _
  refine shapeCast_apply _ _ _ (ix3 (0 : Fin 1) k n) ?_
  rw [Shape.rowMajor_val_two, Shape.rowMajor_val_three]
  show (0 * 1024 + k.val) * 12800 + n.val = k.val * 12800 + n.val
  omega

theorem blk0 (c : Dev nD) (t : Fin cfg0.N) (r : Fin 1024) (k : Fin 1024) :
    (iblk m c 0 t : Vec Ideal S1024x1024 .f32) (ix2 r k) = acts m c (1024 * (t.val / 3) + r) k := by
  have ht : t.val < 48 := t.isLt
  have h := v0_apply m c ⟨1024 * (t.val / 3) + r, by omega⟩ k
  refine Eq.trans ?_ h
  blk_simp [iblk]
  refine congrArg (V m c main_v0) ?_
  blk_ext [idx0 t]

theorem blk1 (c : Dev nD) (t : Fin cfg0.N) (j : Fin 6) (k : Fin 1024) :
    (iblk m c 1 t : Vec Ideal S1x6x1024 .f32) (ix3 (0 : Fin 1) j k) = mods m c (t.val / 12) j k := by
  have ht : t.val < 48 := t.isLt
  rw [mods, tot_of _ j.isLt k.isLt, ← V_main_arg1 m c]
  have e : (Fin.ofNat 4 (t.val / 12)) = (⟨t.val / 12, by omega⟩ : Fin 4) := Fin.ext (Nat.mod_eq_of_lt (by omega))
  rw [e]
  blk_simp [iblk]
  refine congrArg (V m c main_arg1) ?_
  blk_ext [idx1 t]

theorem blk2 (c : Dev nD) (t : Fin cfg0.N) (k : Fin 1024) (e : Fin 512) :
    (iblk m c 2 t : Vec Ideal S1024x512 .bf16) (ix2 k e) = wts m c k (512 * (t.val % 3) + e) := by
  have h := v2_apply m c k ⟨512 * (t.val % 3) + e, by omega⟩
  refine Eq.trans ?_ h
  blk_simp [iblk]
  refine congrArg (V m c main_v2) ?_
  blk_ext [idx2 t]

theorem blk3 (c : Dev nD) (t : Fin cfg0.N) (k : Fin 1024) (e : Fin 512) :
    (iblk m c 3 t : Vec Ideal S1024x512 .bf16) (ix2 k e) = wts m c k (512 * (3 + t.val % 3) + e) := by
  have h := v2_apply m c k ⟨512 * (3 + t.val % 3) + e, by omega⟩
  refine Eq.trans ?_ h
  blk_simp [iblk]
  refine congrArg (V m c main_v2) ?_
  blk_ext [idx3 t]

theorem blk4 (c : Dev nD) (t : Fin cfg0.N) (k : Fin 1024) (e : Fin 512) :
    (iblk m c 4 t : Vec Ideal S1024x512 .bf16) (ix2 k e) = wts m c k (512 * (6 + t.val % 3) + e) := by
  have h := v2_apply m c k ⟨512 * (6 + t.val % 3) + e, by omega⟩
  refine Eq.trans ?_ h
  blk_simp [iblk]
  refine congrArg (V m c main_v2) ?_
  blk_ext [idx4 t]

/-- The normed rows of block `b`. -/
def blockRows (c : Dev nD) (b r k : ℕ) : EReal := normAt (acts m c (1024 * b + r)) (mods m c (b / 4) 1) (mods m c (b / 4) 0) k

theorem perm_lt {g r : ℕ} (h : r < 1024) : perm g r < 1024 := by
  unfold perm; split_ifs <;> omega

theorem rows_eq (c : Dev nD) (t : Fin cfg0.N) (y : S3x1024x1024.Idx) :
    rowsIn (modRows (iblk m c 0 t) (iblk m c 1 t)) y = rowsIn (blockRows m c (t.val / 3)) y := by
  have h1 : (y 1).val < 1024 := (y 1).isLt
  have h2 : (y 2).val < 1024 := (y 2).isLt
  have hp := perm_lt (g := (y 0).val) h1
  unfold rowsIn
  generalize perm (y 0).val (y 1).val = r at hp ⊢
  have e : t.val / 3 / 4 = t.val / 12 := by omega
  unfold modRows blockRows
  rw [e]
  refine normAt_congr (k := ⟨(y 2).val, h2⟩) (fun k => ?_) (fun k => ?_) (fun k => ?_)
  · unfold rowOf; rw [tot_of _ hp k.isLt]; exact blk0 m c t ⟨r, hp⟩ k
  · refine Eq.trans ?_ (blk1 m c t 1 k)
    unfold scaleOf
    rw [tot_of _ (by omega) k.isLt]; rfl
  · refine Eq.trans ?_ (blk1 m c t 0 k)
    unfold shiftOf
    rw [tot_of _ (by omega) k.isLt]; rfl

/-- The columns of the weights a group reads. -/
def groupW (c : Dev nD) (g k e : ℕ) : EReal := wts m c k (colOf g e)

/-- The block the result takes at point `t`. -/
def outBlk (c : Dev nD) (t : Fin cfg0.N) : Vec Ideal S1024x1536 .bf16 := products (blockRows m c (t.val / 3)) (t.val % 3) (groupW m c (t.val % 3))

theorem outL_read (c : Dev nD) (t : Fin cfg0.N) (W : scr1.view.ty.Contents (Elt Ideal)) (hW : ∀ y, scr1.view.read (Elt Ideal) W y = rowsIn (blockRows m c (t.val / 3)) y) (f : (stg5 t).view.ty.Contents (Elt Ideal)) :
    (stg5 t).view.read (Elt Ideal) ((stg5 t).view.writes (Elt Ideal) f (outL (grid0.coords t) (stg2 t) (stgW2 t) (stg3 t) (stgW3 t) (stg4 t) (stgW4 t) scr1 (iblk m c 2 t) (iblk m c 3 t) (iblk m c 4 t) W)) = outBlk m c t := by
  funext y
  have ec : ∀ (o : ℕ) (e : Fin 512), colOf (t.val % 3) (512 * o + e) = 512 * (3 * o + t.val % 3) + e := fun o e => by unfold colOf; omega
  have h := out_read (grid0.coords t) (stg2 t) (stgW2 t) (stg3 t) (stgW3 t) (stg4 t) (stgW4 t) (stg5 t) scr1 (iblk m c 2 t) (iblk m c 3 t) (iblk m c 4 t) W (w := groupW m c (t.val % 3)) hW
    (fun k e => (blk2 m c t k e).trans (congrArg (wts m c k) (by have := ec 0 e; simp only [Nat.mul_zero, Nat.zero_add] at this ⊢; exact this.symm)))
    (fun k e => (blk3 m c t k e).trans (congrArg (wts m c k) (ec 1 e).symm))
    (fun k e => (blk4 m c t k e).trans (congrArg (wts m c k) (ec 2 e).symm)) f y
  rw [group_eq] at h
  exact h

/-- What the second scratch buffer holds before point `n`: the rows of the block it is in, once its first point is past. -/
def Carried (c : Dev nD) (n : ℕ) (s : Vec Ideal S3x1024x1024 .bf16) : Prop := n % 3 ≠ 0 → ∀ y, s y = rowsIn (blockRows m c (n / 3)) y

theorem Carried.next {c : Dev nD} {n : ℕ} {s : Vec Ideal S3x1024x1024 .bf16} (h : ∀ y, s y = rowsIn (blockRows m c (n / 3)) y) : Carried m c (n + 1) s := fun h' y => by
  rw [h y, show (n + 1) / 3 = n / 3 by omega]

/-- What the launch keeps between points. -/
def between (c : Dev nD) (n : ℕ) : sProp 𝕄 :=
  iprop(((∃ d, owns (c : Thread nD τ) scr0 fullShare d) ∗ (∃ (s : Vec Ideal S3x1024x1024 .bf16), ⌜Carried m c n s⌝ ∗ owns (c : Thread nD τ) scr1 fullShare s)) ∗ (∃ r, prngReg c r))

/-- The second result, of which nothing is said. -/
def silent6 : Fin 7 → Bool := fun w => w.val == 6

/-- What is said of each buffer: an input's keeps its block, the first result takes its block, of the second nothing is said. -/
def valDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
    | ⟨6, h⟩ => Pipeline.Dat.unnamed (cfg := cfg0) ⟨6, h⟩ t
  Φ t := between m c t.val
  q w := Pipeline.shareOf spec0 w
  owed _ := 0

theorem valDats_A (c : Dev nD) (w : Fin cfg0.W) : (valDats m 0 c).A w = V m c (Pipeline.arrRef spec0 w) := by
  dsimp only [valDats]
theorem valDats_before0 (c : Dev nD) (t : Fin cfg0.N) (d) : (valDats m 0 c).before 0 t d = iblk m c 0 t :=
  before0_0_of m (valDats m 0 c) (valDats_A m c 0) (fun t => by dsimp only [valDats]) t d
theorem valDats_leaves0 (c : Dev nD) (t : Fin cfg0.N) :
    (valDats m 0 c).leavesExact 0 t = owns (c : Thread nD τ) (stg0 t) fullShare (iblk m c 0 t) := by
  unfold Dat.leavesExact; rw [show cfg0.idle 0 (grid0.coords t) = false from rfl]; rfl
theorem valDats_before1 (c : Dev nD) (t : Fin cfg0.N) (d) : (valDats m 0 c).before 1 t d = iblk m c 1 t :=
  before0_1_of m (valDats m 0 c) (valDats_A m c 1) (fun t => by dsimp only [valDats]) t d
theorem valDats_leaves1 (c : Dev nD) (t : Fin cfg0.N) :
    (valDats m 0 c).leavesExact 1 t = owns (c : Thread nD τ) (stg1 t) fullShare (iblk m c 1 t) := by
  unfold Dat.leavesExact; rw [show cfg0.idle 1 (grid0.coords t) = false from rfl]; rfl
theorem valDats_before2 (c : Dev nD) (t : Fin cfg0.N) (d) : (valDats m 0 c).before 2 t d = iblk m c 2 t :=
  before0_2_of m (valDats m 0 c) (valDats_A m c 2) (fun t => by dsimp only [valDats]) t d
theorem valDats_leaves2 (c : Dev nD) (t : Fin cfg0.N) :
    (valDats m 0 c).leavesExact 2 t = owns (c : Thread nD τ) (stg2 t) fullShare (iblk m c 2 t) := by
  unfold Dat.leavesExact; rw [show cfg0.idle 2 (grid0.coords t) = false from rfl]; rfl
theorem valDats_before3 (c : Dev nD) (t : Fin cfg0.N) (d) : (valDats m 0 c).before 3 t d = iblk m c 3 t :=
  before0_3_of m (valDats m 0 c) (valDats_A m c 3) (fun t => by dsimp only [valDats]) t d
theorem valDats_leaves3 (c : Dev nD) (t : Fin cfg0.N) :
    (valDats m 0 c).leavesExact 3 t = owns (c : Thread nD τ) (stg3 t) fullShare (iblk m c 3 t) := by
  unfold Dat.leavesExact; rw [show cfg0.idle 3 (grid0.coords t) = false from rfl]; rfl
theorem valDats_before4 (c : Dev nD) (t : Fin cfg0.N) (d) : (valDats m 0 c).before 4 t d = iblk m c 4 t :=
  before0_4_of m (valDats m 0 c) (valDats_A m c 4) (fun t => by dsimp only [valDats]) t d
theorem valDats_leaves4 (c : Dev nD) (t : Fin cfg0.N) :
    (valDats m 0 c).leavesExact 4 t = owns (c : Thread nD τ) (stg4 t) fullShare (iblk m c 4 t) := by
  unfold Dat.leavesExact; rw [show cfg0.idle 4 (grid0.coords t) = false from rfl]; rfl

theorem valDats_leaves5 (c : Dev nD) (t : Fin cfg0.N) :
    (valDats m 0 c).leavesExact 5 t = owns (c : Thread nD τ) (stg5 t) fullShare (outBlk m c t) := by
  unfold Dat.leavesExact; rw [show cfg0.idle 5 (grid0.coords t) = false from rfl]; rfl

/-- What the body takes at point `t`. -/
def valPre (c : Dev nD) (t : Fin cfg0.N) : sProp 𝕄 :=
  iprop((valDats m 0 c).Φ t.castSucc ∗ (valDats m 0 c).owesAt () t.castSucc
    ∗ (∃ d, owns (c : Thread nD τ) (stg0 t) fullShare ((valDats m 0 c).before 0 t d))
    ∗ (∃ d, owns (c : Thread nD τ) (stg1 t) fullShare ((valDats m 0 c).before 1 t d))
    ∗ (∃ d, owns (c : Thread nD τ) (stg2 t) fullShare ((valDats m 0 c).before 2 t d))
    ∗ (∃ d, owns (c : Thread nD τ) (stg3 t) fullShare ((valDats m 0 c).before 3 t d))
    ∗ (∃ d, owns (c : Thread nD τ) (stg4 t) fullShare ((valDats m 0 c).before 4 t d))
    ∗ (∃ d, owns (c : Thread nD τ) (stg5 t) fullShare ((valDats m 0 c).before 5 t d))
    ∗ (∃ d, owns (c : Thread nD τ) (stg6 t) fullShare d))

/-- What the body gives back at point `t`. -/
def valPost (c : Dev nD) (t : Fin cfg0.N) : sProp 𝕄 :=
  iprop((valDats m 0 c).Φ t.succ ∗ (valDats m 0 c).owesAt () t.succ
    ∗ (valDats m 0 c).leavesExact 0 t
    ∗ (valDats m 0 c).leavesExact 1 t
    ∗ (valDats m 0 c).leavesExact 2 t
    ∗ (valDats m 0 c).leavesExact 3 t
    ∗ (valDats m 0 c).leavesExact 4 t
    ∗ (valDats m 0 c).leavesExact 5 t
    ∗ (∃ d, owns (c : Thread nD τ) (stg6 t) fullShare d))

set_option maxHeartbeats 4000000 in
/-- The body at any point: one run for the first point of a row block, one for the others. -/
theorem val_body (c : Dev nD) (t : Fin cfg0.N) :
    valPre m c t ⊢ wp frame (wpE (defs₀ (F := Ideal)) Variants.none c none) Set.univ (bodyAt0 t) (fun _ => valPost m c t) := by
  unfold valPre valPost bodyAt0
  simp only [valDats_before0, valDats_before1, valDats_before2, valDats_before3, valDats_before4, valDats_leaves0, valDats_leaves1, valDats_leaves2, valDats_leaves3, valDats_leaves4, valDats_leaves5]
  rw [show (valDats m 0 c).owesAt () t.succ = (valDats m 0 c).owesAt () t.castSucc from rfl]
  rw [show (valDats m 0 c).Φ t.castSucc = between m c t.val from rfl, show (valDats m 0 c).Φ t.succ = between m c (t.val + 1) from rfl]
  unfold between
  iintro ⟨⟨⟨⟨%s0, HS0⟩, ⟨%s1, %hI, HS1⟩⟩, Hg⟩, Ho, ⟨%d0, H0⟩, ⟨%d1, H1⟩, ⟨%d2, H2⟩, ⟨%d3, H3⟩, ⟨%d4, H4⟩, ⟨%d5, H5⟩, ⟨%d6, H6⟩⟩
  by_cases hq : t.val % 3 = 0
  · unfold owns
    icases HS0 with ⟨%g0, -, HS0⟩
    icases HS1 with ⟨%g1, -, HS1⟩
    icases H5 with ⟨%g5, -, H5⟩
    icases H6 with ⟨%g6, -, H6⟩
    have hrow : ∀ y, scr1.view.read (Elt Ideal) (scr1.view.writes (Elt Ideal) g1 (runA (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) (iblk m c 2 t) (iblk m c 3 t) (iblk m c 4 t) g0 g1).2.2.2.1) y = rowsIn (blockRows m c (t.val / 3)) y := fun y =>
      (rows_read c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) g0 g1 (iblk m c 2 t) (iblk m c 3 t) (iblk m c 4 t) y).trans (rows_eq m c t y)
    have hout : (stg5 t).view.read (Elt Ideal) ((stg5 t).view.writes (Elt Ideal) g5 (runA (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) (iblk m c 2 t) (iblk m c 3 t) (iblk m c 4 t) g0 g1).1) = outBlk m c t := by
      rw [L7A_eq]; exact outL_read m c t _ hrow g5
    iapply ((runA (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) (iblk m c 2 t) (iblk m c 3 t) (iblk m c 4 t) g0 g1).2.2.2.2 g5 g6 Set.univ _)
    simp only [View.writes_nil]
    unfold owns
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _, _; isplitr; swap; iexact HS0; ipureintro; rfl
        iexists (scr1.view.read (Elt Ideal) (scr1.view.writes (Elt Ideal) g1 (runA (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 ((first_iff t).mpr hq) (iblk m c 0 t) (iblk m c 1 t) (iblk m c 2 t) (iblk m c 3 t) (iblk m c 4 t) g0 g1).2.2.2.1))
        isplitr; · ipureintro; exact Carried.next m hrow
        iexists _; isplitr; swap; iexact HS1; ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; iexact H5; ipureintro; exact hout
    iexists _, _; isplitr; swap; iexact H6; ipureintro; rfl
  · have hrow : ∀ y, scr1.view.read (Elt Ideal) (scrW1.unread s1) y = rowsIn (blockRows m c (t.val / 3)) y := fun y => by rw [scrW1.read_unread]; exact hI hq y
    iapply ((runB (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 (fun h => hq ((first_iff t).mp h)) (iblk m c 0 t) (iblk m c 1 t) (iblk m c 2 t) (iblk m c 3 t) (iblk m c 4 t) s1).2 d6 s0 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e, H5⟩, H6, HS0, HS1⟩
    have hout : (stg5 t).view.read (Elt Ideal) ((stg5 t).view.writes (Elt Ideal) e (runB (F := Ideal) c (grid0.coords t) (stg0 t) (stgW0 t) (stg1 t) (stgW1 t) (stg2 t) (stgW2 t) (stg3 t) (stgW3 t) (stg4 t) (stgW4 t) (stg5 t) (stgW5 t) (stg6 t) (stgW6 t) scr0 scrW0 scr1 scrW1 (fun h => hq ((first_iff t).mp h)) (iblk m c 0 t) (iblk m c 1 t) (iblk m c 2 t) (iblk m c 3 t) (iblk m c 4 t) s1).1) = outBlk m c t := by
      rw [L7B_eq]; exact outL_read m c t _ hrow e
    isplitl [HS0 HS1 Hg]
    · isplitl [HS0 HS1]
      · isplitl [HS0]
        · iexists _; iexact HS0
        iexists s1
        isplitr; · ipureintro; exact Carried.next m (hI hq)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap; iexact H5; ipureintro; exact hout
    iexists _; iexact H6

theorem val_obligation (c : Dev nD) : BodyObligation (valDats m 0 c) (defs₀ (F := Ideal)) Variants.none () Set.univ silent6 := fun t => by
  rw [bigSep_W0, bigSep_W0, defs₀_row]
  exact triple_restated (val_body m c t) rfl .rfl fun _ => .rfl

theorem val_in (c : Dev nD) : Pipeline.ΦA spec0 c ⊢ (valDats m 0 c).Φ 0 := by
  rw [show (valDats m 0 c).Φ 0 = between m c 0 from rfl, between_eq]
  unfold between
  iintro ⟨⟨H0, ⟨%s1, HS1⟩⟩, Hg⟩
  isplitl [H0 HS1]
  · isplitl [H0]; · iexact H0
    iexists s1
    isplitr; · ipureintro; exact fun h => absurd rfl h
    iexact HS1
  iexact Hg

theorem val_out (c : Dev nD) : (valDats m 0 c).Φ (Fin.last cfg0.N) ⊢ Pipeline.ΦA spec0 c := by
  rw [show (valDats m 0 c).Φ (Fin.last cfg0.N) = between m c cfg0.N from rfl, between_eq]
  unfold between
  iintro ⟨⟨H0, ⟨%s1, %hI, HS1⟩⟩, Hg⟩
  isplitl [H0 HS1]
  · isplitl [H0]; · iexact H0
    iexists s1; iexact HS1
  iexact Hg

set_option backward.isDefEq.respectTransparency.types false in
theorem val_run : θ_run defs (onTc (τ := τ) (main (F := Ideal))) (s₀ m ρ) (fun r => (Pipeline.RDat.FramePost (cfgs 0) (fun c => (valDats m 0 c).toRForget silent6) (V m)) r ∧ r.2.sem = fun _ => 0) :=
  Pipeline.θ_run_frame_track_forget_shared (Q' := _) cfgs (valDats m) (0 : Fin 1) launch₀0 defs₀ Variants.none silent6 m ρ main
    (hbody := fun c => (val_obligation m c).loose) (hq := fun _ _ _ => rfl)
    (howed := fun _ _ => rfl) (V := V m) (hmain := hmain m Variants.none) (hA := valDats_A m) (hin := val_in m) (hout := val_out m)

/-- The result: every block as its point leaves it. -/
def result (c : Dev nD) : Vec Ideal S16384x4608 .bf16 := fun y => attAt (acts m c) (mods m c) (wts m c) (y 0).val (y 1).val

theorem perm_block (b g r : ℕ) (hr : r < 1024) : 1024 * b + perm g r = perm g (1024 * b + r) := by
  unfold perm; split_ifs <;> omega

theorem result_arr (c : Dev nD) : (valDats m 0 c).arrAt 5 cfg0.N = result m c := by
  refine (valDats m 0 c).arrAt_eq_of_covers 5 _ (by decide +kernel) fun t hf y => ?_
  have ht : t.val < 48 := t.isLt
  have h0 : (y 0).val < 1024 := (y 0).isLt
  have h1 : (y 1).val < 1536 := (y 1).isLt
  blk_simp [result, idx5 t]
  rw [Nat.mul_comm (t.val / 3) 1024, Nat.mul_comm (t.val % 3) 1536]
  show outBlk m c t y = _
  unfold outBlk products attAt groupW blockRows
  rw [show (1536 * (t.val % 3) + (y 1).val) / 1536 = t.val % 3 by omega, show (1536 * (t.val % 3) + (y 1).val) % 1536 = (y 1).val by omega,
    show (1024 * (t.val / 3) + (y 0).val) / 4096 = t.val / 3 / 4 by omega, ← perm_block _ _ _ h0]

/-- The whole run: the result, the arguments unchanged. -/
theorem val_args : θ_run defs (onTc (τ := τ) (main (F := Ideal))) ⟨m, fun _ => 0, ρ⟩ (fun r => ∀ c : Dev nD,
      r.2.mem ((c.tc : Thread nD τ).loc main_v3_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((Dat.toRForget_arrAt_iff (valDats m 0 c) (fgt := silent6) (w := (5 : Fin cfg0.W)) rfl _ _).mp ((h.1 c).1 5)).trans (result_arr m c),
      ((h.1 c).2 main_arg0 (Pipeline.mem_restRefs_of main_arg0 (by decide) (by decide))).trans (V_main_arg0 m c),
      ((Dat.toRForget_arrAt_iff (valDats m 0 c) (fgt := silent6) (w := (1 : Fin cfg0.W)) rfl _ _).mp ((h.1 c).1 1)).trans (((valDats m 0 c).arrAt_in 1 rfl _).trans ((valDats_A m c 1).trans (V_main_arg1 m c))),
      ((h.1 c).2 main_arg2 (Pipeline.mem_restRefs_of main_arg2 (by decide) (by decide))).trans (V_main_arg2 m c)⟩) (val_run m ρ)

end Cert.Kernel3Ideal.Att

end
-- ==== Proof.AttRef.lean ====
module

public import proofs.«01_k».proof.Proof.AttVal
public import proofs.«01_k».proof.Proof.Gen.Reference3Ideal

@[expose] public section

set_option maxRecDepth 16384

noncomputable section

/-! The reference of the queries, keys and values, read in steps. -/
namespace Cert.Reference3Ideal.Att

open Idealize.ShloMosaic Idealize.ShloMosaic.TcCoe Idealize.ShloMosaic.Tactic
open Idealize.SL Idealize.SL.Sem
open Cert.Reference3Ideal Cert.Reference3Ideal.Gen Cert.Retention Cert.AttProj
open Cert.Kernel3Ideal.Att (perm)

section
variable {F : FTy → Type} [FloatOps F]

/-- The mean of each row. -/
def meanT (Y : FVec F S4x4096x1024 .f32) : FVec F S4x4096x1 .f32 :=
  Host.divf (broadcastInDim S4x4096x1 ![0, 1] bcast_S4x4096_S4x4096x1_0_1 (Host.reduceAdd Y (constant S_ .f32 0x00000000#32) reducesTo_S4x4096x1024_S4x4096_d2 h_S_))
    (broadcastInDim S4x4096x1 ![] bcast_S_S4x4096x1 (constant S_ .f32 0x44800000#32))
/-- Each row less its mean. -/
def lessMean (Y : FVec F S4x4096x1024 .f32) : FVec F S4x4096x1024 .f32 :=
  subf Y (broadcastInDim S4x4096x1024 ![0, 1, 2] bcast_S4x4096x1_S4x4096x1024_0_1_2 (meanT Y))
/-- Each row normed. -/
def normed (Z : FVec F S4x4096x1024 .f32) : FVec F S4x4096x1024 .f32 :=
  mulf Z (broadcastInDim S4x4096x1024 ![0, 1, 2] bcast_S4x4096x1_S4x4096x1024_0_1_2 (Host.rsqrt (addf (meanT (mulf Z Z)) (broadcastInDim S4x4096x1 ![] bcast_S_S4x4096x1 (constant S_ .f32 0x3727C5AC#32)))))
/-- The scale and the shift of each sequence. -/
def scaleT (a1 : Vec F S4x6x1024 .f32) : FVec F S4x1024 .f32 := shapeCast _ (extractStridedSlice S4x1x1024 ![0, 1, 0] a1 slices_S4x6x1024_S4x1x1024_0_1_0) shapeCasts_S4x1x1024_S4x1024
def shiftT (a1 : Vec F S4x6x1024 .f32) : FVec F S4x1024 .f32 := shapeCast _ (extractStridedSlice S4x1x1024 ![0, 0, 0] a1 slices_S4x6x1024_S4x1x1024_0_0_0) shapeCasts_S4x1x1024_S4x1024
/-- The normed rows modulated. -/
def modulated (N : FVec F S4x4096x1024 .f32) (sc sh : FVec F S4x1024 .f32) : FVec F S4x4096x1024 .f32 :=
  addf (mulf N (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc))))
    (broadcastInDim S4x4096x1024 ![0, 1, 2] bcast_S4x1x1024_S4x4096x1024_0_1_2 (broadcastInDim S4x1x1024 ![0, 2] bcast_S4x1024_S4x1x1024_0_2 sh))
/-- The projection. -/
def proj (U : FVec F S4x4096x1024 .f32) (a2 : Vec F S1x1024x12800 .f32) : FVec F S4x4096x12800 .f32 :=
  Host.dotGeneral dot_S4x4096x1024_S1024x12800_S4x4096x12800_2_0_01_1_n_n none U (shapeCast _ a2 shapeCasts_S1x1024x12800_S1024x12800)
def projOf (a0 : Vec F S4x4096x1024 .f32) (a1 : Vec F S4x6x1024 .f32) (a2 : Vec F S1x1024x12800 .f32) : FVec F S4x4096x12800 .f32 :=
  proj (modulated (normed (lessMean a0)) (scaleT a1) (shiftT a1)) a2

/-- The queries, the keys and the values of all groups. -/
def aqT (P : FVec F S4x4096x12800 .f32) : FVec F S4x4096x1536 .f32 := extractStridedSlice S4x4096x1536 ![0, 0, 0] P slices_S4x4096x12800_S4x4096x1536_0_0_0
def akT (P : FVec F S4x4096x12800 .f32) : FVec F S4x4096x1536 .f32 := extractStridedSlice S4x4096x1536 ![0, 0, 1536] P slices_S4x4096x12800_S4x4096x1536_0_0_1536
def avT (P : FVec F S4x4096x12800 .f32) : FVec F S4x4096x1536 .f32 := extractStridedSlice S4x4096x1536 ![0, 0, 3072] P slices_S4x4096x12800_S4x4096x1536_0_0_3072
/-- A group of 512 columns, each tile of 512 rows by residues of the group's dilation. -/
def sub0 (T : FVec F S4x4096x1536 .f32) : FVec F S16384x512 .f32 := shapeCast _ (transpose S32x1x512x512 [0, 2, 1, 3] (shapeCast _ (extractStridedSlice S4x4096x512 ![0, 0, 0] T slices_S4x4096x1536_S4x4096x512_0_0_0)
  shapeCasts_S4x4096x512_S32x512x1x512) transposes_S32x512x1x512_S32x1x512x512_0_2_1_3) shapeCasts_S32x1x512x512_S16384x512
def sub1 (T : FVec F S4x4096x1536 .f32) : FVec F S16384x512 .f32 := shapeCast _ (transpose S32x4x128x512 [0, 2, 1, 3] (shapeCast _ (extractStridedSlice S4x4096x512 ![0, 0, 512] T slices_S4x4096x1536_S4x4096x512_0_0_512)
  shapeCasts_S4x4096x512_S32x128x4x512) transposes_S32x128x4x512_S32x4x128x512_0_2_1_3) shapeCasts_S32x4x128x512_S16384x512
def sub2 (T : FVec F S4x4096x1536 .f32) : FVec F S16384x512 .f32 := shapeCast _ (transpose S32x16x32x512 [0, 2, 1, 3] (shapeCast _ (extractStridedSlice S4x4096x512 ![0, 0, 1024] T slices_S4x4096x1536_S4x4096x512_0_0_1024)
  shapeCasts_S4x4096x512_S32x32x16x512) transposes_S32x32x16x512_S32x16x32x512_0_2_1_3) shapeCasts_S32x16x32x512_S16384x512
/-- The nine pieces side by side. -/
def joined (u0 u1 u2 u3 u4 u5 u6 u7 u8 : FVec F S16384x512 .f32) : Vec F S16384x4608 .bf16 :=
  truncf .bf16 (concatenate S16384x4608 1 [⟨S16384x512, u0⟩, ⟨S16384x512, u1⟩, ⟨S16384x512, u2⟩, ⟨S16384x512, u3⟩, ⟨S16384x512, u4⟩, ⟨S16384x512, u5⟩, ⟨S16384x512, u6⟩, ⟨S16384x512, u7⟩, ⟨S16384x512, u8⟩]
    concatenates_S16384x512_S16384x512_S16384x512_S16384x512_S16384x512_S16384x512_S16384x512_S16384x512_S16384x512_S16384x4608_d1) bitsLt_bf16_f32
def joinOf (P : FVec F S4x4096x12800 .f32) : Vec F S16384x4608 .bf16 :=
  joined (sub0 (aqT P)) (sub0 (akT P)) (sub0 (avT P)) (sub1 (aqT P)) (sub1 (akT P)) (sub1 (avT P)) (sub2 (aqT P)) (sub2 (akT P)) (sub2 (avT P))

end

theorem lessMean_apply (Y : FVec Ideal S4x4096x1024 .f32) (b : Fin 4) (n : Fin 4096) (k : Fin 1024) :
    lessMean Y (ix3 b n k) = Y (ix3 b n k) - Ideal.div (∑ j : Fin 1024, Y (ix3 b n j)) (Ideal.ofBits .f32 0x44800000#32) := by
  simp only [lessMean, meanT]; pointwise

theorem normed_apply (Z : FVec Ideal S4x4096x1024 .f32) (b : Fin 4) (n : Fin 4096) (k : Fin 1024) :
    normed Z (ix3 b n k) = Z (ix3 b n k) * Ideal.rsqrt (Ideal.div (∑ j : Fin 1024, Z (ix3 b n j) * Z (ix3 b n j)) (Ideal.ofBits .f32 0x44800000#32) + Ideal.ofBits .f32 0x3727C5AC#32) := by
  simp only [normed, meanT]; pointwise

theorem scaleT_apply (a1 : Vec Ideal S4x6x1024 .f32) (b : Fin 4) (k : Fin 1024) : scaleT a1 (ix2 b k) = a1 (ix3 b (1 : Fin 6) k) := by
  refine (shapeCast_apply _ _ _ (ix3 b (0 : Fin 1) k) ?_).trans ?_
  · rw [Shape.rowMajor_val_two, Shape.rowMajor_val_three]
    show (b.val * 1 + 0) * 1024 + k.val = b.val * 1024 + k.val
    omega
  · pointwise
theorem shiftT_apply (a1 : Vec Ideal S4x6x1024 .f32) (b : Fin 4) (k : Fin 1024) : shiftT a1 (ix2 b k) = a1 (ix3 b (0 : Fin 6) k) := by
  refine (shapeCast_apply _ _ _ (ix3 b (0 : Fin 1) k) ?_).trans ?_
  · rw [Shape.rowMajor_val_two, Shape.rowMajor_val_three]
    show (b.val * 1 + 0) * 1024 + k.val = b.val * 1024 + k.val
    omega
  · pointwise

theorem modulated_apply (N : FVec Ideal S4x4096x1024 .f32) (sc sh : FVec Ideal S4x1024 .f32) (b : Fin 4) (n : Fin 4096) (k : Fin 1024) :
    modulated N sc sh (ix3 b n k) = N (ix3 b n k) * (Ideal.ofBits .f32 0x3F800000#32 + sc (ix2 b k)) + sh (ix2 b k) := by
  simp only [modulated]; pointwise

theorem proj_apply (U : FVec Ideal S4x4096x1024 .f32) (a2 : Vec Ideal S1x1024x12800 .f32) (b : Fin 4) (n : Fin 4096) (j : Fin 12800) :
    proj U a2 (ix3 b n j) = ∑ k : Fin 1024, U (ix3 b n k) * a2 (ix3 (0 : Fin 1) k j) := by
  have h : ∀ k : Fin 1024, shapeCast S1024x12800 a2 shapeCasts_S1x1024x12800_S1024x12800 (ix2 k j) = a2 (ix3 (0 : Fin 1) k j) := fun k => by
    refine shapeCast_apply _ _ _ (ix3 (0 : Fin 1) k j) ?_
    rw [Shape.rowMajor_val_two, Shape.rowMajor_val_three]
    show (0 * 1024 + k.val) * 12800 + j.val = k.val * 12800 + j.val
    omega
  unfold proj
  generalize shapeCast S1024x12800 a2 shapeCasts_S1x1024x12800_S1024x12800 = W at h ⊢
  simp only [← h]
  pointwise

/-- The activations, the modulation and the weights, as tables. -/
def actsOf (a0 : Vec Ideal S4x4096x1024 .f32) : ℕ → ℕ → EReal := tot fun (r : Fin 16384) (k : Fin 1024) =>
  a0 (ix3 (⟨r.val / 4096, by omega⟩ : Fin 4) (⟨r.val % 4096, by omega⟩ : Fin 4096) k)
def modsOf (a1 : Vec Ideal S4x6x1024 .f32) (b : ℕ) : ℕ → ℕ → EReal := tot fun (j : Fin 6) (k : Fin 1024) => a1 (ix3 (Fin.ofNat 4 b) j k)
def wtsOf (a2 : Vec Ideal S1x1024x12800 .f32) : ℕ → ℕ → EReal := tot fun (k : Fin 1024) (n : Fin 12800) => a2 (ix3 (0 : Fin 1) k n)

/-- Row `r` of the projection at column `j`. -/
def cell (a0 : Vec Ideal S4x4096x1024 .f32) (a1 : Vec Ideal S4x6x1024 .f32) (a2 : Vec Ideal S1x1024x12800 .f32) (r j : ℕ) : EReal :=
  ∑ k : Fin 1024, normAt (actsOf a0 r) (modsOf a1 (r / 4096) 1) (modsOf a1 (r / 4096) 0) k * wtsOf a2 k j

theorem actsOf_apply (a0 : Vec Ideal S4x4096x1024 .f32) (b : Fin 4) (n : Fin 4096) (k : Fin 1024) : actsOf a0 (4096 * b + n) k = a0 (ix3 b n k) := by
  have hb := b.isLt
  have hn := n.isLt
  rw [actsOf, tot_of _ (by omega) k.isLt]
  have e0 : (⟨(4096 * b.val + n.val) / 4096, by omega⟩ : Fin 4) = b := Fin.ext (by show (4096 * b.val + n.val) / 4096 = b.val; omega)
  have e1 : (⟨(4096 * b.val + n.val) % 4096, by omega⟩ : Fin 4096) = n := Fin.ext (by show (4096 * b.val + n.val) % 4096 = n.val; omega)
  show a0 (ix3 (⟨(4096 * b.val + n.val) / 4096, _⟩ : Fin 4) (⟨(4096 * b.val + n.val) % 4096, _⟩ : Fin 4096) k) = _
  rw [e0, e1]

theorem modsOf_apply (a1 : Vec Ideal S4x6x1024 .f32) (b : Fin 4) (j : Fin 6) (k : Fin 1024) : modsOf a1 b j k = a1 (ix3 b j k) := by
  rw [modsOf, tot_of _ j.isLt k.isLt, show Fin.ofNat 4 b.val = b from Fin.ext (Nat.mod_eq_of_lt b.isLt)]

theorem projOf_apply (a0 : Vec Ideal S4x4096x1024 .f32) (a1 : Vec Ideal S4x6x1024 .f32) (a2 : Vec Ideal S1x1024x12800 .f32) (b : Fin 4) (n : Fin 4096) (j : Fin 12800) :
    projOf a0 a1 a2 (ix3 b n j) = cell a0 a1 a2 (4096 * b + n) j := by
  have hn := n.isLt
  unfold projOf cell
  rw [proj_apply, show (4096 * b.val + n.val) / 4096 = b.val by omega]
  refine Finset.sum_congr rfl fun k _ => congrArg₂ (fun a b : EReal => a * b) ?_ ?_
  · have e0 : modsOf a1 b 0 k = a1 (ix3 b (0 : Fin 6) k) := modsOf_apply a1 b 0 k
    have e1 : modsOf a1 b 1 k = a1 (ix3 b (1 : Fin 6) k) := modsOf_apply a1 b 1 k
    rw [modulated_apply, normed_apply, scaleT_apply, shiftT_apply]
    unfold normAt varAt meanAt
    rw [e0, e1]
    simp only [lessMean_apply, actsOf_apply]
  · rw [wtsOf, tot_of _ k.isLt j.isLt]

theorem aqT_apply (P : FVec Ideal S4x4096x12800 .f32) (b : Fin 4) (n : Fin 4096) (j : Fin 1536) : aqT P (ix3 b n j) = P (ix3 b n (⟨0 + j, by omega⟩ : Fin 12800)) := by
  pointwise [aqT]
theorem akT_apply (P : FVec Ideal S4x4096x12800 .f32) (b : Fin 4) (n : Fin 4096) (j : Fin 1536) : akT P (ix3 b n j) = P (ix3 b n (⟨1536 + j, by omega⟩ : Fin 12800)) := by
  pointwise [akT]
theorem avT_apply (P : FVec Ideal S4x4096x12800 .f32) (b : Fin 4) (n : Fin 4096) (j : Fin 1536) : avT P (ix3 b n j) = P (ix3 b n (⟨3072 + j, by omega⟩ : Fin 12800)) := by
  pointwise [avT]

/-- A place within a tile of 512 does not leave the sequence. -/
theorem tile_seq (x w : ℕ) (hw : w < 512) : (512 * x + w) / 4096 = x / 8 := by omega
theorem place4 (r : ℕ) : r % 512 / 128 + 4 * (r % 128) < 512 := by
  have h : r % 128 = r % 512 % 128 := by omega
  omega
theorem place16 (r : ℕ) : r % 512 / 32 + 16 * (r % 32) < 512 := by
  have h : r % 32 = r % 512 % 32 := by omega
  omega
theorem place1 (r : ℕ) : r % 512 / 512 + 1 * (r % 512) < 512 := by omega
theorem in_seq {u r : ℕ} (h : u / 4096 = r / 4096) : 4096 * (r / 4096) + u % 4096 = u := by omega
theorem seq_of (r d q : ℕ) (h : r % 512 / q + d * (r % q) < 512) : (512 * (r / 512) + r % 512 / q + d * (r % q)) / 4096 = r / 4096 := by
  rw [Nat.add_assoc, tile_seq _ _ h]; omega

theorem sub0_apply {C : ℕ → ℕ → EReal} {o : ℕ} (T : FVec Ideal S4x4096x1536 .f32) (hT : ∀ (b : Fin 4) (n : Fin 4096) (j : Fin 1536), T (ix3 b n j) = C (4096 * b + n) (o + j))
    (r : Fin 16384) (e : Fin 512) : sub0 T (ix2 r e) = C (perm 0 r) (o + (0 + e)) := by
  have hr := r.isLt
  have hx := seq_of r.val 1 512 (place1 r.val)
  have e1 : sub0 T (ix2 r e) = (transpose S32x1x512x512 [0, 2, 1, 3] (shapeCast S32x512x1x512 (extractStridedSlice S4x4096x512 ![0, 0, 0] T slices_S4x4096x1536_S4x4096x512_0_0_0)
      shapeCasts_S4x4096x512_S32x512x1x512) transposes_S32x512x1x512_S32x1x512x512_0_2_1_3) (ix4 (⟨r / 512, by omega⟩ : Fin 32) (⟨r % 512 / 512, by omega⟩ : Fin 1) (⟨r % 512, by omega⟩ : Fin 512) e) := by
    refine shapeCast_apply _ _ _ _ ?_
    rw [Shape.rowMajor_val_two, Shape.rowMajor_val_four]
    show ((r.val / 512 * 1 + r.val % 512 / 512) * 512 + r.val % 512) * 512 + e.val = r.val * 512 + e.val
    omega
  have e2 : shapeCast S32x512x1x512 (extractStridedSlice S4x4096x512 ![0, 0, 0] T slices_S4x4096x1536_S4x4096x512_0_0_0) shapeCasts_S4x4096x512_S32x512x1x512
      (ix4 (⟨r / 512, by omega⟩ : Fin 32) (⟨r % 512, by omega⟩ : Fin 512) (⟨r % 512 / 512, by omega⟩ : Fin 1) e)
      = extractStridedSlice S4x4096x512 ![0, 0, 0] T slices_S4x4096x1536_S4x4096x512_0_0_0 (ix3 (⟨r / 4096, by omega⟩ : Fin 4) (⟨(512 * (r / 512) + r % 512 / 512 + 1 * (r % 512)) % 4096, by omega⟩ : Fin 4096) e) := by
    refine shapeCast_apply _ _ _ _ ?_
    rw [Shape.rowMajor_val_three, Shape.rowMajor_val_four]
    show (r.val / 4096 * 4096 + (512 * (r.val / 512) + r.val % 512 / 512 + 1 * (r.val % 512)) % 4096) * 512 + e.val = ((r.val / 512 * 512 + r.val % 512) * 1 + r.val % 512 / 512) * 512 + e.val
    clear e1
    generalize r.val % 512 / 512 = u at hx ⊢
    generalize r.val % 512 = v at hx ⊢
    omega
  have e3 : extractStridedSlice S4x4096x512 ![0, 0, 0] T slices_S4x4096x1536_S4x4096x512_0_0_0 (ix3 (⟨r / 4096, by omega⟩ : Fin 4) (⟨(512 * (r / 512) + r % 512 / 512 + 1 * (r % 512)) % 4096, by omega⟩ : Fin 4096) e)
      = T (ix3 (⟨r / 4096, by omega⟩ : Fin 4) (⟨(512 * (r / 512) + r % 512 / 512 + 1 * (r % 512)) % 4096, by omega⟩ : Fin 4096) (⟨0 + e, by omega⟩ : Fin 1536)) := by
    pointwise
  rw [e1]
  generalize shapeCast S32x512x1x512 (extractStridedSlice S4x4096x512 ![0, 0, 0] T slices_S4x4096x1536_S4x4096x512_0_0_0) shapeCasts_S4x4096x512_S32x512x1x512 = X at e2 ⊢
  refine Eq.trans ?_ ((e2.trans e3).trans ((hT _ _ _).trans ?_))
  · pointwise
  · refine congrArg₂ C ?_ rfl
    show 4096 * (r.val / 4096) + (512 * (r.val / 512) + r.val % 512 / 512 + 1 * (r.val % 512)) % 4096 = perm 0 r.val
    have hp : perm 0 r.val = 512 * (r.val / 512) + r.val % 512 / 512 + 1 * (r.val % 512) := by
      simp only [perm, if_true, if_false, OfNat.ofNat_ne_zero, OfNat.ofNat_ne_one, one_ne_zero, Nat.reduceEqDiff]
      try omega
    rw [hp]
    exact in_seq hx

theorem sub1_apply {C : ℕ → ℕ → EReal} {o : ℕ} (T : FVec Ideal S4x4096x1536 .f32) (hT : ∀ (b : Fin 4) (n : Fin 4096) (j : Fin 1536), T (ix3 b n j) = C (4096 * b + n) (o + j))
    (r : Fin 16384) (e : Fin 512) : sub1 T (ix2 r e) = C (perm 1 r) (o + (512 + e)) := by
  have hr := r.isLt
  have hx := seq_of r.val 4 128 (place4 r.val)
  have e1 : sub1 T (ix2 r e) = (transpose S32x4x128x512 [0, 2, 1, 3] (shapeCast S32x128x4x512 (extractStridedSlice S4x4096x512 ![0, 0, 512] T slices_S4x4096x1536_S4x4096x512_0_0_512)
      shapeCasts_S4x4096x512_S32x128x4x512) transposes_S32x128x4x512_S32x4x128x512_0_2_1_3) (ix4 (⟨r / 512, by omega⟩ : Fin 32) (⟨r % 512 / 128, by omega⟩ : Fin 4) (⟨r % 128, by omega⟩ : Fin 128) e) := by
    refine shapeCast_apply _ _ _ _ ?_
    rw [Shape.rowMajor_val_two, Shape.rowMajor_val_four]
    show ((r.val / 512 * 4 + r.val % 512 / 128) * 128 + r.val % 128) * 512 + e.val = r.val * 512 + e.val
    omega
  have e2 : shapeCast S32x128x4x512 (extractStridedSlice S4x4096x512 ![0, 0, 512] T slices_S4x4096x1536_S4x4096x512_0_0_512) shapeCasts_S4x4096x512_S32x128x4x512
      (ix4 (⟨r / 512, by omega⟩ : Fin 32) (⟨r % 128, by omega⟩ : Fin 128) (⟨r % 512 / 128, by omega⟩ : Fin 4) e)
      = extractStridedSlice S4x4096x512 ![0, 0, 512] T slices_S4x4096x1536_S4x4096x512_0_0_512 (ix3 (⟨r / 4096, by omega⟩ : Fin 4) (⟨(512 * (r / 512) + r % 512 / 128 + 4 * (r % 128)) % 4096, by omega⟩ : Fin 4096) e) := by
    refine shapeCast_apply _ _ _ _ ?_
    rw [Shape.rowMajor_val_three, Shape.rowMajor_val_four]
    show (r.val / 4096 * 4096 + (512 * (r.val / 512) + r.val % 512 / 128 + 4 * (r.val % 128)) % 4096) * 512 + e.val = ((r.val / 512 * 128 + r.val % 128) * 4 + r.val % 512 / 128) * 512 + e.val
    clear e1
    generalize r.val % 512 / 128 = u at hx ⊢
    generalize r.val % 128 = v at hx ⊢
    omega
  have e3 : extractStridedSlice S4x4096x512 ![0, 0, 512] T slices_S4x4096x1536_S4x4096x512_0_0_512 (ix3 (⟨r / 4096, by omega⟩ : Fin 4) (⟨(512 * (r / 512) + r % 512 / 128 + 4 * (r % 128)) % 4096, by omega⟩ : Fin 4096) e)
      = T (ix3 (⟨r / 4096, by omega⟩ : Fin 4) (⟨(512 * (r / 512) + r % 512 / 128 + 4 * (r % 128)) % 4096, by omega⟩ : Fin 4096) (⟨512 + e, by omega⟩ : Fin 1536)) := by
    pointwise
  rw [e1]
  generalize shapeCast S32x128x4x512 (extractStridedSlice S4x4096x512 ![0, 0, 512] T slices_S4x4096x1536_S4x4096x512_0_0_512) shapeCasts_S4x4096x512_S32x128x4x512 = X at e2 ⊢
  refine Eq.trans ?_ ((e2.trans e3).trans ((hT _ _ _).trans ?_))
  · pointwise
  · refine congrArg₂ C ?_ rfl
    show 4096 * (r.val / 4096) + (512 * (r.val / 512) + r.val % 512 / 128 + 4 * (r.val % 128)) % 4096 = perm 1 r.val
    have hp : perm 1 r.val = 512 * (r.val / 512) + r.val % 512 / 128 + 4 * (r.val % 128) := by
      simp only [perm, if_true, if_false, OfNat.ofNat_ne_zero, OfNat.ofNat_ne_one, one_ne_zero, Nat.reduceEqDiff]
      try omega
    rw [hp]
    exact in_seq hx

theorem sub2_apply {C : ℕ → ℕ → EReal} {o : ℕ} (T : FVec Ideal S4x4096x1536 .f32) (hT : ∀ (b : Fin 4) (n : Fin 4096) (j : Fin 1536), T (ix3 b n j) = C (4096 * b + n) (o + j))
    (r : Fin 16384) (e : Fin 512) : sub2 T (ix2 r e) = C (perm 2 r) (o + (1024 + e)) := by
  have hr := r.isLt
  have hx := seq_of r.val 16 32 (place16 r.val)
  have e1 : sub2 T (ix2 r e) = (transpose S32x16x32x512 [0, 2, 1, 3] (shapeCast S32x32x16x512 (extractStridedSlice S4x4096x512 ![0, 0, 1024] T slices_S4x4096x1536_S4x4096x512_0_0_1024)
      shapeCasts_S4x4096x512_S32x32x16x512) transposes_S32x32x16x512_S32x16x32x512_0_2_1_3) (ix4 (⟨r / 512, by omega⟩ : Fin 32) (⟨r % 512 / 32, by omega⟩ : Fin 16) (⟨r % 32, by omega⟩ : Fin 32) e) := by
    refine shapeCast_apply _ _ _ _ ?_
    rw [Shape.rowMajor_val_two, Shape.rowMajor_val_four]
    show ((r.val / 512 * 16 + r.val % 512 / 32) * 32 + r.val % 32) * 512 + e.val = r.val * 512 + e.val
    omega
  have e2 : shapeCast S32x32x16x512 (extractStridedSlice S4x4096x512 ![0, 0, 1024] T slices_S4x4096x1536_S4x4096x512_0_0_1024) shapeCasts_S4x4096x512_S32x32x16x512
      (ix4 (⟨r / 512, by omega⟩ : Fin 32) (⟨r % 32, by omega⟩ : Fin 32) (⟨r % 512 / 32, by omega⟩ : Fin 16) e)
      = extractStridedSlice S4x4096x512 ![0, 0, 1024] T slices_S4x4096x1536_S4x4096x512_0_0_1024 (ix3 (⟨r / 4096, by omega⟩ : Fin 4) (⟨(512 * (r / 512) + r % 512 / 32 + 16 * (r % 32)) % 4096, by omega⟩ : Fin 4096) e) := by
    refine shapeCast_apply _ _ _ _ ?_
    rw [Shape.rowMajor_val_three, Shape.rowMajor_val_four]
    show (r.val / 4096 * 4096 + (512 * (r.val / 512) + r.val % 512 / 32 + 16 * (r.val % 32)) % 4096) * 512 + e.val = ((r.val / 512 * 32 + r.val % 32) * 16 + r.val % 512 / 32) * 512 + e.val
    clear e1
    generalize r.val % 512 / 32 = u at hx ⊢
    generalize r.val % 32 = v at hx ⊢
    omega
  have e3 : extractStridedSlice S4x4096x512 ![0, 0, 1024] T slices_S4x4096x1536_S4x4096x512_0_0_1024 (ix3 (⟨r / 4096, by omega⟩ : Fin 4) (⟨(512 * (r / 512) + r % 512 / 32 + 16 * (r % 32)) % 4096, by omega⟩ : Fin 4096) e)
      = T (ix3 (⟨r / 4096, by omega⟩ : Fin 4) (⟨(512 * (r / 512) + r % 512 / 32 + 16 * (r % 32)) % 4096, by omega⟩ : Fin 4096) (⟨1024 + e, by omega⟩ : Fin 1536)) := by
    pointwise
  rw [e1]
  generalize shapeCast S32x32x16x512 (extractStridedSlice S4x4096x512 ![0, 0, 1024] T slices_S4x4096x1536_S4x4096x512_0_0_1024) shapeCasts_S4x4096x512_S32x32x16x512 = X at e2 ⊢
  refine Eq.trans ?_ ((e2.trans e3).trans ((hT _ _ _).trans ?_))
  · pointwise
  · refine congrArg₂ C ?_ rfl
    show 4096 * (r.val / 4096) + (512 * (r.val / 512) + r.val % 512 / 32 + 16 * (r.val % 32)) % 4096 = perm 2 r.val
    have hp : perm 2 r.val = 512 * (r.val / 512) + r.val % 512 / 32 + 16 * (r.val % 32) := by
      simp only [perm, if_true, if_false, OfNat.ofNat_ne_zero, OfNat.ofNat_ne_one, one_ne_zero, Nat.reduceEqDiff]
      try omega
    rw [hp]
    exact in_seq hx

theorem joined_apply (u0 u1 u2 u3 u4 u5 u6 u7 u8 : FVec Ideal S16384x512 .f32) (r : Fin 16384) (j : Fin 4608) (C : EReal) (e : Fin 512) (he : e.val = j.val % 512)
    (h0 : j.val / 512 = 0 → u0 (ix2 r e) = C)
    (h1 : j.val / 512 = 1 → u1 (ix2 r e) = C)
    (h2 : j.val / 512 = 2 → u2 (ix2 r e) = C)
    (h3 : j.val / 512 = 3 → u3 (ix2 r e) = C)
    (h4 : j.val / 512 = 4 → u4 (ix2 r e) = C)
    (h5 : j.val / 512 = 5 → u5 (ix2 r e) = C)
    (h6 : j.val / 512 = 6 → u6 (ix2 r e) = C)
    (h7 : j.val / 512 = 7 → u7 (ix2 r e) = C)
    (h8 : j.val / 512 = 8 → u8 (ix2 r e) = C) :
    joined u0 u1 u2 u3 u4 u5 u6 u7 u8 (ix2 r j) = C := by
  have hj := j.isLt
  simp only [joined]
  pointwise
  split_ifs <;> first
    | (refine Eq.trans (congrArg u0 (congrArg (ix2 r) (Fin.ext ?_))) (h0 (by omega)); dsimp only; omega)
    | (refine Eq.trans (congrArg u1 (congrArg (ix2 r) (Fin.ext ?_))) (h1 (by omega)); dsimp only; omega)
    | (refine Eq.trans (congrArg u2 (congrArg (ix2 r) (Fin.ext ?_))) (h2 (by omega)); dsimp only; omega)
    | (refine Eq.trans (congrArg u3 (congrArg (ix2 r) (Fin.ext ?_))) (h3 (by omega)); dsimp only; omega)
    | (refine Eq.trans (congrArg u4 (congrArg (ix2 r) (Fin.ext ?_))) (h4 (by omega)); dsimp only; omega)
    | (refine Eq.trans (congrArg u5 (congrArg (ix2 r) (Fin.ext ?_))) (h5 (by omega)); dsimp only; omega)
    | (refine Eq.trans (congrArg u6 (congrArg (ix2 r) (Fin.ext ?_))) (h6 (by omega)); dsimp only; omega)
    | (refine Eq.trans (congrArg u7 (congrArg (ix2 r) (Fin.ext ?_))) (h7 (by omega)); dsimp only; omega)
    | (refine Eq.trans (congrArg u8 (congrArg (ix2 r) (Fin.ext ?_))) (h8 (by omega)); dsimp only; omega)

/-- What the reference leaves. -/
def resultOf (a0 : Vec Ideal S4x4096x1024 .f32) (a1 : Vec Ideal S4x6x1024 .f32) (a2 : Vec Ideal S1x1024x12800 .f32) : Vec Ideal S16384x4608 .bf16 :=
  fun y => attAt (actsOf a0) (modsOf a1) (wtsOf a2) (y 0).val (y 1).val

theorem perm_seq (g r : ℕ) : perm g r / 4096 = r / 4096 := by
  unfold perm
  split_ifs
  · rfl
  · exact seq_of r 4 128 (place4 r)
  · exact seq_of r 16 32 (place16 r)

theorem att_eq (a0 : Vec Ideal S4x4096x1024 .f32) (a1 : Vec Ideal S4x6x1024 .f32) (a2 : Vec Ideal S1x1024x12800 .f32) : joinOf (projOf a0 a1 a2) = resultOf a0 a1 a2 := by
  refine funext fun y => ?_
  obtain ⟨r, j, rfl⟩ : ∃ (r : Fin 16384) (j : Fin 4608), y = ix2 r j := ⟨y 0, y 1, eq_ix2 y⟩
  have hj := j.isLt
  have hres : resultOf a0 a1 a2 (ix2 r j) = cell a0 a1 a2 (perm (j.val / 1536) r.val) (colOf (j.val / 1536) (j.val % 1536)) := by
    show attAt _ _ _ r.val j.val = _
    unfold attAt cell; rw [perm_seq]
  have hq : ∀ (b : Fin 4) (n : Fin 4096) (i : Fin 1536), aqT (projOf a0 a1 a2) (ix3 b n i) = cell a0 a1 a2 (4096 * b + n) (0 + i) := fun b n i => (aqT_apply _ b n i).trans (projOf_apply a0 a1 a2 b n _)
  have hk : ∀ (b : Fin 4) (n : Fin 4096) (i : Fin 1536), akT (projOf a0 a1 a2) (ix3 b n i) = cell a0 a1 a2 (4096 * b + n) (1536 + i) := fun b n i => (akT_apply _ b n i).trans (projOf_apply a0 a1 a2 b n _)
  have hv : ∀ (b : Fin 4) (n : Fin 4096) (i : Fin 1536), avT (projOf a0 a1 a2) (ix3 b n i) = cell a0 a1 a2 (4096 * b + n) (3072 + i) := fun b n i => (avT_apply _ b n i).trans (projOf_apply a0 a1 a2 b n _)
  rw [hres]
  refine joined_apply _ _ _ _ _ _ _ _ _ r j _ ⟨j.val % 512, by omega⟩ rfl (fun h => (sub0_apply _ hq r _).trans ?_) (fun h => (sub0_apply _ hk r _).trans ?_) (fun h => (sub0_apply _ hv r _).trans ?_) (fun h => (sub1_apply _ hq r _).trans ?_) (fun h => (sub1_apply _ hk r _).trans ?_) (fun h => (sub1_apply _ hv r _).trans ?_) (fun h => (sub2_apply _ hq r _).trans ?_) (fun h => (sub2_apply _ hk r _).trans ?_) (fun h => (sub2_apply _ hv r _).trans ?_)
  all_goals
    unfold colOf
  · rw [show j.val / 1536 = 0 by omega]; exact congrArg _ (by show 0 + (0 + j.val % 512) = _; omega)
  · rw [show j.val / 1536 = 0 by omega]; exact congrArg _ (by show 1536 + (0 + j.val % 512) = _; omega)
  · rw [show j.val / 1536 = 0 by omega]; exact congrArg _ (by show 3072 + (0 + j.val % 512) = _; omega)
  · rw [show j.val / 1536 = 1 by omega]; exact congrArg _ (by show 0 + (512 + j.val % 512) = _; omega)
  · rw [show j.val / 1536 = 1 by omega]; exact congrArg _ (by show 1536 + (512 + j.val % 512) = _; omega)
  · rw [show j.val / 1536 = 1 by omega]; exact congrArg _ (by show 3072 + (512 + j.val % 512) = _; omega)
  · rw [show j.val / 1536 = 2 by omega]; exact congrArg _ (by show 0 + (1024 + j.val % 512) = _; omega)
  · rw [show j.val / 1536 = 2 by omega]; exact congrArg _ (by show 1536 + (1024 + j.val % 512) = _; omega)
  · rw [show j.val / 1536 = 2 by omega]; exact congrArg _ (by show 3072 + (1024 + j.val % 512) = _; omega)

end Cert.Reference3Ideal.Att

end
-- ==== Proof.AttRefRun.lean ====
module

public import proofs.«01_k».proof.Proof.AttRef
public import proofs.«01_k».proof.Proof.Gen.Reference3Ideal.Run

@[expose] public section

set_option maxRecDepth 16384

noncomputable section

/-! The whole run of the reference of the queries, keys and values. -/
namespace Cert.Reference3Ideal.Att

open Idealize.ShloMosaic Idealize.ShloMosaic.TcCoe Idealize.ShloMosaic.Tactic
open Idealize.SL Idealize.SL.Sem
open Cert.Reference3Ideal Cert.Reference3Ideal.Gen

theorem res_eq {F : FTy → Type} [FloatOps F] (m : (ℓ : Loc nD τ sig) → Buf (Elt F) ℓ) (c : Dev nD) :
    (Value.res_out0 m c : Vec F S16384x4608 .bf16) = joinOf (projOf (m ((c.tc : Thread nD τ).loc main_arg0)) (m ((c.tc : Thread nD τ).loc main_arg1)) (m ((c.tc : Thread nD τ).loc main_arg2))) := by
  unfold Value.res_out0 Value.res_main_v72
  rfl

theorem ref_args (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = resultOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (res_eq m c)).trans (att_eq _ _ _), (h c).2⟩) (Value.run (F := Ideal) m ρ)

end Cert.Reference3Ideal.Att

end
-- ==== Proof.lean ====
module

public import proofs.«01_k».proof.Proof.KVal
public import proofs.«01_k».proof.Proof.RefVal
public import proofs.«01_k».proof.Proof.Finite
public import proofs.«01_k».proof.Proof.Proj
public import proofs.«01_k».proof.Proof.ProjRef
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame
public import proofs.«01_k».proof.Proof.WordFrame
public import proofs.«01_k».proof.Proof.AttFrame
public import proofs.«01_k».proof.Proof.AttRef
public import proofs.«01_k».proof.Proof.AttRefRun
public import proofs.«01_k».proof.Proof.AttVal
public import proofs.«01_k».proof.Proof.Gen.Reference3Ideal
public import proofs.«01_k».proof.Proof.Gen.Reference3Ideal.Run
public import proofs.«01_k».proof.Proof.WordAttFrame
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Ret.frame_args (F := Bits) m ρ

theorem frame_kernelIdeal : Cert.quiescent_KernelIdeal := fun m ρ _ => Cert.KernelIdeal.Ret.frame_args (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal_pre [hPre_finite_activations : Cert.Pre_finite_activations.Facts] : Cert.quiescent_KernelIdeal_pre_finite_activations :=
  fun m ρ _ => Cert.KernelIdeal.Ret.frame_args (F := Ideal) m ρ

theorem frame_reference_pre [hPre_finite_activations : Cert.Pre_finite_activations.Facts] : Cert.quiescent_ReferenceIdeal_pre_finite_activations :=
  fun m ρ _ => frame_reference m ρ trivial

/-- The kernel and the reference end with the same result: each is the retention of its own arguments, and those agree. -/
theorem same_result [hPre_finite_activations : Cert.Pre_finite_activations.Facts] : Cert.algebraic_KernelIdeal_ReferenceIdeal_pre_finite_activations :=
  fun m ρ m' ρ' hpre hargs =>
    have hk : ∀ (c : Dev Cert.KernelIdeal.nD) (r k : ℕ), k < 4096 → Cert.KernelIdeal.Ret.acts m c r k = (((Cert.KernelIdeal.Ret.acts m c r k).toReal : ℝ) : EReal) :=
      fun c r k h => Cert.Retention.table_real _ _ _ _ (hpre c) r k h
    have e0 : ∀ c, Cert.ReferenceIdeal.Trips.table (Cert.ReferenceIdeal.Trips.arg0 m' c) = Cert.KernelIdeal.Ret.acts m c :=
      fun c => congrArg Cert.ReferenceIdeal.Trips.table (hargs c).1
    have hr : ∀ c, Cert.ReferenceIdeal.Trips.result m' c = Cert.KernelIdeal.Ret.result m c := fun c => by
      unfold Cert.ReferenceIdeal.Trips.result
      rw [e0 c, show Cert.ReferenceIdeal.Trips.arg1 m' c = _ from (hargs c).2.1, show Cert.ReferenceIdeal.Trips.arg2 m' c = _ from (hargs c).2.2.1,
        show Cert.ReferenceIdeal.Trips.arg3 m' c = _ from (hargs c).2.2.2]
      rfl
    ⟨fun c => Cert.KernelIdeal.Ret.result m c, Cert.KernelIdeal.Ret.val_args m ρ hk,
      (θ_run Cert.ReferenceIdeal.defs _ _).mono (fun _ h c => ⟨(h c).1.trans (hr c), (h c).2⟩)
        (Cert.ReferenceIdeal.Trips.ref_args m' ρ' (fun c => by rw [e0 c]; exact hk c))⟩

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference of the projection end with the same table of products. -/
theorem same_projection : Cert.algebraic_Kernel2Ideal_Reference2Ideal :=
  fun m ρ m' ρ' _ hargs =>
    have hr : ∀ c : Dev Cert.Kernel2Ideal.nD, Cert.Reference2Ideal.Prj.resultOf (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1)) = Cert.Kernel2Ideal.Prj.result m c := fun c => by
      rw [(hargs c).1, (hargs c).2]; rfl
    ⟨fun c => Cert.Kernel2Ideal.Prj.result m c, Cert.Kernel2Ideal.Prj.run_args m ρ,
      (θ_run Cert.Reference2Ideal.defs _ _).mono (fun _ h c => ⟨(h c).1.trans (hr c), (h c).2⟩) (Cert.Reference2Ideal.Prj.ref_args m' ρ')⟩

theorem frame_kernel3 : Cert.quiescent_Kernel3 := fun m ρ _ => Cert.Kernel3.Att.frame_args (F := Bits) m ρ

theorem frame_kernel3Ideal : Cert.quiescent_Kernel3Ideal := fun m ρ _ => Cert.Kernel3Ideal.Att.frame_args (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same queries, keys and values. -/
theorem same_attn : Cert.algebraic_Kernel3Ideal_Reference3Ideal :=
  fun m ρ m' ρ' _ hargs =>
    have hr : ∀ c : Dev Cert.Kernel3Ideal.nD, Cert.Reference3Ideal.Att.resultOf (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = Cert.Kernel3Ideal.Att.result m c := fun c => by
      rw [(hargs c).1, (hargs c).2.1, (hargs c).2.2]; rfl
    ⟨fun c => Cert.Kernel3Ideal.Att.result m c, Cert.Kernel3Ideal.Att.val_args m ρ,
      (θ_run Cert.Reference3Ideal.defs _ _).mono (fun _ h c => ⟨(h c).1.trans (hr c), (h c).2⟩) (Cert.Reference3Ideal.Att.ref_args m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Retention.pre_facts,
  frame_kernel, frame_kernelIdeal, frame_kernelIdeal_pre (hPre_finite_activations := Cert.Retention.pre_facts), frame_reference,
  frame_reference_pre (hPre_finite_activations := Cert.Retention.pre_facts), frame_kernel2, frame_kernel2Ideal, frame_reference2, frame_kernel3, frame_kernel3Ideal, frame_reference3,
  trivial, same_result (hPre_finite_activations := Cert.Retention.pre_facts), trivial, same_projection, trivial, same_attn⟩

end Cert.Proof

end
